-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S64x16384x128 : Shape := ⟨3, ![64, 16384, 128]⟩
abbrev S32x16384x128 : Shape := ⟨3, ![32, 16384, 128]⟩
abbrev S16x257 : Shape := ⟨2, ![16, 257]⟩
abbrev S128 : Shape := ⟨1, ![128]⟩
abbrev S256 : Shape := ⟨1, ![256]⟩
abbrev S_ : Shape := ⟨0, ![]⟩

class Facts : Prop where
  bitsLt_bf16_f32 : FTy.bits .bf16 < FTy.bits .f32
  bcast_S_S64x16384x128 : S_.BroadcastsInDim S64x16384x128 (![] : Fin 0 → Fin S64x16384x128.rank)
  reducesTo_S64x16384x128_S_d0_1_2 : S64x16384x128.ReducesTo [0, 1, 2] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S64x16384x128 .bf16) (main_arg1 : FVec F S32x16384x128 .bf16) (main_arg2 : FVec F S32x16384x128 .bf16) (main_arg3 : FVec F S16x257 .f32) (main_arg4 : FVec F S128 .f32) (main_arg5 : FVec F S128 .f32) (main_arg6 : FVec F S128 .f32) (main_arg7 : FVec F S128 .f32) (main_arg8 : FVec F S256 .f32) : IVec S_ 1 :=
  let main_v0 : FVec F S64x16384x128 .f32 := (extf .f32 · bitsLt_bf16_f32) main_arg0
  let main_v1 : FVec F S64x16384x128 .f32 := Host.absf main_v0
  let main_cst : FVec F S_ .f32 := constant S_ .f32 0x7F800000#32
  let main_v2 : FVec F S64x16384x128 .f32 := broadcastInDim S64x16384x128 ![] bcast_S_S64x16384x128 main_cst
  let main_v3 : IVec S64x16384x128 1 := cmpf .olt main_v1 main_v2
  let main_c : IVec S_ 1 := constantI S_ 1 1#1
  let main_v4 : IVec S_ 1 := (fun x v => Host.reduce IntOp.andi x v reducesTo_S64x16384x128_S_d0_1_2 h_S_) main_v3 main_c
  let main_v5 : FVec F S16x257 .f32 := Host.absf main_arg3
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  let main_c_1 : IVec S_ 1 := constantI S_ 1 1#1
  let main_v8 : IVec S_ 1 := (fun x v => Host.reduce IntOp.andi x v reducesTo_S16x257_S_d0_1 h_S_) main_v7 main_c_1
  let main_v9 : IVec S_ 1 := andi main_v4 main_v8
  main_v9
-- ==== Kernel.lean ====
abbrev S64x16384x128 : Shape := ⟨3, ![64, 16384, 128]⟩
abbrev S32x16384x128 : Shape := ⟨3, ![32, 16384, 128]⟩
abbrev S16x257 : Shape := ⟨2, ![16, 257]⟩
abbrev S128 : Shape := ⟨1, ![128]⟩
abbrev S256 : Shape := ⟨1, ![256]⟩
abbrev S_ : Shape := ⟨0, ![]⟩
abbrev S1 : Shape := ⟨1, ![1]⟩
abbrev S16x1 : Shape := ⟨2, ![16, 1]⟩
abbrev S16x447 : Shape := ⟨2, ![16, 447]⟩
abbrev S16x192 : Shape := ⟨2, ![16, 192]⟩
abbrev S16x640 : Shape := ⟨2, ![16, 640]⟩
abbrev S1x16x1x640 : Shape := ⟨4, ![1, 16, 1, 640]⟩
abbrev S1x16x64x640 : Shape := ⟨4, ![1, 16, 64, 640]⟩
abbrev S16x40960 : Shape := ⟨2, ![16, 40960]⟩
abbrev S16x40896 : Shape := ⟨2, ![16, 40896]⟩
abbrev S16x64x639 : Shape := ⟨3, ![16, 64, 639]⟩
abbrev S16x64x576 : Shape := ⟨3, ![16, 64, 576]⟩
abbrev S16x64x64 : Shape := ⟨3, ![16, 64, 64]⟩
abbrev S16x64x640 : Shape := ⟨3, ![16, 64, 640]⟩
abbrev S16x128x640 : Shape := ⟨3, ![16, 128, 640]⟩
abbrev S1x256 : Shape := ⟨2, ![1, 256]⟩
abbrev S16x16384x128 : Shape := ⟨3, ![16, 16384, 128]⟩
abbrev S8x16384x256 : Shape := ⟨3, ![8, 16384, 256]⟩
abbrev S2x2048x128 : Shape := ⟨3, ![2, 2048, 128]⟩
abbrev S2x128x640 : Shape := ⟨3, ![2, 128, 640]⟩
abbrev S1x2048x256 : Shape := ⟨3, ![1, 2048, 256]⟩
abbrev S2x2048x256 : Shape := ⟨3, ![2, 2048, 256]⟩
abbrev S1x2048x128 : Shape := ⟨3, ![1, 2048, 128]⟩
abbrev S2048x128 : Shape := ⟨2, ![2048, 128]⟩
abbrev S2048x256 : Shape := ⟨2, ![2048, 256]⟩
abbrev S256x128 : Shape := ⟨2, ![256, 128]⟩
abbrev S1x256x128 : Shape := ⟨3, ![1, 256, 128]⟩
abbrev S256x256 : Shape := ⟨2, ![256, 256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S512x256 : Shape := ⟨2, ![512, 256]⟩
abbrev S1x1024x128 : Shape := ⟨3, ![1, 1024, 128]⟩
abbrev S1024x128 : Shape := ⟨2, ![1024, 128]⟩
abbrev S256x1024 : Shape := ⟨2, ![256, 1024]⟩
abbrev S768x256 : Shape := ⟨2, ![768, 256]⟩
abbrev S1x1280x128 : Shape := ⟨3, ![1, 1280, 128]⟩
abbrev S1280x128 : Shape := ⟨2, ![1280, 128]⟩
abbrev S256x1280 : Shape := ⟨2, ![256, 1280]⟩
abbrev S1024x256 : Shape := ⟨2, ![1024, 256]⟩
abbrev S1x1536x128 : Shape := ⟨3, ![1, 1536, 128]⟩
abbrev S1536x128 : Shape := ⟨2, ![1536, 128]⟩
abbrev S256x1536 : Shape := ⟨2, ![256, 1536]⟩
abbrev S1280x256 : Shape := ⟨2, ![1280, 256]⟩
abbrev S1x1792x128 : Shape := ⟨3, ![1, 1792, 128]⟩
abbrev S1792x128 : Shape := ⟨2, ![1792, 128]⟩
abbrev S256x1792 : Shape := ⟨2, ![256, 1792]⟩
abbrev S1536x256 : Shape := ⟨2, ![1536, 256]⟩
abbrev S1792x256 : Shape := ⟨2, ![1792, 256]⟩
abbrev S128x128 : Shape := ⟨2, ![128, 128]⟩
abbrev S1x128x640 : Shape := ⟨3, ![1, 128, 640]⟩
abbrev S128x640 : Shape := ⟨2, ![128, 640]⟩
abbrev S128x256 : Shape := ⟨2, ![128, 256]⟩
abbrev S128x1 : Shape := ⟨2, ![128, 1]⟩
abbrev S1x128x128 : Shape := ⟨3, ![1, 128, 128]⟩
abbrev S384x128 : Shape := ⟨2, ![384, 128]⟩
abbrev S128x384 : Shape := ⟨2, ![128, 384]⟩
abbrev S128x512 : Shape := ⟨2, ![128, 512]⟩
abbrev S384x256 : Shape := ⟨2, ![384, 256]⟩
abbrev S640x128 : Shape := ⟨2, ![640, 128]⟩
abbrev S640x256 : Shape := ⟨2, ![640, 256]⟩

abbrev nBuf : Space → Nat
  | .hbm => 42
  | .vmem => 24
  | .smem => 1
  | _ => 0

abbrev bufTy : (tb : Table) → Fin (tcTables nBuf tb) → BufTy
  | .hbm, ⟨0, _⟩ => ⟨S64x16384x128, .bf16⟩
  | .hbm, ⟨1, _⟩ => ⟨S32x16384x128, .bf16⟩
  | .hbm, ⟨2, _⟩ => ⟨S32x16384x128, .bf16⟩
  | .hbm, ⟨3, _⟩ => ⟨S16x257, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256, .f32⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S16x1, .f32⟩
  | .hbm, ⟨22, _⟩ => ⟨S16x447, .f32⟩
  | .hbm, ⟨23, _⟩ => ⟨S16x192, .f32⟩
  | .hbm, ⟨24, _⟩ => ⟨S16x192, .f32⟩
  | .hbm, ⟨25, _⟩ => ⟨S_, .f32⟩
  | .hbm, ⟨26, _⟩ => ⟨S16x1, .f32⟩
  | .hbm, ⟨27, _⟩ => ⟨S16x640, .f32⟩
  | .hbm, ⟨28, _⟩ => ⟨S1x16x1x640, .f32⟩
  | .hbm, ⟨29, _⟩ => ⟨S1x16x64x640, .f32⟩
  | .hbm, ⟨30, _⟩ => ⟨S16x40960, .f32⟩
  | .hbm, ⟨31, _⟩ => ⟨S16x40896, .f32⟩
  | .hbm, ⟨32, _⟩ => ⟨S16x64x639, .f32⟩
  | .hbm, ⟨33, _⟩ => ⟨S16x64x576, .f32⟩
  | .hbm, ⟨34, _⟩ => ⟨S_, .f32⟩
  | .hbm, ⟨35, _⟩ => ⟨S16x64x64, .f32⟩
  | .hbm, ⟨36, _⟩ => ⟨S16x64x640, .f32⟩
  | .hbm, ⟨37, _⟩ => ⟨S16x64x640, .f32⟩
  | .hbm, ⟨38, _⟩ => ⟨S16x128x640, .f32⟩
  | .hbm, ⟨39, _⟩ => ⟨S1x256, .f32⟩
  | .hbm, ⟨40, _⟩ => ⟨S16x16384x128, .bf16⟩
  | .hbm, ⟨41, _⟩ => ⟨S8x16384x256, .bf16⟩
  | .local _ .vmem, ⟨0, _⟩ => ⟨S2x2048x128, .bf16⟩
  | .local _ .vmem, ⟨1, _⟩ => ⟨S2x2048x128, .bf16⟩
  | .local _ .vmem, ⟨2, _⟩ => ⟨S2x2048x128, .bf16⟩
  | .local _ .vmem, ⟨3, _⟩ => ⟨S2x2048x128, .bf16⟩
  | .local _ .vmem, ⟨4, _⟩ => ⟨S2x2048x128, .bf16⟩
  | .local _ .vmem, ⟨5, _⟩ => ⟨S2x2048x128, .bf16⟩
  | .local _ .vmem, ⟨6, _⟩ => ⟨S2x128x640, .f32⟩
  | .local _ .vmem, ⟨7, _⟩ => ⟨S2x128x640, .f32⟩
  | .local _ .vmem, ⟨8, _⟩ => ⟨S2x2048x128, .bf16⟩
  | .local _ .vmem, ⟨9, _⟩ => ⟨S2x2048x128, .bf16⟩
  | .local _ .vmem, ⟨10, _⟩ => ⟨S2x2048x128, .bf16⟩
  | .local _ .vmem, ⟨11, _⟩ => ⟨S2x2048x128, .bf16⟩
  | .local _ .vmem, ⟨12, _⟩ => ⟨S2x2048x128, .bf16⟩
  | .local _ .vmem, ⟨13, _⟩ => ⟨S2x2048x128, .bf16⟩
  | .local _ .vmem, ⟨14, _⟩ => ⟨S2x2048x128, .bf16⟩
  | .local _ .vmem, ⟨15, _⟩ => ⟨S2x2048x128, .bf16⟩
  | .local _ .vmem, ⟨16, _⟩ => ⟨S1x256, .f32⟩
  | .local _ .vmem, ⟨17, _⟩ => ⟨S2x2048x128, .bf16⟩
  | .local _ .vmem, ⟨18, _⟩ => ⟨S2x2048x128, .bf16⟩
  | .local _ .vmem, ⟨19, _⟩ => ⟨S2x2048x128, .bf16⟩
  | .local _ .vmem, ⟨20, _⟩ => ⟨S2x2048x128, .bf16⟩
  | .local _ .vmem, ⟨21, _⟩ => ⟨S1x2048x256, .bf16⟩
  | .local _ .vmem, ⟨22, _⟩ => ⟨S1x2048x256, .bf16⟩
  | .local _ .vmem, ⟨23, _⟩ => ⟨S2x2048x256, .bf16⟩
  | .local _ .smem, ⟨0, _⟩ => ⟨S1, .f32⟩
  | _, _ => ⟨S64x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![v0.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S64x16384x128 : Shape := ⟨3, ![64, 16384, 128]⟩
abbrev S32x16384x128 : Shape := ⟨3, ![32, 16384, 128]⟩
abbrev S16x257 : Shape := ⟨2, ![16, 257]⟩
abbrev S128 : Shape := ⟨1, ![128]⟩
abbrev S256 : Shape := ⟨1, ![256]⟩
abbrev S4x16x8x2048x128 : Shape := ⟨5, ![4, 16, 8, 2048, 128]⟩
abbrev S1x16x8x2048x128 : Shape := ⟨5, ![1, 16, 8, 2048, 128]⟩
abbrev S16x8x2048x128 : Shape := ⟨4, ![16, 8, 2048, 128]⟩
abbrev S2x16x8x2048x128 : Shape := ⟨5, ![2, 16, 8, 2048, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x2048x2048 : Shape := ⟨4, ![16, 8, 2048, 2048]⟩
abbrev S2048x2048x1 : Shape := ⟨3, ![2048, 2048, 1]⟩
abbrev S16x2048x2048 : Shape := ⟨3, ![16, 2048, 2048]⟩
abbrev S16x1x2048x2048 : Shape := ⟨4, ![16, 1, 2048, 2048]⟩
abbrev S16x8x2048 : Shape := ⟨3, ![16, 8, 2048]⟩
abbrev S16x8x2048x1 : Shape := ⟨4, ![16, 8, 2048, 1]⟩
abbrev S8x2x8x2048x128 : Shape := ⟨5, ![8, 2, 8, 2048, 128]⟩
abbrev S2x8x8x2048x128 : Shape := ⟨5, ![2, 8, 8, 2048, 128]⟩
abbrev S1x8x8x2048x128 : Shape := ⟨5, ![1, 8, 8, 2048, 128]⟩
abbrev S8x8x2048x128 : Shape := ⟨4, ![8, 8, 2048, 128]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩
abbrev S8x8x2048x2x128 : Shape := ⟨5, ![8, 8, 2048, 2, 128]⟩
abbrev S8x8x2048x256 : Shape := ⟨4, ![8, 8, 2048, 256]⟩
abbrev S1x1x1x256 : Shape := ⟨4, ![1, 1, 1, 256]⟩
abbrev S16x16384x128 : Shape := ⟨3, ![16, 16384, 128]⟩
abbrev S8x16384x256 : Shape := ⟨3, ![8, 16384, 256]⟩

abbrev nBuf : Space → Nat
  | .hbm => 238
  | .vmem => 0
  | .smem => 0
  | _ => 0

abbrev hbmTy0_0 (i : Nat) : BufTy := match i % 128 with
  | 0 => ⟨S64x16384x128, .bf16⟩
  | 1 => ⟨S32x16384x128, .bf16⟩
  | 2 => ⟨S32x16384x128, .bf16⟩
  | 3 => ⟨S16x257, .f32⟩
  | 4 => ⟨S128, .f32⟩
  | 5 => ⟨S128, .f32⟩
  | 6 => ⟨S128, .f32⟩
  | 7 => ⟨S128, .f32⟩
  | 8 => ⟨S256, .f32⟩
  | 9 => ⟨S64x16384x128, .f32⟩
  | 10 => ⟨S4x16x8x2048x128, .f32⟩
  | 11 => ⟨S1x16x8x2048x128, .f32⟩
  | 12 => ⟨S16x8x2048x128, .f32⟩
  | 13 => ⟨S1x16x8x2048x128, .f32⟩
  | 14 => ⟨S16x8x2048x128, .f32⟩
  | 15 => ⟨S1x16x8x2048x128, .f32⟩
  | 16 => ⟨S16x8x2048x128, .f32⟩
  | 17 => ⟨S1x16x8x2048x128, .f32⟩
  | 18 => ⟨S16x8x2048x128, .f32⟩
  | 19 => ⟨S32x16384x128, .f32⟩
  | 20 => ⟨S2x16x8x2048x128, .f32⟩
  | 21 => ⟨S1x16x8x2048x128, .f32⟩
  | 22 => ⟨S16x8x2048x128, .f32⟩
  | 23 => ⟨S1x16x8x2048x128, .f32⟩
  | 24 => ⟨S16x8x2048x128, .f32⟩
  | 25 => ⟨S32x16384x128, .f32⟩
  | 26 => ⟨S2x16x8x2048x128, .f32⟩
  | 27 => ⟨S1x16x8x2048x128, .f32⟩
  | 28 => ⟨S16x8x2048x128, .f32⟩
  | 29 => ⟨S1x16x8x2048x128, .f32⟩
  | 30 => ⟨S16x8x2048x128, .f32⟩
  | 31 => ⟨S_, .f32⟩
  | 32 => ⟨S_, .f32⟩
  | 33 => ⟨S2048, .i32⟩
  | 34 => ⟨S_, .i32⟩
  | 35 => ⟨S_, .i32⟩
  | 36 => ⟨S2048, .i32⟩
  | 37 => ⟨S2048, .i32⟩
  | 38 => ⟨S2048, .i32⟩
  | 39 => ⟨S_, .i32⟩
  | 40 => ⟨S2048, .i32⟩
  | 41 => ⟨S2048, .i1⟩
  | 42 => ⟨S2048, .i32⟩
  | 43 => ⟨S2048, .i32⟩
  | 44 => ⟨S_, .i32⟩
  | 45 => ⟨S2048, .i32⟩
  | 46 => ⟨S2048, .i1⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S_, .i32⟩
  | 54 => ⟨S_, .i32⟩
  | 55 => ⟨S2048, .i32⟩
  | 56 => ⟨S2048, .i32⟩
  | 57 => ⟨S2048, .i32⟩
  | 58 => ⟨S_, .i32⟩
  | 59 => ⟨S2048, .i32⟩
  | 60 => ⟨S2048, .i1⟩
  | 61 => ⟨S2048, .i32⟩
  | 62 => ⟨S2048, .i32⟩
  | 63 => ⟨S_, .i32⟩
  | 64 => ⟨S2048, .i32⟩
  | 65 => ⟨S2048, .i1⟩
  | 66 => ⟨S2048, .i1⟩
  | 67 => ⟨S_, .i32⟩
  | 68 => ⟨S2048, .i32⟩
  | 69 => ⟨S2048, .i32⟩
  | 70 => ⟨S2048, .i32⟩
  | 71 => ⟨S1x2048, .i32⟩
  | 72 => ⟨S2048x1, .i32⟩
  | 73 => ⟨S1x2048, .i32⟩
  | 74 => ⟨S2048x2048, .i32⟩
  | 75 => ⟨S2048x2048, .i32⟩
  | 76 => ⟨S2048x2048, .i32⟩
  | 77 => ⟨S_, .i32⟩
  | 78 => ⟨S_, .i32⟩
  | 79 => ⟨S_, .i32⟩
  | 80 => ⟨S2048x2048, .i32⟩
  | 81 => ⟨S2048x2048, .i32⟩
  | 82 => ⟨S_, .i32⟩
  | 83 => ⟨S2048x2048, .i32⟩
  | 84 => ⟨S2048x2048, .i32⟩
  | 85 => ⟨S_, .i32⟩
  | 86 => ⟨S2048x2048, .i32⟩
  | 87 => ⟨S2048x2048, .i32⟩
  | 88 => ⟨S16x8x2048x2048, .f32⟩
  | 89 => ⟨S16x8x2048x2048, .f32⟩
  | 90 => ⟨S16x8x2048x2048, .f32⟩
  | 91 => ⟨S_, .i32⟩
  | 92 => ⟨S2048x2048, .i32⟩
  | 93 => ⟨S2048x2048, .i1⟩
  | 94 => ⟨S_, .i32⟩
  | 95 => ⟨S2048x2048, .i32⟩
  | 96 => ⟨S2048x2048, .i32⟩
  | 97 => ⟨S2048x2048, .i32⟩
  | 98 => ⟨S2048x2048x1, .i32⟩
  | 99 => ⟨S16x2048x2048, .f32⟩
  | 100 => ⟨S16x1x2048x2048, .f32⟩
  | 101 => ⟨S16x8x2048x2048, .f32⟩
  | 102 => ⟨S16x8x2048x2048, .f32⟩
  | 103 => ⟨S2048x2048, .i32⟩
  | 104 => ⟨S2048x2048, .i32⟩
  | 105 => ⟨S2048x2048, .i1⟩
  | 106 => ⟨S_, .i32⟩
  | 107 => ⟨S2048x1, .i32⟩
  | 108 => ⟨S2048x1, .i32⟩
  | 109 => ⟨S2048x2048, .i32⟩
  | 110 => ⟨S2048x2048, .i32⟩
  | 111 => ⟨S2048x2048, .i1⟩
  | 112 => ⟨S2048x2048, .i1⟩
  | 113 => ⟨S_, .f32⟩
  | 114 => ⟨S_, .f32⟩
  | 115 => ⟨S16x8x2048x2048, .i1⟩
  | 116 => ⟨S16x8x2048x2048, .f32⟩
  | 117 => ⟨S16x8x2048x2048, .f32⟩
  | 118 => ⟨S_, .f32⟩
  | 119 => ⟨S16x8x2048, .f32⟩
  | 120 => ⟨S_, .f32⟩
  | 121 => ⟨S16x8x2048, .f32⟩
  | 122 => ⟨S16x8x2048, .f32⟩
  | 123 => ⟨S16x8x2048x1, .f32⟩
  | 124 => ⟨S16x8x2048x2048, .f32⟩
  | 125 => ⟨S16x8x2048x2048, .f32⟩
  | 126 => ⟨S16x8x2048x2048, .f32⟩
  | 127 => ⟨S_, .f32⟩
  | _ => ⟨S64x16384x128, .bf16⟩

abbrev hbmTy0_1 (i : Nat) : BufTy := match i % 128 with
  | 0 => ⟨S16x8x2048, .f32⟩
  | 1 => ⟨S16x8x2048x1, .f32⟩
  | 2 => ⟨S16x8x2048x2048, .f32⟩
  | 3 => ⟨S16x8x2048x2048, .f32⟩
  | 4 => ⟨S16x8x2048x128, .f32⟩
  | 5 => ⟨S16x8x2048x128, .f32⟩
  | 6 => ⟨S128, .f32⟩
  | 7 => ⟨S_, .f32⟩
  | 8 => ⟨S_, .f32⟩
  | 9 => ⟨S_, .f32⟩
  | 10 => ⟨S128, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S8x2x8x2048x128, .f32⟩
  | 18 => ⟨S2x8x8x2048x128, .f32⟩
  | 19 => ⟨S1x8x8x2048x128, .f32⟩
  | 20 => ⟨S8x8x2048x128, .f32⟩
  | 21 => ⟨S1x8x8x2048x128, .f32⟩
  | 22 => ⟨S8x8x2048x128, .f32⟩
  | 23 => ⟨S8x2x8x2048x128, .f32⟩
  | 24 => ⟨S2x8x8x2048x128, .f32⟩
  | 25 => ⟨S1x8x8x2048x128, .f32⟩
  | 26 => ⟨S8x8x2048x128, .f32⟩
  | 27 => ⟨S1x8x8x2048x128, .f32⟩
  | 28 => ⟨S8x8x2048x128, .f32⟩
  | 29 => ⟨S2048x2048, .i32⟩
  | 30 => ⟨S2048x2048, .i32⟩
  | 31 => ⟨S2048x2048, .i1⟩
  | 32 => ⟨S8x8x2048x2048, .f32⟩
  | 33 => ⟨S8x8x2048x2048, .f32⟩
  | 34 => ⟨S8x8x2048x2048, .f32⟩
  | 35 => ⟨S8x8x2048x2048, .f32⟩
  | 36 => ⟨S8x8x2048x2048, .f32⟩
  | 37 => ⟨S8x8x2048x2048, .f32⟩
  | 38 => ⟨S_, .f32⟩
  | 39 => ⟨S_, .f32⟩
  | 40 => ⟨S8x8x2048x2048, .i1⟩
  | 41 => ⟨S8x8x2048x2048, .f32⟩
  | 42 => ⟨S8x8x2048x2048, .f32⟩
  | 43 => ⟨S_, .f32⟩
  | 44 => ⟨S8x8x2048, .f32⟩
  | 45 => ⟨S_, .f32⟩
  | 46 => ⟨S8x8x2048, .f32⟩
  | 47 => ⟨S8x8x2048, .f32⟩
  | 48 => ⟨S8x8x2048x1, .f32⟩
  | 49 => ⟨S8x8x2048x2048, .f32⟩
  | 50 => ⟨S8x8x2048x2048, .f32⟩
  | 51 => ⟨S8x8x2048x2048, .f32⟩
  | 52 => ⟨S_, .f32⟩
  | 53 => ⟨S8x8x2048, .f32⟩
  | 54 => ⟨S8x8x2048x1, .f32⟩
  | 55 => ⟨S8x8x2048x2048, .f32⟩
  | 56 => ⟨S8x8x2048x2048, .f32⟩
  | 57 => ⟨S_, .f32⟩
  | 58 => ⟨S_, .f32⟩
  | 59 => ⟨S8x8x2048x2048, .i1⟩
  | 60 => ⟨S8x8x2048x2048, .f32⟩
  | 61 => ⟨S8x8x2048x2048, .f32⟩
  | 62 => ⟨S_, .f32⟩
  | 63 => ⟨S8x8x2048, .f32⟩
  | 64 => ⟨S_, .f32⟩
  | 65 => ⟨S8x8x2048, .f32⟩
  | 66 => ⟨S8x8x2048, .f32⟩
  | 67 => ⟨S8x8x2048x1, .f32⟩
  | 68 => ⟨S8x8x2048x2048, .f32⟩
  | 69 => ⟨S8x8x2048x2048, .f32⟩
  | 70 => ⟨S8x8x2048x2048, .f32⟩
  | 71 => ⟨S_, .f32⟩
  | 72 => ⟨S8x8x2048, .f32⟩
  | 73 => ⟨S8x8x2048x1, .f32⟩
  | 74 => ⟨S8x8x2048x2048, .f32⟩
  | 75 => ⟨S8x8x2048x2048, .f32⟩
  | 76 => ⟨S8x8x2048x2048, .f32⟩
  | 77 => ⟨S8x8x2048x2048, .f32⟩
  | 78 => ⟨S8x8x2048x2048, .f32⟩
  | 79 => ⟨S8x2x8x2048x128, .f32⟩
  | 80 => ⟨S8x8x2048x2x128, .f32⟩
  | 81 => ⟨S8x8x2048x256, .f32⟩
  | 82 => ⟨S8x8x2048x256, .f32⟩
  | 83 => ⟨S8x8x2048x256, .f32⟩
  | 84 => ⟨S_, .f32⟩
  | 85 => ⟨S8x8x2048, .f32⟩
  | 86 => ⟨S8x8x2048x1, .f32⟩
  | 87 => ⟨S_, .f32⟩
  | 88 => ⟨S8x8x2048x1, .f32⟩
  | 89 => ⟨S8x8x2048x1, .f32⟩
  | 90 => ⟨S_, .f32⟩
  | 91 => ⟨S8x8x2048x1, .f32⟩
  | 92 => ⟨S8x8x2048x1, .f32⟩
  | 93 => ⟨S8x8x2048x1, .f32⟩
  | 94 => ⟨S8x8x2048x256, .f32⟩
  | 95 => ⟨S8x8x2048x256, .f32⟩
  | 96 => ⟨S1x1x1x256, .f32⟩
  | 97 => ⟨S8x8x2048x256, .f32⟩
  | 98 => ⟨S8x8x2048x256, .f32⟩
  | 99 => ⟨S_, .f32⟩
  | 100 => ⟨S8x8x2048x256, .f32⟩
  | 101 => ⟨S8x8x2048x256, .f32⟩
  | 102 => ⟨S8x2x8x2048x128, .f32⟩
  | 103 => ⟨S8x8x2048x2x128, .f32⟩
  | 104 => ⟨S8x8x2048x256, .f32⟩
  | 105 => ⟨S8x8x2048x256, .f32⟩
  | 106 => ⟨S16x16384x128, .f32⟩
  | 107 => ⟨S16x16384x128, .bf16⟩
  | 108 => ⟨S8x16384x256, .f32⟩
  | 109 => ⟨S8x16384x256, .bf16⟩
  | _ => ⟨S64x16384x128, .bf16⟩

abbrev hbmTy (i : Nat) : BufTy := match i / 128 with
  | 0 => hbmTy0_0 i
  | 1 => hbmTy0_1 i
  | _ => ⟨S64x16384x128, .bf16⟩

abbrev bufTy : (tb : Table) → Fin (tcTables nBuf tb) → BufTy
  | .hbm, ⟨i, _⟩ => hbmTy i
  | _, _ => ⟨S64x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v24 : Ref sig .tc := ⟨.hbm, 51, rfl⟩
abbrev main_v25 : Ref sig .tc := ⟨.hbm, 52, rfl⟩
abbrev main_c_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_1 : Ref sig .tc := ⟨.hbm, 77, rfl⟩
abbrev main_c_2 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v33 : Ref sig .tc := ⟨.hbm, 84, rfl⟩
abbrev main_c_3 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_c_4 : Ref sig .tc := ⟨.hbm, 91, rfl⟩
abbrev main_v39 : Ref sig .tc := ⟨.hbm, 92, rfl⟩
abbrev main_v40 : Ref sig .tc := ⟨.hbm, 93, rfl⟩
abbrev main_c_5 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_6 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_cst_7 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v58 : Ref sig .tc := ⟨.hbm, 117, rfl⟩
abbrev main_cst_8 : Ref sig .tc := ⟨.hbm, 118, rfl⟩
abbrev main_v59 : Ref sig .tc := ⟨.hbm, 119, rfl⟩
abbrev main_cst_9 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_10 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_11 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_12 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_13 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_14 : Ref sig .tc := ⟨.hbm, 166, rfl⟩
abbrev main_call4_v0 : Ref sig .tc := ⟨.hbm, 167, rfl⟩
abbrev main_call4_v1 : Ref sig .tc := ⟨.hbm, 168, rfl⟩
abbrev main_call4_v2 : Ref sig .tc := ⟨.hbm, 169, rfl⟩
abbrev main_v101 : Ref sig .tc := ⟨.hbm, 170, rfl⟩
abbrev main_cst_15 : Ref sig .tc := ⟨.hbm, 171, rfl⟩
abbrev main_v102 : Ref sig .tc := ⟨.hbm, 172, rfl⟩
abbrev main_cst_16 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_cst_17 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_cst_18 : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_v113 : Ref sig .tc := ⟨.hbm, 189, rfl⟩
abbrev main_cst_19 : Ref sig .tc := ⟨.hbm, 190, rfl⟩
abbrev main_v114 : Ref sig .tc := ⟨.hbm, 191, rfl⟩
abbrev main_cst_20 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_cst_21 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_22 : Ref sig .tc := ⟨.hbm, 212, rfl⟩
abbrev main_v133 : Ref sig .tc := ⟨.hbm, 213, rfl⟩
abbrev main_v134 : Ref sig .tc := ⟨.hbm, 214, rfl⟩
abbrev main_cst_23 : Ref sig .tc := ⟨.hbm, 215, rfl⟩
abbrev main_v135 : Ref sig .tc := ⟨.hbm, 216, rfl⟩
abbrev main_v136 : Ref sig .tc := ⟨.hbm, 217, rfl⟩
abbrev main_cst_24 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_cst_25 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩

abbrev nD : Nat := 1
abbrev τ : Topo := Topo.v7x

variable {F : FTy → Type} [FloatOps F]
-- ==== Kernel2.lean ====
abbrev S16384x2048 : Shape := ⟨2, ![16384, 2048]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .bf16⟩
  | .hbm, ⟨3, _⟩ => ⟨S8192x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x2048 : Shape := ⟨2, ![16384, 2048]⟩
abbrev S2048x8192 : Shape := ⟨2, ![2048, 8192]⟩
abbrev S8192x2048 : Shape := ⟨2, ![8192, 2048]⟩
abbrev S16384x8192 : Shape := ⟨2, ![16384, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .bf16⟩
  | .hbm, ⟨3, _⟩ => ⟨S8192x2048, .bf16⟩
  | .hbm, ⟨4, _⟩ => ⟨S16384x2048, .f32⟩
  | .hbm, ⟨5, _⟩ => ⟨S2048x8192, .f32⟩
  | .hbm, ⟨6, _⟩ => ⟨S8192x2048, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x2048, .f32⟩
  | .hbm, ⟨13, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel3.lean ====
abbrev S16384x2048 : Shape := ⟨2, ![16384, 2048]⟩
abbrev S2048x8192 : Shape := ⟨2, ![2048, 8192]⟩
abbrev S4x1x128 : Shape := ⟨3, ![4, 1, 128]⟩
abbrev S64x16384x128 : Shape := ⟨3, ![64, 16384, 128]⟩
abbrev S2048x2048 : Shape := ⟨2, ![2048, 2048]⟩
abbrev S1x1x128 : Shape := ⟨3, ![1, 1, 128]⟩
abbrev S16x2048x128 : Shape := ⟨3, ![16, 2048, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x256x128 : Shape := ⟨3, ![1, 256, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S4x1x128, .f32⟩
  | .hbm, ⟨3, _⟩ => ⟨S64x16384x128, .bf16⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1x128, .f32⟩
  | .local _ .vmem, ⟨5, _⟩ => ⟨S1x1x128, .f32⟩
  | .local _ .vmem, ⟨6, _⟩ => ⟨S16x2048x128, .bf16⟩
  | .local _ .vmem, ⟨7, _⟩ => ⟨S16x2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048x8192 : Shape := ⟨2, ![2048, 8192]⟩
abbrev S4x1x128 : Shape := ⟨3, ![4, 1, 128]⟩
abbrev S16384x8192 : Shape := ⟨2, ![16384, 8192]⟩
abbrev S16384x4x16x128 : Shape := ⟨4, ![16384, 4, 16, 128]⟩
abbrev S_ : Shape := ⟨0, ![]⟩
abbrev S16384x4x16 : Shape := ⟨3, ![16384, 4, 16]⟩
abbrev S16384x4x16x1 : Shape := ⟨4, ![16384, 4, 16, 1]⟩
abbrev S1x4x1x128 : Shape := ⟨4, ![1, 4, 1, 128]⟩
abbrev S16384x64x128 : Shape := ⟨3, ![16384, 64, 128]⟩
abbrev S64x16384x128 : Shape := ⟨3, ![64, 16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S4x1x128, .f32⟩
  | .hbm, ⟨3, _⟩ => ⟨S16384x2048, .f32⟩
  | .hbm, ⟨4, _⟩ => ⟨S2048x8192, .f32⟩
  | .hbm, ⟨5, _⟩ => ⟨S16384x8192, .f32⟩
  | .hbm, ⟨6, _⟩ => ⟨S16384x4x16x128, .f32⟩
  | .hbm, ⟨7, _⟩ => ⟨S16384x4x16x128, .f32⟩
  | .hbm, ⟨8, _⟩ => ⟨S_, .f32⟩
  | .hbm, ⟨9, _⟩ => ⟨S16384x4x16, .f32⟩
  | .hbm, ⟨10, _⟩ => ⟨S16384x4x16x1, .f32⟩
  | .hbm, ⟨11, _⟩ => ⟨S_, .f32⟩
  | .hbm, ⟨12, _⟩ => ⟨S16384x4x16x1, .f32⟩
  | .hbm, ⟨13, _⟩ => ⟨S16384x4x16x1, .f32⟩
  | .hbm, ⟨14, _⟩ => ⟨S_, .f32⟩
  | .hbm, ⟨15, _⟩ => ⟨S16384x4x16x1, .f32⟩
  | .hbm, ⟨16, _⟩ => ⟨S16384x4x16x1, .f32⟩
  | .hbm, ⟨17, _⟩ => ⟨S16384x4x16x1, .f32⟩
  | .hbm, ⟨18, _⟩ => ⟨S16384x4x16x128, .f32⟩
  | .hbm, ⟨19, _⟩ => ⟨S16384x4x16x128, .f32⟩
  | .hbm, ⟨20, _⟩ => ⟨S1x4x1x128, .f32⟩
  | .hbm, ⟨21, _⟩ => ⟨S16384x4x16x128, .f32⟩
  | .hbm, ⟨22, _⟩ => ⟨S16384x4x16x128, .f32⟩
  | .hbm, ⟨23, _⟩ => ⟨S16384x64x128, .f32⟩
  | .hbm, ⟨24, _⟩ => ⟨S64x16384x128, .f32⟩
  | .hbm, ⟨25, _⟩ => ⟨S64x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S16384x2048 : Shape := ⟨2, ![16384, 2048]⟩
abbrev S2048x4096 : Shape := ⟨2, ![2048, 4096]⟩
abbrev S32x16384x128 : Shape := ⟨3, ![32, 16384, 128]⟩
abbrev S2048x2048 : Shape := ⟨2, ![2048, 2048]⟩
abbrev S16x2048x128 : Shape := ⟨3, ![16, 2048, 128]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S32x16384x128, .bf16⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S16x2048x128, .bf16⟩
  | .local _ .vmem, ⟨5, _⟩ => ⟨S16x2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x4096 : Shape := ⟨2, ![2048, 4096]⟩
abbrev S16384x4096 : Shape := ⟨2, ![16384, 4096]⟩
abbrev S16384x32x128 : Shape := ⟨3, ![16384, 32, 128]⟩
abbrev S32x16384x128 : Shape := ⟨3, ![32, 16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x2048, .f32⟩
  | .hbm, ⟨3, _⟩ => ⟨S2048x4096, .f32⟩
  | .hbm, ⟨4, _⟩ => ⟨S16384x4096, .f32⟩
  | .hbm, ⟨5, _⟩ => ⟨S16384x32x128, .f32⟩
  | .hbm, ⟨6, _⟩ => ⟨S32x16384x128, .f32⟩
  | .hbm, ⟨7, _⟩ => ⟨S32x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S16384x2048 : Shape := ⟨2, ![16384, 2048]⟩
abbrev S2048x4096 : Shape := ⟨2, ![2048, 4096]⟩
abbrev S4096 : Shape := ⟨1, ![4096]⟩
abbrev S1x4096 : Shape := ⟨2, ![1, 4096]⟩
abbrev S32x16384x128 : Shape := ⟨3, ![32, 16384, 128]⟩
abbrev S2048x2048 : Shape := ⟨2, ![2048, 2048]⟩
abbrev S1x2048 : Shape := ⟨2, ![1, 2048]⟩
abbrev S16x2048x128 : Shape := ⟨3, ![16, 2048, 128]⟩
abbrev S256x2048 : Shape := ⟨2, ![256, 2048]⟩
abbrev S256x128 : Shape := ⟨2, ![256, 128]⟩
abbrev S1x128 : Shape := ⟨2, ![1, 128]⟩
abbrev S1x256x128 : Shape := ⟨3, ![1, 256, 128]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S4096, .f32⟩
  | .hbm, ⟨3, _⟩ => ⟨S1x4096, .f32⟩
  | .hbm, ⟨4, _⟩ => ⟨S32x16384x128, .bf16⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S16x2048x128, .bf16⟩
  | .local _ .vmem, ⟨7, _⟩ => ⟨S16x2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048x4096 : Shape := ⟨2, ![2048, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩
abbrev S16384x32x128 : Shape := ⟨3, ![16384, 32, 128]⟩
abbrev S32x16384x128 : Shape := ⟨3, ![32, 16384, 128]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S4096, .f32⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32x128, .f32⟩
  | .hbm, ⟨18, _⟩ => ⟨S32x16384x128, .f32⟩
  | .hbm, ⟨19, _⟩ => ⟨S32x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S16384x2048 : Shape := ⟨2, ![16384, 2048]⟩
abbrev S2x2048x18432 : Shape := ⟨3, ![2, 2048, 18432]⟩
abbrev S2x2048x6144 : Shape := ⟨3, ![2, 2048, 6144]⟩
abbrev S6144 : Shape := ⟨1, ![6144]⟩
abbrev S3x2048 : Shape := ⟨2, ![3, 2048]⟩
abbrev S1x6144 : Shape := ⟨2, ![1, 6144]⟩
abbrev S2048x2048 : Shape := ⟨2, ![2048, 2048]⟩
abbrev S1x2048x256 : Shape := ⟨3, ![1, 2048, 256]⟩
abbrev S1x256 : Shape := ⟨2, ![1, 256]⟩
abbrev S3x256 : Shape := ⟨2, ![3, 256]⟩
abbrev S2048x256 : Shape := ⟨2, ![2048, 256]⟩
abbrev S4x2048x256 : Shape := ⟨3, ![4, 2048, 256]⟩
abbrev S256x1 : Shape := ⟨2, ![256, 1]⟩
abbrev S8x256 : Shape := ⟨2, ![8, 256]⟩
abbrev S256x2048 : Shape := ⟨2, ![256, 2048]⟩
abbrev S256x256 : Shape := ⟨2, ![256, 256]⟩

abbrev nBuf : Space → Nat
  | .hbm => 7
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S2x2048x18432, .f32⟩
  | .hbm, ⟨2, _⟩ => ⟨S2x2048x6144, .f32⟩
  | .hbm, ⟨3, _⟩ => ⟨S6144, .f32⟩
  | .hbm, ⟨4, _⟩ => ⟨S3x2048, .f32⟩
  | .hbm, ⟨5, _⟩ => ⟨S1x6144, .f32⟩
  | .hbm, ⟨6, _⟩ => ⟨S16384x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x256, .f32⟩
  | .local _ .vmem, ⟨11, _⟩ => ⟨S1x256, .f32⟩
  | .local _ .vmem, ⟨12, _⟩ => ⟨S3x256, .f32⟩
  | .local _ .vmem, ⟨13, _⟩ => ⟨S3x256, .f32⟩
  | .local _ .vmem, ⟨14, _⟩ => ⟨S2048x256, .bf16⟩
  | .local _ .vmem, ⟨15, _⟩ => ⟨S2048x256, .bf16⟩
  | .local _ .vmem, ⟨16, _⟩ => ⟨S4x2048x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S16384x2048 : Shape := ⟨2, ![16384, 2048]⟩
abbrev S2x2048x18432 : Shape := ⟨3, ![2, 2048, 18432]⟩
abbrev S2x2048x6144 : Shape := ⟨3, ![2, 2048, 6144]⟩
abbrev S6144 : Shape := ⟨1, ![6144]⟩
abbrev S3x2048 : Shape := ⟨2, ![3, 2048]⟩
abbrev S1x2048x6144 : Shape := ⟨3, ![1, 2048, 6144]⟩
abbrev S2048x6144 : Shape := ⟨2, ![2048, 6144]⟩
abbrev S2048x2048 : Shape := ⟨2, ![2048, 2048]⟩
abbrev S8x2048x2048 : Shape := ⟨3, ![8, 2048, 2048]⟩
abbrev S_ : Shape := ⟨0, ![]⟩
abbrev S8x2x2048 : Shape := ⟨3, ![8, 2, 2048]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩
abbrev S1x2048x2048 : Shape := ⟨3, ![1, 2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x18432, .f32⟩
  | .hbm, ⟨2, _⟩ => ⟨S2x2048x6144, .f32⟩
  | .hbm, ⟨3, _⟩ => ⟨S6144, .f32⟩
  | .hbm, ⟨4, _⟩ => ⟨S3x2048, .f32⟩
  | .hbm, ⟨5, _⟩ => ⟨S16384x2048, .f32⟩
  | .hbm, ⟨6, _⟩ => ⟨S1x2048x6144, .f32⟩
  | .hbm, ⟨7, _⟩ => ⟨S2048x6144, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S8x2048x2048, .f32⟩
  | .hbm, ⟨15, _⟩ => ⟨S_, .f32⟩
  | .hbm, ⟨16, _⟩ => ⟨S8x2x2048, .f32⟩
  | .hbm, ⟨17, _⟩ => ⟨S8x2050x2048, .f32⟩
  | .hbm, ⟨18, _⟩ => ⟨S1x2048, .f32⟩
  | .hbm, ⟨19, _⟩ => ⟨S2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S1x2048, .f32⟩
  | .hbm, ⟨25, _⟩ => ⟨S2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S1x2048, .f32⟩
  | .hbm, ⟨32, _⟩ => ⟨S2048, .f32⟩
  | .hbm, ⟨33, _⟩ => ⟨S8x2048x2048, .f32⟩
  | .hbm, ⟨34, _⟩ => ⟨S1x1x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S1x2048x2048, .f32⟩
  | .hbm, ⟨39, _⟩ => ⟨S2048x2048, .f32⟩
  | .hbm, ⟨40, _⟩ => ⟨S16384x2048, .f32⟩
  | .hbm, ⟨41, _⟩ => ⟨S2048, .f32⟩
  | .hbm, ⟨42, _⟩ => ⟨S1x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_0 : Ref sig .tc := ⟨.hbm, 47, rfl⟩
abbrev main_v41 : Ref sig .tc := ⟨.hbm, 48, rfl⟩
abbrev main_v42 : Ref sig .tc := ⟨.hbm, 49, rfl⟩
abbrev main_cst_1 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== Kernel7.lean ====
abbrev S16384x2048 : Shape := ⟨2, ![16384, 2048]⟩
abbrev S16x16384x128 : Shape := ⟨3, ![16, 16384, 128]⟩
abbrev S8x16384x256 : Shape := ⟨3, ![8, 16384, 256]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S16x512x128 : Shape := ⟨3, ![16, 512, 128]⟩
abbrev S8x512x256 : Shape := ⟨3, ![8, 512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16x16384x128, .bf16⟩
  | .hbm, ⟨2, _⟩ => ⟨S8x16384x256, .bf16⟩
  | .hbm, ⟨3, _⟩ => ⟨S16384x2048, .bf16⟩
  | .hbm, ⟨4, _⟩ => ⟨S2048x2048, .bf16⟩
  | .hbm, ⟨5, _⟩ => ⟨S2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S16x512x128, .bf16⟩
  | .local _ .vmem, ⟨3, _⟩ => ⟨S16x512x128, .bf16⟩
  | .local _ .vmem, ⟨4, _⟩ => ⟨S8x512x256, .bf16⟩
  | .local _ .vmem, ⟨5, _⟩ => ⟨S8x512x256, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S16384x2048 : Shape := ⟨2, ![16384, 2048]⟩
abbrev S16x16384x128 : Shape := ⟨3, ![16, 16384, 128]⟩
abbrev S8x16384x256 : Shape := ⟨3, ![8, 16384, 256]⟩
abbrev S2048x2048 : Shape := ⟨2, ![2048, 2048]⟩
abbrev S2048 : Shape := ⟨1, ![2048]⟩
abbrev S16384x16x128 : Shape := ⟨3, ![16384, 16, 128]⟩
abbrev S16384x8x256 : Shape := ⟨3, ![16384, 8, 256]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x16384x128, .bf16⟩
  | .hbm, ⟨2, _⟩ => ⟨S8x16384x256, .bf16⟩
  | .hbm, ⟨3, _⟩ => ⟨S16384x2048, .bf16⟩
  | .hbm, ⟨4, _⟩ => ⟨S2048x2048, .bf16⟩
  | .hbm, ⟨5, _⟩ => ⟨S2048, .f32⟩
  | .hbm, ⟨6, _⟩ => ⟨S16x16384x128, .f32⟩
  | .hbm, ⟨7, _⟩ => ⟨S16384x16x128, .f32⟩
  | .hbm, ⟨8, _⟩ => ⟨S16384x2048, .f32⟩
  | .hbm, ⟨9, _⟩ => ⟨S8x16384x256, .f32⟩
  | .hbm, ⟨10, _⟩ => ⟨S16384x8x256, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S2048x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Softmax.lean ====
/- The arithmetic of a masked softmax row over the extended reals, with nothing of either program in it: a row of
   scores is a function into `EReal` whose entries are real numbers or, where masked, `⊥`. -/
module

public import Idealize.ShloMosaic.PureOps.Ideal

@[expose] public section

noncomputable section

namespace Cert.Attn

open Idealize.ShloMosaic

/-- A positive (or zero) real factor goes into a sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top _) _ _

/-- A nonnegative real factor goes into a difference of extended reals. -/
theorem sub_mul_coe (x y : EReal) {c : ℝ} (hc : 0 ≤ c) : (x - y) * (c : EReal) = x * c - y * c := by
  rw [sub_eq_add_neg, sub_eq_add_neg, ← EReal.neg_mul]
  exact EReal.right_distrib_of_nonneg_of_ne_top (EReal.coe_nonneg.mpr hc) (EReal.coe_ne_top _) _ _

/-- A sum of real numbers, seen among the extended reals, is the sum seen there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- The largest entry of a row, `⊥` for the empty one. -/
def top {n : Nat} (f : Fin n → EReal) : EReal := Finset.univ.fold max ⊥ f

theorem le_top {n : Nat} (f : Fin n → EReal) (j : Fin n) : f j ≤ top f := by
  unfold top
  rw [Finset.le_fold_max]
  exact Or.inr ⟨j, Finset.mem_univ _, le_rfl⟩

theorem top_le {n : Nat} {f : Fin n → EReal} {b : EReal} (h : ∀ j, f j ≤ b) : top f ≤ b := by
  unfold top
  rw [Finset.fold_max_le]
  exact ⟨bot_le, fun j _ => h j⟩

/-- The largest entry of a window of a row is the row's, when the entries outside the window are `⊥`. -/
theorem top_window {n w off : Nat} (h : off + w ≤ n) (f : Fin n → EReal)
    (hout : ∀ j : Fin n, ¬ (off ≤ j.val ∧ j.val < off + w) → f j = ⊥) :
    top (fun i : Fin w => f ⟨off + i.val, by omega⟩) = top f := by
  apply le_antisymm
  · exact top_le fun i => le_top f _
  · refine top_le fun j => ?_
    by_cases hj : off ≤ j.val ∧ j.val < off + w
    · have := le_top (fun i : Fin w => f ⟨off + i.val, by omega⟩) ⟨j.val - off, by omega⟩
      have e : (⟨off + (j.val - off), by omega⟩ : Fin n) = j := Fin.ext (by simp; omega)
      simp only [e] at this
      exact this
    · rw [hout j hj]; exact bot_le

/-- The sum of a window of a row is the row's, when the entries outside the window are zero. -/
theorem sum_window {n w off : Nat} (h : off + w ≤ n) (f : Fin n → EReal)
    (hout : ∀ j : Fin n, ¬ (off ≤ j.val ∧ j.val < off + w) → f j = 0) :
    ∑ i : Fin w, f ⟨off + i.val, by omega⟩ = ∑ j, f j := by
  refine Finset.sum_of_injOn (fun i : Fin w => (⟨off + i.val, by omega⟩ : Fin n)) ?_ (fun _ _ => Finset.mem_coe.mpr (Finset.mem_univ _)) ?_ (fun _ _ => rfl)
  · intro a _ b _ hab
    simp only [Fin.mk.injEq] at hab
    exact Fin.ext (by omega)
  · intro j _ hj
    refine hout j fun hw => hj ?_
    exact ⟨⟨j.val - off, by omega⟩, Finset.mem_coe.mpr (Finset.mem_univ _), Fin.ext (by simp; omega)⟩

/-- The largest entry of a row, from two windows that meet: `⊥` outside both. -/
theorem top_two {n a b : Nat} (h : a + b ≤ n) (f : Fin n → EReal) (hout : ∀ j : Fin n, a + b ≤ j.val → f j = ⊥) :
    max (top fun i : Fin b => f ⟨a + i.val, by omega⟩) (top fun i : Fin a => f ⟨i.val, by omega⟩) = top f := by
  apply le_antisymm
  · exact max_le (top_le fun i => le_top f _) (top_le fun i => le_top f _)
  · refine top_le fun j => ?_
    by_cases hj : j.val < a
    · exact le_trans (le_top (fun i : Fin a => f ⟨i.val, by omega⟩) ⟨j.val, hj⟩) (le_max_right _ _)
    · by_cases hj' : j.val < a + b
      · have := le_top (fun i : Fin b => f ⟨a + i.val, by omega⟩) ⟨j.val - a, by omega⟩
        have e : (⟨a + (j.val - a), by omega⟩ : Fin n) = j := Fin.ext (by simp; omega)
        simp only [e] at this
        exact le_trans this (le_max_left _ _)
      · rw [hout j (by omega)]; exact bot_le

/-- The sum of a row, from two windows that meet: zero outside both. -/
theorem sum_two {n a b : Nat} (h : a + b ≤ n) (f : Fin n → EReal) (hout : ∀ j : Fin n, a + b ≤ j.val → f j = 0) :
    (∑ i : Fin b, f ⟨a + i.val, by omega⟩) + ∑ i : Fin a, f ⟨i.val, by omega⟩ = ∑ j, f j := by
  rw [← sum_window (off := 0) (w := a + b) (by omega) f (fun j hj => hout j (by omega)), Fin.sum_univ_add, add_comm]
  congr 1 <;> refine Finset.sum_congr rfl fun i _ => congrArg f (Fin.ext ?_) <;> simp

/-- A row of scores: every entry is `⊥` or a real number, and at least one is real. -/
structure Scores {n : Nat} (f : Fin n → EReal) : Prop where
  real : ∀ j, f j = ⊥ ∨ ∃ r : ℝ, f j = r
  some : ∃ j, f j ≠ ⊥

variable {n : Nat} {f : Fin n → EReal}

theorem Scores.top_real (h : Scores f) : ∃ m : ℝ, top f = m := by
  obtain ⟨j, hj⟩ := h.some
  have h1 : top f ≠ ⊥ := fun e => hj (le_bot_iff.mp (e ▸ le_top f j))
  have h2 : top f ≠ ⊤ := by
    apply ne_of_lt
    unfold top
    rw [Finset.fold_max_lt]
    refine ⟨bot_lt_top, fun j _ => ?_⟩
    rcases h.real j with e | ⟨r, e⟩ <;> rw [e]
    · exact bot_lt_top
    · exact EReal.coe_lt_top r
  exact ⟨(top f).toReal, (EReal.coe_toReal h2 h1).symm⟩

/-- The weights of a row of base-2 scores before they are divided by their sum. -/
def wt (f : Fin n → EReal) (j : Fin n) : EReal := Ideal.exp2 (f j - top f)

theorem wt_masked {j : Fin n} (h : f j = ⊥) : wt f j = 0 := by
  unfold wt; rw [h, EReal.bot_sub]; rfl

/-- The weights are real and not negative, and their sum is a positive real number. -/
theorem Scores.weights (h : Scores f) :
    ∃ e : Fin n → ℝ, (∀ j, wt f j = e j) ∧ (∀ j, 0 ≤ e j) ∧ 0 < ∑ j, e j := by
  obtain ⟨m, hm⟩ := h.top_real
  have key : ∀ j, ∃ r : ℝ, wt f j = r ∧ 0 ≤ r ∧ (f j ≠ ⊥ → 0 < r) := by
    intro j
    rcases h.real j with e | ⟨r, e⟩
    · exact ⟨0, by rw [wt_masked e]; rfl, le_rfl, fun hn => absurd e hn⟩
    · refine ⟨Real.rpow 2 (r - m), ?_, (Real.rpow_pos_of_pos two_pos _).le, fun _ => Real.rpow_pos_of_pos two_pos _⟩
      unfold wt; rw [e, hm, ← EReal.coe_sub]; rfl
  choose e he h0 hp using key
  obtain ⟨j, hj⟩ := h.some
  exact ⟨e, he, h0, Finset.sum_pos' (fun i _ => h0 i) ⟨j, Finset.mem_univ _, hp j hj⟩⟩

/-- The sum of a row's weights is a positive real number. -/
theorem Scores.sum_weights (h : Scores f) : ∃ l : ℝ, 0 < l ∧ ∑ j, wt f j = l := by
  obtain ⟨e, he, _, hp⟩ := h.weights
  exact ⟨∑ j, e j, hp, by rw [coe_sum]; exact Finset.sum_congr rfl fun j _ => he j⟩

/-- Multiplying every score by a positive real multiplies the largest. -/
theorem Scores.top_mul (h : Scores f) {c : ℝ} (hc : 0 < c) : top (fun j => f j * (c : EReal)) = top f * (c : EReal) := by
  have hm : Monotone fun x : EReal => x * (c : EReal) := fun a b hab =>
    mul_le_mul_of_nonneg_right hab (EReal.coe_nonneg.mpr hc.le)
  apply le_antisymm
  · exact top_le fun j => hm (le_top f j)
  · obtain ⟨j, hj⟩ := h.some
    have : ∃ j, top f = f j := by
      by_contra hne
      have hlt : top f < top f := by
        conv_lhs => unfold top
        rw [Finset.fold_max_lt]
        refine ⟨lt_of_lt_of_le (bot_lt_iff_ne_bot.mpr hj) (le_top f j), fun i _ => ?_⟩
        exact lt_of_le_of_ne (le_top f i) fun e => hne ⟨i, e.symm⟩
      exact lt_irrefl _ hlt
    obtain ⟨i, hi⟩ := this
    rw [hi]
    exact le_top (fun j => f j * (c : EReal)) i

/-- Weights in base 2 are the weights of the scores times `ln 2` in base e. -/
theorem Scores.exp_eq (h : Scores f) {g : Fin n → EReal} (hg : ∀ j, g j = f j * ((Real.log 2 : ℝ) : EReal)) (j : Fin n) :
    Ideal.exp (g j - top g) = wt f j := by
  have hl : 0 < Real.log 2 := Real.log_pos one_lt_two
  rw [show top g = top f * ((Real.log 2 : ℝ) : EReal) from by rw [show g = _ from funext hg]; exact h.top_mul hl, hg j]
  obtain ⟨m, hm⟩ := h.top_real
  rcases h.real j with e | ⟨r, e⟩
  · rw [wt_masked e, e, EReal.bot_mul_coe_of_pos hl, EReal.bot_sub]; rfl
  · unfold wt
    rw [e, hm, ← EReal.coe_mul, ← EReal.coe_mul, ← EReal.coe_sub, ← EReal.coe_sub, Ideal.exp_coe, Ideal.exp2_coe]
    refine congrArg _ ?_
    show _ = (2 : ℝ) ^ (r - m)
    rw [Real.rpow_def_of_pos two_pos]
    congr 1; ring

/-- A head of the local attention: dividing the weighted sum of a window's values by the window's weights at the end is
    weighting the values by the softmax of the whole row, since what lies outside the window is masked. -/
theorem local_row {w off : Nat} (h : off + w ≤ n) (hf : Scores f)
    (hout : ∀ j : Fin n, ¬ (off ≤ j.val ∧ j.val < off + w) → f j = ⊥)
    {g : Fin n → EReal} (hg : ∀ j, g j = f j * ((Real.log 2 : ℝ) : EReal)) (v : Fin n → EReal)
    {s u : Fin w → EReal} (hs : ∀ i, s i = f ⟨off + i.val, by omega⟩) (hu : ∀ i, u i = v ⟨off + i.val, by omega⟩) :
    Ideal.div (∑ i, Ideal.exp2 (s i - top s) * u i) (∑ i, Ideal.exp2 (s i - top s) * 1)
      = ∑ j, Ideal.div (Ideal.exp (g j - top g)) (∑ k, Ideal.exp (g k - top g)) * v j := by
  simp only [hf.exp_eq hg, mul_one]
  have ht : top s = top f := by rw [show s = _ from funext hs]; exact top_window h f hout
  have hw : ∀ i, Ideal.exp2 (s i - top s) = wt f ⟨off + i.val, by omega⟩ := fun i => by rw [ht, hs]; rfl
  simp only [hw, hu]
  rw [sum_window h (wt f) (fun j hj => wt_masked (hout j hj)),
    sum_window h (fun j => wt f j * v j) (fun j hj => by rw [wt_masked (hout j hj), zero_mul])]
  obtain ⟨l, hl, e⟩ := hf.sum_weights
  rw [e, Ideal.div_coe hl.ne', sum_mul_coe _ _ (one_div_pos.mpr hl).le]
  refine Finset.sum_congr rfl fun j _ => ?_
  rw [Ideal.div_coe hl.ne', mul_right_comm]

/-- One value column of a head of the differential attention: the difference of the two maps' weights, scaled so that
    only the first map's sum is still to be divided by, is the difference of the two softmax rows times that sum. -/
theorem diff_row {f₁ f₂ : Fin n → EReal} (h₁ : Scores f₁) (h₂ : Scores f₂) (lam : EReal) (v : Fin n → EReal) {l₁ : ℝ}
    (hl : 0 < l₁) (e₁ : ∑ j, wt f₁ j = l₁) :
    (∑ j, (wt f₁ j - wt f₂ j * Ideal.div (lam * ∑ k, wt f₁ k) (∑ k, wt f₂ k)) * v j) * ((1 / l₁ : ℝ) : EReal)
      = ∑ j, (Ideal.div (wt f₁ j) (∑ k, wt f₁ k) - lam * Ideal.div (wt f₂ j) (∑ k, wt f₂ k)) * v j := by
  obtain ⟨l₂, hl₂, e₂⟩ := h₂.sum_weights
  rw [sum_mul_coe _ _ (one_div_pos.mpr hl).le, e₁, e₂]
  refine Finset.sum_congr rfl fun j _ => ?_
  rw [mul_right_comm, sub_mul_coe _ _ (one_div_pos.mpr hl).le, Ideal.div_coe hl.ne', Ideal.div_coe hl₂.ne',
    Ideal.div_coe hl₂.ne']
  congr 2
  have : (l₁ : EReal) * ((1 / l₁ : ℝ) : EReal) = 1 := by
    rw [← EReal.coe_mul, mul_one_div_cancel hl.ne']; rfl
  calc wt f₂ j * (lam * l₁ * ((1 / l₂ : ℝ) : EReal)) * ((1 / l₁ : ℝ) : EReal)
      = lam * (wt f₂ j * ((1 / l₂ : ℝ) : EReal)) * (l₁ * ((1 / l₁ : ℝ) : EReal)) := by ac_rfl
    _ = lam * (wt f₂ j * ((1 / l₂ : ℝ) : EReal)) := by rw [this, mul_one]

/-- A row of the differential attention as the kernel computes it, over the two parts of each map's row (the block on
    the diagonal, and what lies to its left): the weights of the difference without the division by the first map's
    sum, whose reciprocal then enters the mean square squared and the output once. -/
structure DiffRow (a b m : Nat) where
  s₁ : Fin b → EReal
  t₁ : Fin a → EReal
  s₂ : Fin b → EReal
  t₂ : Fin a → EReal
  lam : EReal
  vs : Fin b → Fin m → EReal
  vt : Fin a → Fin m → EReal

namespace DiffRow

variable {a b m : Nat} (r : DiffRow a b m)

/-- The largest score of each map. -/
def m₁ : EReal := max (top r.s₁) (top r.t₁)
def m₂ : EReal := max (top r.s₂) (top r.t₂)
/-- The sum of each map's weights. -/
def l₁ : EReal := (∑ i, Ideal.exp2 (r.s₁ i - r.m₁)) + ∑ i, Ideal.exp2 (r.t₁ i - r.m₁)
def l₂ : EReal := (∑ i, Ideal.exp2 (r.s₂ i - r.m₂)) + ∑ i, Ideal.exp2 (r.t₂ i - r.m₂)
/-- The factor of the second map's weights. -/
def ratio : EReal := Ideal.div (r.lam * r.l₁) r.l₂
/-- One column of the weighted sum of the values. -/
def acc (c : Fin m) : EReal :=
  (∑ i, (Ideal.exp2 (r.s₁ i - r.m₁) - Ideal.exp2 (r.s₂ i - r.m₂) * r.ratio) * r.vs i c)
    + ∑ i, (Ideal.exp2 (r.t₁ i - r.m₁) - Ideal.exp2 (r.t₂ i - r.m₂) * r.ratio) * r.vt i c
/-- The normalised column, with `N` the number of columns and `eps` added to the mean square. -/
def out (N eps : EReal) (c : Fin m) : EReal :=
  r.acc c * (Ideal.div 1 r.l₁
    * Ideal.rsqrt (Ideal.div (∑ d, r.acc d * r.acc d) N * (Ideal.div 1 r.l₁ * Ideal.div 1 r.l₁) + eps))

/-- The kernel's row is the plain one: softmax of each map over the whole row, their difference, the values weighted
    by it, and the root mean square of the result over its columns. -/
theorem out_eq (h : a + b ≤ n) {f₁ f₂ g₁ g₂ : Fin n → EReal} (h₁ : Scores f₁) (h₂ : Scores f₂)
    (o₁ : ∀ j : Fin n, a + b ≤ j.val → f₁ j = ⊥) (o₂ : ∀ j : Fin n, a + b ≤ j.val → f₂ j = ⊥)
    (hg₁ : ∀ j, g₁ j = f₁ j * ((Real.log 2 : ℝ) : EReal)) (hg₂ : ∀ j, g₂ j = f₂ j * ((Real.log 2 : ℝ) : EReal))
    (v : Fin n → Fin m → EReal)
    (hs₁ : ∀ i, r.s₁ i = f₁ ⟨a + i.val, by omega⟩) (ht₁ : ∀ i, r.t₁ i = f₁ ⟨i.val, by omega⟩)
    (hs₂ : ∀ i, r.s₂ i = f₂ ⟨a + i.val, by omega⟩) (ht₂ : ∀ i, r.t₂ i = f₂ ⟨i.val, by omega⟩)
    (hvs : ∀ i c, r.vs i c = v ⟨a + i.val, by omega⟩ c) (hvt : ∀ i c, r.vt i c = v ⟨i.val, by omega⟩ c)
    {N : ℝ} (hN : N ≠ 0) (eps : EReal) {o : Fin m → EReal}
    (ho : ∀ c, o c = ∑ j, (Ideal.div (Ideal.exp (g₁ j - top g₁)) (∑ k, Ideal.exp (g₁ k - top g₁))
      - r.lam * Ideal.div (Ideal.exp (g₂ j - top g₂)) (∑ k, Ideal.exp (g₂ k - top g₂))) * v j c) (c : Fin m) :
    r.out N eps c = o c * Ideal.rsqrt (Ideal.div (∑ d, o d * o d) N + eps) := by
  have hm₁ : r.m₁ = top f₁ := by
    unfold m₁; rw [show r.s₁ = _ from funext hs₁, show r.t₁ = _ from funext ht₁]; exact top_two h f₁ o₁
  have hm₂ : r.m₂ = top f₂ := by
    unfold m₂; rw [show r.s₂ = _ from funext hs₂, show r.t₂ = _ from funext ht₂]; exact top_two h f₂ o₂
  have ws₁ : ∀ i, Ideal.exp2 (r.s₁ i - r.m₁) = wt f₁ ⟨a + i.val, by omega⟩ := fun i => by rw [hm₁, hs₁]; rfl
  have wt₁ : ∀ i, Ideal.exp2 (r.t₁ i - r.m₁) = wt f₁ ⟨i.val, by omega⟩ := fun i => by rw [hm₁, ht₁]; rfl
  have ws₂ : ∀ i, Ideal.exp2 (r.s₂ i - r.m₂) = wt f₂ ⟨a + i.val, by omega⟩ := fun i => by rw [hm₂, hs₂]; rfl
  have wt₂ : ∀ i, Ideal.exp2 (r.t₂ i - r.m₂) = wt f₂ ⟨i.val, by omega⟩ := fun i => by rw [hm₂, ht₂]; rfl
  have hl₁ : r.l₁ = ∑ j, wt f₁ j := by
    unfold l₁; simp only [ws₁, wt₁]; exact sum_two h _ fun j hj => wt_masked (o₁ j hj)
  have hl₂ : r.l₂ = ∑ j, wt f₂ j := by
    unfold l₂; simp only [ws₂, wt₂]; exact sum_two h _ fun j hj => wt_masked (o₂ j hj)
  obtain ⟨l, hl, e⟩ := h₁.sum_weights
  have hacc : ∀ c, r.acc c * ((1 / l : ℝ) : EReal) = o c := by
    intro c
    rw [ho]
    simp only [h₁.exp_eq hg₁, h₂.exp_eq hg₂]
    rw [← diff_row h₁ h₂ r.lam (fun j => v j c) hl e]
    congr 1
    unfold acc
    simp only [ws₁, wt₁, ws₂, wt₂, hvs, hvt, show r.ratio = Ideal.div (r.lam * ∑ k, wt f₁ k) (∑ k, wt f₂ k) from by
      unfold ratio; rw [hl₁, hl₂]]
    exact sum_two h (fun j => (wt f₁ j - wt f₂ j * Ideal.div (r.lam * ∑ k, wt f₁ k) (∑ k, wt f₂ k)) * v j c) fun j hj => by
      rw [wt_masked (o₁ j hj), wt_masked (o₂ j hj), zero_mul, sub_zero, zero_mul]
  have hi : Ideal.div 1 r.l₁ = ((1 / l : ℝ) : EReal) := by rw [hl₁, e, Ideal.div_coe hl.ne', one_mul]
  have hq : Ideal.div (∑ d, r.acc d * r.acc d) N * (Ideal.div 1 r.l₁ * Ideal.div 1 r.l₁) = Ideal.div (∑ d, o d * o d) N := by
    rw [hi, Ideal.div_coe hN, Ideal.div_coe hN, mul_right_comm, ← EReal.coe_mul,
      sum_mul_coe _ _ (mul_pos (one_div_pos.mpr hl) (one_div_pos.mpr hl)).le]
    refine congrArg (· * _) (Finset.sum_congr rfl fun d _ => ?_)
    rw [EReal.coe_mul, mul_mul_mul_comm, hacc]
  unfold out
  rw [hq, hi, ← mul_assoc, hacc]

end DiffRow

end Cert.Attn

end
-- ==== Proof.Spec.lean ====
/- The two attentions as functions of their arrays, element by element: what both programs are shown to compute.
   Arrays are functions of their coordinates; `row b i` is position `i` of batch entry `b` in the flattened token axis. -/
module

public import proofs.«01_k».proof.Proof.Softmax

@[expose] public section

noncomputable section

namespace Cert.Attn

open Idealize.ShloMosaic

/-- Position `i` of batch entry `b` among the flattened tokens. -/
def row (b : Fin 8) (i : Fin 2048) : Fin 16384 := ⟨2048 * b.val + i.val, by omega⟩

/-- A query at `i` sees a key at `j` in its own chunk of 64 and in the 8 before it. -/
def near (i j : Fin 2048) : Prop := j.val / 64 ≤ i.val / 64 ∧ i.val / 64 ≤ j.val / 64 + 8
instance (i j : Fin 2048) : Decidable (near i j) := inferInstanceAs (Decidable (_ ∧ _))

/-- A query at `i` sees a key at `j` in its own chunk of 64 and in every one before it. -/
def causal (i j : Fin 2048) : Prop := j.val / 64 ≤ i.val / 64
instance (i j : Fin 2048) : Decidable (causal i j) := inferInstanceAs (Decidable (_ ≤ _))

/-- The bias table's column for a query at `i` and a key at `j`: `i - j` clipped to 128 either way. -/
def rel (i j : Fin 2048) : Fin 257 := ⟨min (i.val + 128 - j.val) 256, by omega⟩

/-- The dot product of two rows. -/
def dot (q k : Fin 128 → EReal) : EReal := ∑ d, q d * k d

/-- Queries and keys, heads first: `q_a`, `k_a`, `q_b`, `k_b`, sixteen heads each. -/
abbrev Heads (n : Nat) := Fin n → Fin 16384 → Fin 128 → EReal

/-- The local attention's scores in base 2: the dot product plus the bias over `ln 2`, `⊥` where masked. -/
def aScore (Q : Heads 64) (T : Fin 16 → Fin 257 → EReal) (h : Fin 16) (b : Fin 8) (i j : Fin 2048) : EReal :=
  if near i j then dot (Q ⟨h.val, by omega⟩ (row b i)) (Q ⟨16 + h.val, by omega⟩ (row b j))
    + T h (rel i j) * (((Real.log 2)⁻¹ : ℝ) : EReal) else ⊥

/-- The differential attention's scores in base 2 for map `μ` of head `h`, `⊥` where masked. -/
def bScore (Q : Heads 64) (μ : Fin 2) (h : Fin 8) (b : Fin 8) (i j : Fin 2048) : EReal :=
  if causal i j then dot (Q ⟨32 + 2 * h.val + μ.val, by omega⟩ (row b i)) (Q ⟨48 + 2 * h.val + μ.val, by omega⟩ (row b j))
  else ⊥

/-- The softmax, in base e, of a row of scores. -/
def soft (g : Fin 2048 → EReal) (j : Fin 2048) : EReal :=
  Ideal.div (Ideal.exp (g j - top g)) (∑ k, Ideal.exp (g k - top g))

/-- The local attention's output: the gated weighted sum of the values. -/
def aOut (Q : Heads 64) (V G : Heads 32) (T : Fin 16 → Fin 257 → EReal) (h : Fin 16) (b : Fin 8) (i : Fin 2048)
    (c : Fin 128) : EReal :=
  (∑ j, soft (fun j => aScore Q T h b i j * ((Real.log 2 : ℝ) : EReal)) j * V ⟨h.val, by omega⟩ (row b j) c)
    * G ⟨h.val, by omega⟩ (row b i) c

/-- Column `c` of the two heads' 128 columns side by side. -/
def wide (V : Heads 32) (h : Fin 8) (t : Fin 16384) (c : Fin 256) : EReal :=
  V ⟨16 + 2 * h.val + c.val / 128, by omega⟩ t ⟨c.val % 128, by omega⟩

/-- The differential attention before its norm: the values weighted by the difference of the two softmax rows. -/
def bMix (Q : Heads 64) (V : Heads 32) (lam : EReal) (h : Fin 8) (b : Fin 8) (i : Fin 2048) (c : Fin 256) : EReal :=
  ∑ j, (soft (fun j => bScore Q 0 h b i j * ((Real.log 2 : ℝ) : EReal)) j
    - lam * soft (fun j => bScore Q 1 h b i j * ((Real.log 2 : ℝ) : EReal)) j) * wide V h (row b j) c

/-- The differential attention's output: normalised over its columns, scaled by the gain `g` and the constant `s`, and
    gated. -/
def bOut (Q : Heads 64) (V G : Heads 32) (lam eps s : EReal) (g : Fin 256 → EReal) (h : Fin 8) (b : Fin 8)
    (i : Fin 2048) (c : Fin 256) : EReal :=
  bMix Q V lam h b i c
    * Ideal.rsqrt (Ideal.div (∑ d, bMix Q V lam h b i d * bMix Q V lam h b i d) ((256 : ℝ) : EReal) + eps)
    * g c * s * wide G h (row b i) c

theorem dot_real {q k : Fin 128 → EReal} (hq : ∀ d, ∃ r : ℝ, q d = r) (hk : ∀ d, ∃ r : ℝ, k d = r) :
    ∃ r : ℝ, dot q k = r := by
  choose x hx using hq
  choose y hy using hk
  refine ⟨∑ d, x d * y d, ?_⟩
  unfold dot
  rw [coe_sum]
  exact Finset.sum_congr rfl fun d _ => by rw [hx, hy, EReal.coe_mul]

/-- The local attention's scores are real or masked, and a query sees its own key. -/
theorem aScore_scores {Q : Heads 64} {T : Fin 16 → Fin 257 → EReal} (hQ : ∀ a t d, ∃ r : ℝ, Q a t d = r)
    (hT : ∀ h x, ∃ r : ℝ, T h x = r) (h : Fin 16) (b : Fin 8) (i : Fin 2048) : Scores (aScore Q T h b i) := by
  have real : ∀ j, near i j → ∃ r : ℝ, aScore Q T h b i j = r := by
    intro j hj
    obtain ⟨x, hx⟩ := dot_real (hQ ⟨h.val, by omega⟩ (row b i)) (hQ ⟨16 + h.val, by omega⟩ (row b j))
    obtain ⟨y, hy⟩ := hT h (rel i j)
    refine ⟨x + y * (Real.log 2)⁻¹, ?_⟩
    unfold aScore
    rw [if_pos hj, hx, hy, EReal.coe_add, EReal.coe_mul]
  refine ⟨fun j => ?_, ⟨i, ?_⟩⟩
  · by_cases hj : near i j
    · exact Or.inr (real j hj)
    · exact Or.inl (if_neg hj)
  · obtain ⟨r, hr⟩ := real i ⟨le_rfl, by omega⟩
    rw [hr]; exact EReal.coe_ne_bot r

/-- The differential attention's scores are real or masked, and a query sees its own key. -/
theorem bScore_scores {Q : Heads 64} (hQ : ∀ a t d, ∃ r : ℝ, Q a t d = r) (μ : Fin 2) (h : Fin 8) (b : Fin 8)
    (i : Fin 2048) : Scores (bScore Q μ h b i) := by
  have real : ∀ j, causal i j → ∃ r : ℝ, bScore Q μ h b i j = r := by
    intro j hj
    obtain ⟨x, hx⟩ := dot_real (hQ ⟨32 + 2 * h.val + μ.val, by omega⟩ (row b i)) (hQ ⟨48 + 2 * h.val + μ.val, by omega⟩ (row b j))
    exact ⟨x, by unfold bScore; rw [if_pos hj, hx]⟩
  refine ⟨fun j => ?_, ⟨i, ?_⟩⟩
  · by_cases hj : causal i j
    · exact Or.inr (real j hj)
    · exact Or.inl (if_neg hj)
  · obtain ⟨r, hr⟩ := real i le_rfl
    rw [hr]; exact EReal.coe_ne_bot r

/-- A dot product of real rows plus a real bias, multiplied out by `ln 2`: the bias over `ln 2` comes back whole. -/
theorem aScore_mul {Q : Heads 64} {T : Fin 16 → Fin 257 → EReal} (hQ : ∀ a t d, ∃ r : ℝ, Q a t d = r)
    (hT : ∀ h x, ∃ r : ℝ, T h x = r) (h : Fin 16) (b : Fin 8) (i j : Fin 2048) :
    aScore Q T h b i j * ((Real.log 2 : ℝ) : EReal) = if near i j then
      dot (Q ⟨h.val, by omega⟩ (row b i)) (Q ⟨16 + h.val, by omega⟩ (row b j)) * ((Real.log 2 : ℝ) : EReal) + T h (rel i j)
      else ⊥ := by
  have hl : 0 < Real.log 2 := Real.log_pos one_lt_two
  unfold aScore
  by_cases hj : near i j
  · obtain ⟨x, hx⟩ := dot_real (hQ ⟨h.val, by omega⟩ (row b i)) (hQ ⟨16 + h.val, by omega⟩ (row b j))
    obtain ⟨y, hy⟩ := hT h (rel i j)
    rw [if_pos hj, if_pos hj, hx, hy, ← EReal.coe_mul, ← EReal.coe_add, ← EReal.coe_mul, ← EReal.coe_mul, ← EReal.coe_add]
    refine congrArg _ ?_
    rw [add_mul, mul_assoc, inv_mul_cancel₀ hl.ne', mul_one]
  · rw [if_neg hj, if_neg hj, EReal.bot_mul_coe_of_pos hl]

theorem bScore_mul (Q : Heads 64) (μ : Fin 2) (h : Fin 8) (b : Fin 8) (i j : Fin 2048) :
    bScore Q μ h b i j * ((Real.log 2 : ℝ) : EReal) = if causal i j then
      dot (Q ⟨32 + 2 * h.val + μ.val, by omega⟩ (row b i)) (Q ⟨48 + 2 * h.val + μ.val, by omega⟩ (row b j))
        * ((Real.log 2 : ℝ) : EReal) else ⊥ := by
  unfold bScore
  by_cases hj : causal i j
  · rw [if_pos hj, if_pos hj]
  · rw [if_neg hj, if_neg hj, EReal.bot_mul_coe_of_pos (Real.log_pos one_lt_two)]

end Cert.Attn

end
-- ==== Proof.Consts.lean ====
/- The float constants the two programs spell, as the extended reals their patterns denote. -/
module

public import Idealize.ShloMosaic.PureOps.Ideal

@[expose] public section

noncomputable section

namespace Cert.Attn

open Idealize.ShloMosaic

/-- The least value, from which every maximum starts. -/
theorem ofBits_bot : Ideal.ofBits .f32 0xFF800000#32 = ⊥ := by
  simp [Ideal.ofBits, Ideal.ieee]

/-- `1.0` in the wide format. -/
theorem ofBits_one : Ideal.ofBits .f32 0x3F800000#32 = 1 := by
  rw [← EReal.coe_one]
  simp [Ideal.ofBits, Ideal.ieee, -EReal.coe_mul, -EReal.coe_one]; norm_num

/-- `1.0` in the narrow format. -/
theorem ofBits_one_bf16 : Ideal.ofBits .bf16 0x3F80#16 = 1 := by
  rw [← EReal.coe_one]
  simp [Ideal.ofBits, Ideal.ieee, -EReal.coe_mul, -EReal.coe_one]; norm_num

/-- `2.0`, whose logarithm the reference takes. -/
theorem ofBits_two : Ideal.ofBits .f32 0x40000000#32 = ((2 : ℝ) : EReal) := by
  simp [Ideal.ofBits, Ideal.ieee, -EReal.coe_mul]; norm_num

/-- `256.0`, the number of columns a mean square runs over. -/
theorem ofBits_256 : Ideal.ofBits .f32 0x43800000#32 = ((256 : ℝ) : EReal) := by
  simp [Ideal.ofBits, Ideal.ieee, -EReal.coe_mul]; norm_num

end Cert.Attn

end
-- ==== Proof.KernelRows.lean ====
/- A block of each attention as the kernel computes it, from its scores: the vector operations at a width left open,
   read at one element. The kernel's blocks are instances at the widths it uses. -/
module

public import proofs.«01_k».proof.Proof.Gen.KernelIdeal.Skeleton
public import proofs.«01_k».proof.Proof.Spec
public import proofs.«01_k».proof.Proof.Consts
public import Idealize.ShloMosaic.Lib.Pointwise
public import Idealize.ShloMosaic.Lib.ValueLayout

@[expose] public section

set_option maxRecDepth 16384

noncomputable section

namespace Cert.KernelIdeal.Value

open Idealize.ShloMosaic Idealize.ShloMosaic.TcCoe Idealize.ShloMosaic.Tactic Cert.KernelIdeal.Gen Cert.Attn

/-- The scale the bias is multiplied by, by name. -/
theorem named_log2e : Named.named (F := Ideal) κ "log2e" (φ := .f32) 0x3FB8AA3B#32 = (((Real.log 2)⁻¹ : ℝ) : EReal) := rfl

/-- The mask's fill, by name. -/
theorem named_mask : Named.named (F := Ideal) κ "mask" (φ := .f32) 0xF149F2CA#32 = (⊥ : EReal) := rfl

/-! ## The local attention -/

section Local

variable {w : ℕ} (q : FVec Ideal S128x128 .bf16) (k : FVec Ideal ⟨2, ![w, 128]⟩ .bf16) (t : FVec Ideal ⟨2, ![128, w]⟩ .f32)
  (s : FVec Ideal ⟨2, ![128, w]⟩ .f32) (vx : FVec Ideal ⟨2, ![w, 256]⟩ .bf16) (g : FVec Ideal S128x128 .bf16)
  (dS : DotDims S128x128 ⟨2, ![w, 128]⟩ ⟨2, ![128, w]⟩) (dV : DotDims ⟨2, ![128, w]⟩ ⟨2, ![w, 256]⟩ S128x256)
  (hc : (⟨2, ![128, w]⟩ : Shape).ShapeCasts ⟨2, ![128, w]⟩)
  (hr : (⟨2, ![128, w]⟩ : Shape).Reduces [1] S128) (hb : S128x1.Broadcasts ⟨2, ![128, w]⟩)

/-- The scores of 128 queries against `w` keys: the dot products plus the scaled bias. -/
def localScores : FVec Ideal ⟨2, ![128, w]⟩ .f32 :=
  addf (matmul dS none q k (constant ⟨2, ![128, w]⟩ .f32 0x00000000#32))
    (mulf (shapeCast ⟨2, ![128, w]⟩ t hc) (broadcast ⟨2, ![128, w]⟩ (Named.named κ "log2e" 0x3FB8AA3B#32)))

/-- The gated output of 128 queries from their scores, the weights' sum taken by the columns of ones beside the values. -/
def localMix : FVec Ideal S1x128x128 .bf16 :=
  let m := shapeCast S128x1 (multiReduction .maximumf [1] S128 s 0xFF800000#32 hr (.inl rfl) rfl) shapeCasts_S128_S128x1
  let y := matmul dV none (truncf .bf16 (exp2 (subf s (broadcastTo ⟨2, ![128, w]⟩ m hb))) bitsLt_bf16_f32) vx
    (constant S128x256 .f32 0x00000000#32)
  shapeCast S1x128x128 (mulf (truncf .bf16 (divf (extractStridedSlice S128x128 ![0, 0] y slices_S128x256_o0_0_S128x128)
    (extractStridedSlice S128x128 ![0, 128] y slices_S128x256_o0_128_S128x128)) bitsLt_bf16_f32) g) shapeCasts_S128x128_S1x128x128

variable {dS dV}

theorem localScores_at (hS : ∀ (x : FVec Ideal S128x128 .bf16) (y : FVec Ideal ⟨2, ![w, 128]⟩ .bf16) (r : Fin 128) (j : Fin w),
    matmul dS none x y (constant ⟨2, ![128, w]⟩ .f32 0x00000000#32) (ix2 r j) = ∑ d : Fin 128, x (ix2 r d) * y (ix2 j d))
    (r : Fin 128) (j : Fin w) :
    localScores q k t dS hc (ix2 r j) = (∑ d : Fin 128, q (ix2 r d) * k (ix2 j d)) + t (ix2 r j) * (((Real.log 2)⁻¹ : ℝ) : EReal) := by
  unfold localScores
  rw [← hS]
  pointwise
  rw [named_log2e]

theorem localMix_at (hV : ∀ (x : FVec Ideal ⟨2, ![128, w]⟩ .bf16) (y : FVec Ideal ⟨2, ![w, 256]⟩ .bf16) (r : Fin 128) (c : Fin 256),
    matmul dV none x y (constant S128x256 .f32 0x00000000#32) (ix2 r c) = ∑ j : Fin w, x (ix2 r j) * y (ix2 j c))
    (r c : Fin 128) :
    localMix s vx g dV hr hb (ix3 0 r c) =
      Ideal.div (∑ j : Fin w, Ideal.exp2 (s (ix2 r j) - top fun j => s (ix2 r j)) * vx (ix2 j ⟨c.val, by omega⟩))
        (∑ j : Fin w, Ideal.exp2 (s (ix2 r j) - top fun j => s (ix2 r j)) * vx (ix2 j ⟨128 + c.val, by omega⟩)) * g (ix2 r c) := by
  have hV' : ∀ (x : FVec Ideal ⟨2, ![128, w]⟩ .bf16) (y : FVec Ideal ⟨2, ![w, 256]⟩ .bf16) (r : Fin 128) (c : Fin 256),
    Ideal.matmul dV x y (constant (F := Ideal) S128x256 .f32 0x00000000#32) (ix2 r c) = ∑ j : Fin w, x (ix2 r j) * y (ix2 j c) := hV
  pointwise [localMix]
  rw [hV', hV']
  pointwise
  rw [ofBits_bot]
  rfl

end Local

/-! ## The differential attention -/

section Differential

variable {a : ℕ} (s s' : FVec Ideal S256x256 .f32) (t t' : FVec Ideal ⟨2, ![256, a]⟩ .f32) (lam : EReal)
  (vs : FVec Ideal S256x256 .bf16) (vt : FVec Ideal ⟨2, ![a, 256]⟩ .bf16) (gs : FVec Ideal S1x256 .f32)
  (dT : DotDims ⟨2, ![256, a]⟩ ⟨2, ![a, 256]⟩ S256x256)
  (hr : (⟨2, ![256, a]⟩ : Shape).Reduces [1] S256) (hb : S256x1.Broadcasts ⟨2, ![256, a]⟩)

/-- The largest score of each row, over both parts of it. -/
def diffTop : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 hr (.inl rfl) rfl) shapeCasts_S256_S256x1)

/-- The weights of the diagonal block, and of what lies to its left. -/
def diffWt : FVec Ideal S256x256 .f32 := exp2 (subf s (broadcastTo S256x256 (diffTop s t hr) broadcasts_S256x1_S256x256))
def diffWtL : FVec Ideal ⟨2, ![256, a]⟩ .f32 := exp2 (subf t (broadcastTo ⟨2, ![256, a]⟩ (diffTop s t hr) hb))

/-- The sum of each row's weights. -/
def diffSum : FVec Ideal S256x1 .f32 :=
  addf (shapeCast S256x1 (multiReduction .add [1] S256 (diffWt s t hr) 0x00000000#32 reduces_S256x256_S256 (.inl rfl) rfl) shapeCasts_S256_S256x1)
    (shapeCast S256x1 (multiReduction .add [1] S256 (diffWtL s t hr hb) 0x00000000#32 hr (.inl rfl) rfl) shapeCasts_S256_S256x1)

/-- The factor of the second map's weights. -/
def diffRatio : FVec Ideal S256x1 .f32 :=
  divf (mulf (broadcast S256x1 lam) (diffSum s t hr hb)) (diffSum s' t' hr hb)

/-- The values weighted by the difference of the two maps' weights. -/
def diffAcc : FVec Ideal S256x256 .f32 :=
  addf
    (matmul dot_S256x256_S256x256_S256x256_1_0_0_1_n_n none
      (truncf .bf16 (subf (diffWt s t hr) (mulf (diffWt s' t' hr)
        (broadcastTo S256x256 (diffRatio s s' t t' lam hr hb) broadcasts_S256x1_S256x256))) bitsLt_bf16_f32)
      vs (constant S256x256 .f32 0x00000000#32))
    (matmul dT none
      (truncf .bf16 (subf (diffWtL s t hr hb) (mulf (diffWtL s' t' hr hb)
        (broadcastTo ⟨2, ![256, a]⟩ (diffRatio s s' t t' lam hr hb) hb))) bitsLt_bf16_f32)
      vt (constant S256x256 .f32 0x00000000#32))

/-- Rows of weighted values normalised: `l` the first map's sums, `gs` the scaled gain. -/
def diffNorm (acc : FVec Ideal S256x256 .f32) (l : FVec Ideal S256x1 .f32) : FVec Ideal S256x256 .f32 :=
  let inv := divf (broadcast S256x1 (Scalar.ofBits .f32 0x3F800000#32)) l
  let ms := mulf (divf (shapeCast S256x1 (multiReduction .add [1] S256 (mulf acc acc) 0x00000000#32 reduces_S256x256_S256 (.inl rfl) rfl)
    shapeCasts_S256_S256x1) (broadcast S256x1 (Scalar.ofBits .f32 0x43800000#32))) (mulf inv inv)
  mulf (mulf acc (broadcastTo S256x256 (mulf inv (rsqrt (addf ms (broadcast S256x1 (Scalar.ofBits .f32 0x358637BD#32)))))
    broadcasts_S256x1_S256x256)) (broadcastTo S256x256 gs broadcasts_S1x256_S256x256)

/-- One half of the columns, gated. -/
def diffLo (y : FVec Ideal S256x256 .f32) (g : FVec Ideal S1x256x128 .bf16) : FVec Ideal S1x256x128 .bf16 :=
  shapeCast S1x256x128 (mulf (extractStridedSlice S256x128 ![0, 0] (truncf .bf16 y bitsLt_bf16_f32) slices_S256x256_o0_0_S256x128)
    (shapeCast S256x128 g shapeCasts_S1x256x128_S256x128)) shapeCasts_S256x128_S1x256x128
def diffHi (y : FVec Ideal S256x256 .f32) (g : FVec Ideal S1x256x128 .bf16) : FVec Ideal S1x256x128 .bf16 :=
  shapeCast S1x256x128 (mulf (extractStridedSlice S256x128 ![0, 128] (truncf .bf16 y bitsLt_bf16_f32) slices_S256x256_o0_128_S256x128)
    (shapeCast S256x128 g shapeCasts_S1x256x128_S256x128)) shapeCasts_S256x128_S1x256x128

theorem diffLo_at (y : FVec Ideal S256x256 .f32) (g : FVec Ideal S1x256x128 .bf16) (r : Fin 256) (c : Fin 128) :
    diffLo y g (ix3 0 r c) = y (ix2 r ⟨c.val, by omega⟩) * g (ix3 0 r c) := by
  pointwise [diffLo]

theorem diffHi_at (y : FVec Ideal S256x256 .f32) (g : FVec Ideal S1x256x128 .bf16) (r : Fin 256) (c : Fin 128) :
    diffHi y g (ix3 0 r c) = y (ix2 r ⟨128 + c.val, by omega⟩) * g (ix3 0 r c) := by
  pointwise [diffHi]

theorem diffNorm_at (acc : FVec Ideal S256x256 .f32) (l : FVec Ideal S256x1 .f32) (r c : Fin 256) :
    diffNorm gs acc l (ix2 r c) = acc (ix2 r c) * (Ideal.div 1 (l (ix2 r 0))
      * Ideal.rsqrt (Ideal.div (∑ d : Fin 256, acc (ix2 r d) * acc (ix2 r d)) ((256 : ℝ) : EReal)
        * (Ideal.div 1 (l (ix2 r 0)) * Ideal.div 1 (l (ix2 r 0))) + Ideal.ofBits .f32 0x358637BD#32)) * gs (ix2 0 c) := by
  pointwise [diffNorm]
  rw [ofBits_256]

theorem diffTop_at (r : Fin 256) : diffTop s t hr (ix2 r 0) = max (top fun j => s (ix2 r j)) (top fun j => t (ix2 r j)) := by
  pointwise [diffTop]
  rw [ofBits_bot]
  rfl

theorem diffWt_at (r c : Fin 256) : diffWt s t hr (ix2 r c)
    = Ideal.exp2 (s (ix2 r c) - max (top fun j => s (ix2 r j)) (top fun j => t (ix2 r j))) := by
  rw [← diffTop_at s t hr]
  pointwise [diffWt]
  rfl

theorem diffWtL_at (r : Fin 256) (c : Fin a) : diffWtL s t hr hb (ix2 r c)
    = Ideal.exp2 (t (ix2 r c) - max (top fun j => s (ix2 r j)) (top fun j => t (ix2 r j))) := by
  rw [← diffTop_at s t hr]
  pointwise [diffWtL]
  rfl

/-- Row `r` of the block, as the arithmetic of Proof/Softmax.lean has it. -/
def diffRow (r : Fin 256) : DiffRow a 256 256 where
  s₁ := fun j => s (ix2 r j)
  t₁ := fun j => t (ix2 r j)
  s₂ := fun j => s' (ix2 r j)
  t₂ := fun j => t' (ix2 r j)
  lam := lam
  vs := fun j c => vs (ix2 j c)
  vt := fun j c => vt (ix2 j c)

theorem diffSum_at (r : Fin 256) : diffSum s t hr hb (ix2 r 0)
    = (∑ j : Fin 256, Ideal.exp2 (s (ix2 r j) - max (top fun j => s (ix2 r j)) (top fun j => t (ix2 r j))))
      + ∑ j : Fin a, Ideal.exp2 (t (ix2 r j) - max (top fun j => s (ix2 r j)) (top fun j => t (ix2 r j))) := by
  simp only [← diffWt_at s t hr, ← diffWtL_at s t hr hb]
  pointwise [diffSum]

theorem diffRatio_at (r : Fin 256) : diffRatio s s' t t' lam hr hb (ix2 r 0) = (diffRow s s' t t' lam vs vt r).ratio := by
  have h : diffRatio s s' t t' lam hr hb (ix2 r 0) = Ideal.div (lam * diffSum s t hr hb (ix2 r 0)) (diffSum s' t' hr hb (ix2 r 0)) := by
    pointwise [diffRatio]
  rw [h, diffSum_at, diffSum_at]
  rfl

variable {dT}

theorem diffAcc_at (hT : ∀ (x : FVec Ideal ⟨2, ![256, a]⟩ .bf16) (y : FVec Ideal ⟨2, ![a, 256]⟩ .bf16) (r c : Fin 256),
    matmul dT none x y (constant S256x256 .f32 0x00000000#32) (ix2 r c) = ∑ j : Fin a, x (ix2 r j) * y (ix2 j c)) (r c : Fin 256) :
    diffAcc s s' t t' lam vs vt dT hr hb (ix2 r c) = (diffRow s s' t t' lam vs vt r).acc c := by
  have h : diffAcc s s' t t' lam vs vt dT hr hb (ix2 r c)
      = (∑ j : Fin 256, (diffWt s t hr (ix2 r j) - diffWt s' t' hr (ix2 r j) * diffRatio s s' t t' lam hr hb (ix2 r 0)) * vs (ix2 j c))
        + ∑ j : Fin a, (diffWtL s t hr hb (ix2 r j) - diffWtL s' t' hr hb (ix2 r j) * diffRatio s s' t t' lam hr hb (ix2 r 0)) * vt (ix2 j c) := by
    have hT' : ∀ (x : FVec Ideal ⟨2, ![256, a]⟩ .bf16) (y : FVec Ideal ⟨2, ![a, 256]⟩ .bf16) (r c : Fin 256),
      Ideal.matmul dT x y (constant (F := Ideal) S256x256 .f32 0x00000000#32) (ix2 r c) = ∑ j : Fin a, x (ix2 r j) * y (ix2 j c) := hT
    pointwise [diffAcc]
    rw [hT']
    pointwise [dot_S256x256_S256x256_S256x256_1_0_0_1_n_n]
  simp only [h, diffRatio_at s s' t t' lam vs vt, diffWt_at, diffWtL_at]
  rfl

/-- A normalised column of a block, as the arithmetic of Proof/Softmax.lean has it. -/
theorem diffOut_at (hT : ∀ (x : FVec Ideal ⟨2, ![256, a]⟩ .bf16) (y : FVec Ideal ⟨2, ![a, 256]⟩ .bf16) (r c : Fin 256),
    matmul dT none x y (constant S256x256 .f32 0x00000000#32) (ix2 r c) = ∑ j : Fin a, x (ix2 r j) * y (ix2 j c)) (r c : Fin 256) :
    diffNorm gs (diffAcc s s' t t' lam vs vt dT hr hb) (diffSum s t hr hb) (ix2 r c)
      = (diffRow s s' t t' lam vs vt r).out ((256 : ℝ) : EReal) (Ideal.ofBits .f32 0x358637BD#32) c * gs (ix2 0 c) := by
  rw [diffNorm_at]
  simp only [diffAcc_at _ _ _ _ _ _ _ _ _ hT, diffSum_at]
  rfl

/-! The first block has nothing to its left. -/

def firstTop : FVec Ideal S256x1 .f32 :=
  shapeCast S256x1 (multiReduction .maximumf [1] S256 s 0xFF800000#32 reduces_S256x256_S256 (.inl rfl) rfl) shapeCasts_S256_S256x1
def firstWt : FVec Ideal S256x256 .f32 := exp2 (subf s (broadcastTo S256x256 (firstTop s) broadcasts_S256x1_S256x256))
def firstSum : FVec Ideal S256x1 .f32 :=
  shapeCast S256x1 (multiReduction .add [1] S256 (firstWt s) 0x00000000#32 reduces_S256x256_S256 (.inl rfl) rfl) shapeCasts_S256_S256x1
def firstRatio : FVec Ideal S256x1 .f32 := divf (mulf (broadcast S256x1 lam) (firstSum s)) (firstSum s')
def firstAcc : FVec Ideal S256x256 .f32 :=
  matmul dot_S256x256_S256x256_S256x256_1_0_0_1_n_n none
    (truncf .bf16 (subf (firstWt s) (mulf (firstWt s') (broadcastTo S256x256 (firstRatio s s' lam) broadcasts_S256x1_S256x256))) bitsLt_bf16_f32)
    vs (constant S256x256 .f32 0x00000000#32)

theorem firstWt_at (r c : Fin 256) : firstWt s (ix2 r c) = Ideal.exp2 (s (ix2 r c) - top fun j => s (ix2 r j)) := by
  pointwise [firstWt, firstTop]
  rw [ofBits_bot]
  rfl

theorem firstSum_at (r : Fin 256) : firstSum s (ix2 r 0) = ∑ j : Fin 256, Ideal.exp2 (s (ix2 r j) - top fun j => s (ix2 r j)) := by
  simp only [← firstWt_at s]
  pointwise [firstSum]

/-- Row `r` of the first block, its left part empty. -/
def firstRow (r : Fin 256) : DiffRow 0 256 256 where
  s₁ := fun j => s (ix2 r j)
  t₁ := Fin.elim0
  s₂ := fun j => s' (ix2 r j)
  t₂ := Fin.elim0
  lam := lam
  vs := fun j c => vs (ix2 j c)
  vt := Fin.elim0

theorem firstRow_m₁ (r : Fin 256) : (firstRow s s' lam vs r).m₁ = top fun j => s (ix2 r j) := max_eq_left bot_le
theorem firstRow_m₂ (r : Fin 256) : (firstRow s s' lam vs r).m₂ = top fun j => s' (ix2 r j) := max_eq_left bot_le
theorem firstRow_l₁ (r : Fin 256) : (firstRow s s' lam vs r).l₁ = firstSum s (ix2 r 0) := by
  unfold DiffRow.l₁
  rw [firstRow_m₁, firstSum_at, Finset.univ_eq_empty (α := Fin 0), Finset.sum_empty, add_zero]
  rfl
theorem firstRow_l₂ (r : Fin 256) : (firstRow s s' lam vs r).l₂ = firstSum s' (ix2 r 0) := by
  unfold DiffRow.l₂
  rw [firstRow_m₂, firstSum_at, Finset.univ_eq_empty (α := Fin 0), Finset.sum_empty, add_zero]
  rfl

theorem firstRatio_at (r : Fin 256) : firstRatio s s' lam (ix2 r 0) = (firstRow s s' lam vs r).ratio := by
  unfold DiffRow.ratio
  rw [firstRow_l₁, firstRow_l₂]
  pointwise [firstRatio]
  rfl

theorem firstAcc_at (r c : Fin 256) : firstAcc s s' lam vs (ix2 r c) = (firstRow s s' lam vs r).acc c := by
  have h : firstAcc s s' lam vs (ix2 r c)
      = ∑ j : Fin 256, (firstWt s (ix2 r j) - firstWt s' (ix2 r j) * firstRatio s s' lam (ix2 r 0)) * vs (ix2 j c) := by
    pointwise [firstAcc, dot_S256x256_S256x256_S256x256_1_0_0_1_n_n]
  unfold DiffRow.acc
  rw [firstRow_m₁, firstRow_m₂, Finset.univ_eq_empty (α := Fin 0), Finset.sum_empty, add_zero]
  simp only [h, firstRatio_at s s' lam vs, firstWt_at]
  rfl

/-- A normalised column of the first block, as the arithmetic of Proof/Softmax.lean has it. -/
theorem firstOut_at (r c : Fin 256) : diffNorm gs (firstAcc s s' lam vs) (firstSum s) (ix2 r c)
    = (firstRow s s' lam vs r).out ((256 : ℝ) : EReal) (Ideal.ofBits .f32 0x358637BD#32) c * gs (ix2 0 c) := by
  rw [diffNorm_at]
  simp only [firstAcc_at]
  unfold DiffRow.out
  rw [firstRow_l₁]

end Differential

/-! ## The differential attention's scores -/

section Scores

variable {a : ℕ} (q k : FVec Ideal S1x256x128 .bf16) (hot hot' : FVec Ideal S256x128 .bf16) (kL : FVec Ideal ⟨3, ![1, a, 128]⟩ .bf16)
  (dS : DotDims S256x128 ⟨2, ![a, 128]⟩ ⟨2, ![256, a]⟩) (hc : (⟨3, ![1, a, 128]⟩ : Shape).ShapeCasts ⟨2, ![a, 128]⟩)

/-- The scores of the block on the diagonal: queries and keys each beside 128 further lanes that carry the mask. -/
def diffDiag : FVec Ideal S256x256 .f32 :=
  matmul dot_S256x256_S256x256_S256x256_1_1_0_0_n_n none
    (concatenate S256x256 1 [⟨S256x128, shapeCast S256x128 q shapeCasts_S1x256x128_S256x128⟩, ⟨S256x128, hot⟩] concatenates_S256x128_S256x128_S256x256_d1)
    (concatenate S256x256 1 [⟨S256x128, shapeCast S256x128 k shapeCasts_S1x256x128_S256x128⟩, ⟨S256x128, hot'⟩] concatenates_S256x128_S256x128_S256x256_d1)
    (constant S256x256 .f32 0x00000000#32)

/-- The scores against the keys to the left of the block, all of which are seen. -/
def diffLeft : FVec Ideal ⟨2, ![256, a]⟩ .f32 :=
  matmul dS none (shapeCast S256x128 q shapeCasts_S1x256x128_S256x128) (shapeCast ⟨2, ![a, 128]⟩ kL hc) (constant ⟨2, ![256, a]⟩ .f32 0x00000000#32)

theorem diffDiag_at (r j : Fin 256) : diffDiag q k hot hot' (ix2 r j)
    = (∑ d : Fin 128, q (ix3 0 r d) * k (ix3 0 j d)) + ∑ l : Fin 128, hot (ix2 r l) * hot' (ix2 j l) := by
  pointwise [diffDiag, dot_S256x256_S256x256_S256x256_1_1_0_0_n_n]

variable {dS}

theorem diffLeft_at (hS : ∀ (x : FVec Ideal S256x128 .bf16) (y : FVec Ideal ⟨2, ![a, 128]⟩ .bf16) (r : Fin 256) (j : Fin a),
    matmul dS none x y (constant ⟨2, ![256, a]⟩ .f32 0x00000000#32) (ix2 r j) = ∑ d : Fin 128, x (ix2 r d) * y (ix2 j d))
    (r : Fin 256) (j : Fin a) : diffLeft q kL dS hc (ix2 r j) = ∑ d : Fin 128, q (ix3 0 r d) * kL (ix3 0 j d) := by
  unfold diffLeft
  rw [hS]
  pointwise
  exact Finset.sum_congr rfl fun d _ => congrArg _ (congrArg kL (ValueIdx.reshapeEquiv_ix2_1ab hc j d))

/-- The chunk of each query, marked by a one on its lane. -/
def queryHot : FVec Ideal S256x128 .bf16 := k0_pay6 k0_pay4 (Scalar.ofBits .f32 0x00000000#32) (k0_pay5 (F := Ideal))

/-- On every lane of an earlier chunk of the block than the key's, the mask's fill. -/
def keyHot : FVec Ideal S256x128 .bf16 := k0_pay7 (F := Ideal) k0_pay3 (iota .tc S256x128 32 [1] iota_S256x128_d1_w32)

theorem chunk_word (r : Fin 256) (l : Fin 128) : k0_pay3 (ix2 r l) = BitVec.ofNat 32 (r.val / 64) := by
  pointwise [k0_pay3]
  revert r
  decide +kernel

theorem queryHot_at (r : Fin 256) (l : Fin 128) : queryHot (ix2 r l) = if l.val = r.val / 64 then 1 else 0 := by
  pointwise [queryHot, k0_pay6, k0_pay4, k0_pay5, chunk_word]
  have hr : r.val / 64 < 4 := by omega
  have h : ∀ l : Fin 128, ∀ n : Fin 4, IntOp.cmpi CmpIPredicate.eq (BitVec.ofNat 32 l.val) (BitVec.ofNat 32 n.val)
      = if l.val = n.val then 1#1 else 0#1 := by decide +kernel
  rw [h l ⟨_, hr⟩]
  by_cases e : l.val = r.val / 64
  · rw [if_pos e, if_pos e]; rfl
  · rw [if_neg e, if_neg e]; rfl

theorem keyHot_at (j : Fin 256) (l : Fin 128) : keyHot (ix2 j l) = if l.val < 4 ∧ l.val < j.val / 64 then ⊥ else 0 := by
  pointwise [keyHot, k0_pay7, chunk_word]
  have hr : j.val / 64 < 4 := by omega
  have h : ∀ l : Fin 128, ∀ n : Fin 4, IntOp.andi (IntOp.cmpi CmpIPredicate.slt (BitVec.ofNat 32 l.val) 4#32)
      (IntOp.cmpi CmpIPredicate.sgt (BitVec.ofNat 32 n.val) (BitVec.ofNat 32 l.val))
      = if l.val < 4 ∧ l.val < n.val then 1#1 else 0#1 := by decide +kernel
  rw [h l ⟨_, hr⟩]
  by_cases e : l.val < 4 ∧ l.val < j.val / 64
  · rw [if_pos e, if_pos e]; rfl
  · rw [if_neg e, if_neg e]; rfl

/-- Together the marks add nothing where the key's chunk is no later than the query's, and the mask's fill elsewhere. -/
theorem hot_at (r j : Fin 256) : ∑ l : Fin 128, queryHot (ix2 r l) * keyHot (ix2 j l) = if j.val / 64 ≤ r.val / 64 then 0 else ⊥ := by
  have h : ∀ l : Fin 128, queryHot (ix2 r l) * keyHot (ix2 j l)
      = if l = (⟨r.val / 64, by omega⟩ : Fin 128) then (if j.val / 64 ≤ r.val / 64 then 0 else ⊥) else 0 := by
    intro l
    rw [queryHot_at, keyHot_at]
    by_cases hl : l.val = r.val / 64
    · rw [if_pos hl, if_pos (Fin.ext hl), one_mul]
      by_cases hj : j.val / 64 ≤ r.val / 64
      · rw [if_neg (by omega), if_pos hj]
      · rw [if_pos (by omega), if_neg hj]
    · rw [if_neg hl, zero_mul, if_neg fun e => hl (congrArg Fin.val e)]
  rw [Finset.sum_congr rfl fun l _ => h l, Finset.sum_ite_eq' Finset.univ, if_pos (Finset.mem_univ _)]

end Scores

end Cert.KernelIdeal.Value

end
-- ==== Proof.KernelLoads.lean ====
/- Reading the kernel's loads: a box of a head's rows and columns, at an element, is the block's own element. -/
module

public import Idealize.ShloMosaic.Lib.Pipeline.ValueKit
public import proofs.«01_k».proof.Proof.Gen.KernelIdeal.Value
public import proofs.«01_k».proof.Proof.KernelRows

@[expose] public section

set_option maxRecDepth 16384

noncomputable section

namespace Cert.KernelIdeal.Value

open Idealize Idealize.ShloMosaic
open Cert.KernelIdeal Cert.KernelIdeal.Gen Cert.Attn Idealize.ShloMosaic.Tactic

section Loads

variable {A B C M N a b g r₀ c₀ : ℕ}

/-- The element of a load of `a` rows and `b` columns, at `(r₀, c₀)`, of plane `g` of a block. -/
theorem load_idx (inb) (inb') (h0 : ![1, M, N] 0 = 1) (hs) (h) (hR) (i : Fin a) (j : Fin b)
    (y : (⟨3, ![A, B, C]⟩ : Shape).Idx) (e0 : (y 0).val = g) (e1 : (y 1).val = r₀ + i.val) (e2 : (y 2).val = c₀ + j.val) :
    ((Rect.unit (s := ⟨3, ![A, B, C]⟩) ![g, 0, 0] ![1, M, N] inb).withinL
      ((Rect.unit (s := ⟨2, ![M, N]⟩) ![r₀, c₀] ![a, b] inb').toLoadRect.consLift ![1, M, N] h0 hs) h).idx
      (Shape.reshapeEquiv hR (ix2 i j)) = y := by
  have e : Shape.reshapeEquiv hR (ix2 i j : (⟨2, ![a, b]⟩ : Shape).Idx) = Fin.cons ⟨0, Nat.one_pos⟩ (ix2 i j) :=
    Shape.reshapeEquiv_cons_one _ _
  rw [e]
  funext k
  fin_cases k
  · exact Fin.ext (by simp [LoadRect.idx_apply, Rect.withinL, LoadRect.consLift]; exact e0.symm)
  · exact Fin.ext (by simp [LoadRect.idx_apply, Rect.withinL, LoadRect.consLift]; exact e1.symm)
  · exact Fin.ext (by simp [LoadRect.idx_apply, Rect.withinL, LoadRect.consLift]; exact (show c₀ + 1 * j.val = (y 2).val by omega))

/-- So a load of a block's box, through a slice and a squeeze, reads the block. -/
theorem load_at {τ} (m : Memref sig .tc .vmem ⟨3, ![A, B, C]⟩ τ) (hm : m.IsWhole) (X : Vec Ideal ⟨3, ![A, B, C]⟩ τ)
    (inb) (inb') (h0 : ![1, M, N] 0 = 1) (hs) (h) (hR) (i : Fin a) (j : Fin b)
    (y : (⟨3, ![A, B, C]⟩ : Shape).Idx) (e0 : (y 0).val = g) (e1 : (y 1).val = r₀ + i.val) (e2 : (y 2).val = c₀ + j.val) :
    LoadRect.valAlong (lr := (Rect.unit (s := ⟨2, ![M, N]⟩) ![r₀, c₀] ![a, b] inb').toLoadRect) hR (View.readAt (Elt Ideal) m.view ((Rect.unit (s := ⟨3, ![A, B, C]⟩) ![g, 0, 0] ![1, M, N] inb).withinL
      ((Rect.unit (s := ⟨2, ![M, N]⟩) ![r₀, c₀] ![a, b] inb').toLoadRect.consLift ![1, M, N] h0 hs) h) (hm.unread X)) (ix2 i j)
      = X y := by
  refine (View.readAt_apply _ _ _).trans ?_
  rw [Memref.IsWhole.read_unread]
  exact congrArg X (load_idx inb inb' h0 hs h hR i j y e0 e1 e2)

/-- A load of a box of a buffer the kernel itself filled reads what the stores left. -/
theorem cover_at {τ} (m : Memref sig .tc .vmem ⟨3, ![A, B, C]⟩ τ) (L : List (View.Piece (Elt Ideal) ⟨3, ![A, B, C]⟩ τ))
    (inb) (inb') (h0 : ![1, M, N] 0 = 1) (hs) (h) (hR) (i : Fin a) (j : Fin b)
    (y : (⟨3, ![A, B, C]⟩ : Shape).Idx) (e0 : (y 0).val = g) (e1 : (y 1).val = r₀ + i.val) (e2 : (y 2).val = c₀ + j.val) :
    LoadRect.valAlong (lr := (Rect.unit (s := ⟨2, ![M, N]⟩) ![r₀, c₀] ![a, b] inb').toLoadRect) hR (m.view.readCov L ((Rect.unit (s := ⟨3, ![A, B, C]⟩) ![g, 0, 0] ![1, M, N] inb).withinL
      ((Rect.unit (s := ⟨2, ![M, N]⟩) ![r₀, c₀] ![a, b] inb').toLoadRect.consLift ![1, M, N] h0 hs) h)) (ix2 i j)
      = View.canon L y := by
  rw [View.readCov_eq_canon']
  exact congrArg (View.canon L) (load_idx inb inb' h0 hs h hR i j y e0 e1 e2)

end Loads

/-- The values of a head with 128 columns of ones beside them. -/
def valuesOnes (X : Vec Ideal S2x2048x128 .bf16) (y : S2x2048x256.Idx) : EReal :=
  if h : (y 2).val < 128 then X (ix3 (y 0 : Fin 2) (y 1 : Fin 2048) (⟨(y 2).val, h⟩ : Fin 128)) else 1

/-- A stored plane of ones, in the right half. -/
theorem valuesOnes_right (p : Vec Ideal S1x2048x128 .bf16) (X : Vec Ideal S2x2048x128 .bf16) (x : S1x2048x128.Idx) (y : S2x2048x256.Idx)
    (h : (y 2).val = 128 + (x 2).val) (hp : ∀ r c, p (ix3 0 r c) = (1 : EReal)) : p x = valuesOnes X y := by
  have e : x = ix3 (0 : Fin 1) (x 1 : Fin 2048) (x 2 : Fin 128) := by blk_ext
  rw [valuesOnes, dif_neg (by omega), e]
  exact hp _ _

/-- A stored plane of the values, in the left half. -/
theorem valuesOnes_left (p : Vec Ideal S1x2048x128 .bf16) (X : Vec Ideal S2x2048x128 .bf16) (x : S1x2048x128.Idx) (y : S2x2048x256.Idx)
    (g : Fin 2) (h0 : (y 0).val = g.val) (h1 : (y 1).val = (x 1).val) (h2 : (y 2).val = (x 2).val)
    (hp : ∀ r c, p (ix3 0 r c) = X (ix3 g r c)) : p x = valuesOnes X y := by
  have e : x = ix3 (0 : Fin 1) (x 1 : Fin 2048) (x 2 : Fin 128) := by blk_ext
  have hx : (x 2).val < 128 := (x 2).isLt
  have ey : (ix3 (y 0 : Fin 2) (y 1 : Fin 2048) (⟨(y 2).val, by omega⟩ : Fin 128) : S2x2048x128.Idx) = ix3 g (x 1 : Fin 2048) (x 2 : Fin 128) := by
    blk_ext
  rw [valuesOnes, dif_pos (by omega)]
  exact (congrArg p e).trans ((hp _ _).trans (congrArg X ey.symm))

theorem mem_plane {g o : ℕ} (inb) (y : S2x2048x256.Idx) (h0 : (y 0).val = g) (h2 : o ≤ (y 2).val ∧ (y 2).val < o + 128) :
    y ∈ (Rect.unit (s := S2x2048x256) ![g, 0, o] ![1, 2048, 128] inb).set := by
  have hr : (y 1).val < 2048 := (y 1).isLt
  refine Rect.mem_set_unit.mpr fun k => ?_
  fin_cases k
  · show g ≤ (y 0).val ∧ (y 0).val < g + 1; omega
  · show 0 ≤ (y 1).val ∧ (y 1).val < 0 + 2048; omega
  · exact h2

/-- The two stores of a head's plane, whatever was stored before. -/
theorem filled {g : ℕ} (X : Vec Ideal S2x2048x128 .bf16) (G : Fin 2) (hG : G.val = g) (iR iL) (pR pL : Vec Ideal S1x2048x128 .bf16)
    (hR : ∀ r c, pR (ix3 0 r c) = (1 : EReal)) (hL : ∀ r c, pL (ix3 0 r c) = X (ix3 G r c))
    (L : List (View.Piece (Elt Ideal) S2x2048x256 .bf16)) (y : S2x2048x256.Idx) (hy : (y 0).val = g) :
    View.canon (⟨Rect.unit (s := S2x2048x256) ![g, 0, 128] ![1, 2048, 128] iR, pR⟩
      :: ⟨Rect.unit (s := S2x2048x256) ![g, 0, 0] ![1, 2048, 128] iL, pL⟩ :: L) y = valuesOnes X y := by
  have hc : (y 2).val < 256 := (y 2).isLt
  by_cases e2 : (y 2).val < 128
  · obtain ⟨x, hx⟩ := LoadRect.exists_idx_of_mem _ (mem_plane iL y hy ⟨Nat.zero_le _, by omega⟩)
    rw [View.canon_cons_of_not_mem _ _ fun hm => by have : 128 ≤ (y 2).val := ((Rect.mem_set_unit (inb := iR)).mp hm 2).1; omega]
    have hv : ∀ a, (y a).val = ![g, 0, 0] a + (x a).val := fun a => by
      rw [← hx]; exact congrArg (_ + ·) (Nat.one_mul _)
    subst hx
    refine (View.canon_cons_emb _ _ _ _).trans ?_
    exact valuesOnes_left pL X x _ G (hy.trans hG.symm) ((hv 1).trans (Nat.zero_add _)) ((hv 2).trans (Nat.zero_add _)) hL
  · obtain ⟨x, hx⟩ := LoadRect.exists_idx_of_mem _ (mem_plane iR y hy ⟨by omega, by omega⟩)
    have hv : ∀ a, (y a).val = ![g, 0, 128] a + (x a).val := fun a => by
      rw [← hx]; exact congrArg (_ + ·) (Nat.one_mul _)
    subst hx
    refine (View.canon_cons_emb _ _ _ _).trans ?_
    exact valuesOnes_right pR X x _ (hv 2) hR

/-- A store to the second plane leaves the first one. -/
theorem below {o : ℕ} (inb) (p : Vec Ideal S1x2048x128 .bf16) {L : List (View.Piece (Elt Ideal) S2x2048x256 .bf16)} (y : S2x2048x256.Idx)
    (hy : (y 0).val = 0) :
    View.canon (⟨Rect.unit (s := S2x2048x256) ![1, 0, o] ![1, 2048, 128] inb, p⟩ :: L) y = View.canon L y :=
  View.canon_cons_of_not_mem _ _ fun hm => by
    have : 1 ≤ (y 0).val := ((Rect.mem_set_unit (inb := inb)).mp hm 0).1
    omega

theorem ones_first (r : Fin 2048) (c : Fin 128) :
    k0_pay148 (broadcast S2048x128 (FloatOps.ofBits (F := Ideal) FTy.bf16 16256#16)) (ix3 0 r c) = (1 : EReal) := by
  pointwise [k0_pay148]

theorem ones_second (r : Fin 2048) (c : Fin 128) : k0_pay155 (F := Ideal) (ix3 0 r c) = (1 : EReal) := by
  pointwise [k0_pay155]

theorem values_first (X : Vec Ideal S2x2048x128 .bf16) (l₀ h₀ h₁ h₂) (r : Fin 2048) (c : Fin 128) :
    shapeCast S1x2048x128 (shapeCast S2048x128 (shapeCast S2048x128 (View.ld X
      (Rect.unit (s := S2x2048x128) ![0, 0, 0] ![1, 2048, 128] l₀)) h₀) h₁) h₂ (ix3 0 r c) = X (ix3 0 r c) := by
  pointwise

theorem values_second (X : Vec Ideal S2x2048x128 .bf16) (l₀) (r : Fin 2048) (c : Fin 128) :
    k0_pay154 (k0_pay153 (View.ld X (Rect.unit (s := S2x2048x128) ![1, 0, 0] ![1, 2048, 128] l₀))) (ix3 0 r c) = X (ix3 1 r c) := by
  pointwise [k0_pay154, k0_pay153]

end Cert.KernelIdeal.Value
-- ==== Proof.KernelLocal.lean ====
/- The kernel's local attention: each of its stores holds the attention of 128 queries of one head. -/
module

public import proofs.«01_k».proof.Proof.KernelLoads

@[expose] public section

set_option maxRecDepth 65536

noncomputable section

namespace Cert.KernelIdeal.Value

open Idealize Idealize.ShloMosaic Idealize.ShloMosaic.Tactic
open Cert.KernelIdeal Cert.KernelIdeal.Gen Cert.Attn

/-- The bias tile at row `r` and column `x`, column 512 being the block's first key: the table's entry where the key is
    seen, `⊥` elsewhere. -/
def tile (T : Fin 257 → EReal) (r : Fin 128) (x : Fin 640) : EReal :=
  if x.val / 64 ≤ r.val / 64 + 8 ∧ r.val / 64 ≤ x.val / 64 then T ⟨min (r.val + 640 - x.val) 256, by omega⟩ else ⊥

/-- The dot product plus the tile over `ln 2` is the local attention's score. -/
theorem local_score (Q : Heads 64) (T : Fin 16 → Fin 257 → EReal) (h : Fin 16) (b : Fin 8) {q₀ k₀ w : ℕ} (hq : q₀ % 128 = 0)
    (hn : q₀ + 128 ≤ 2048) (hk : k₀ + w = q₀ + 128) (hw : w ≤ 640) (r : Fin 128) (j : Fin w) :
    dot (Q ⟨h.val, by omega⟩ (row b ⟨q₀ + r.val, by omega⟩)) (Q ⟨16 + h.val, by omega⟩ (row b ⟨k₀ + j.val, by omega⟩))
      + tile (T h) r ⟨640 - w + j.val, by omega⟩ * (((Real.log 2)⁻¹ : ℝ) : EReal)
      = aScore Q T h b ⟨q₀ + r.val, by omega⟩ ⟨k₀ + j.val, by omega⟩ := by
  have hj := j.isLt
  unfold aScore tile
  by_cases hv : (640 - w + j.val) / 64 ≤ r.val / 64 + 8 ∧ r.val / 64 ≤ (640 - w + j.val) / 64
  · rw [if_pos hv, if_pos (show near _ _ from ⟨by dsimp only; omega, by dsimp only; omega⟩)]
    refine congrArg (fun x => _ + T h x * _) (Fin.ext ?_)
    dsimp only [rel]
    omega
  · rw [if_neg hv, if_neg (fun e : near _ _ => by have e1 := e.1; have e2 := e.2; dsimp only at e1 e2; omega),
      EReal.bot_mul_coe_of_pos (inv_pos.mpr (Real.log_pos one_lt_two)), EReal.add_bot]

/-- The blocks of a grid point at batch entry `b`: two heads' queries, keys, values, bias tiles and gates. -/
structure LocalBlocks (Q : Heads 64) (V G : Heads 32) (T : Fin 16 → Fin 257 → EReal) (e b : Fin 8)
    (x1 x2 x3 : Vec Ideal S2x2048x128 .bf16) (x4 : Vec Ideal S2x128x640 .f32) (x5 : Vec Ideal S2x2048x128 .bf16) : Prop where
  q : ∀ (g : Fin 2) i d, x1 (ix3 g i d) = Q ⟨2 * e.val + g.val, by omega⟩ (row b i) d
  k : ∀ (g : Fin 2) i d, x2 (ix3 g i d) = Q ⟨16 + (2 * e.val + g.val), by omega⟩ (row b i) d
  v : ∀ (g : Fin 2) i d, x3 (ix3 g i d) = V ⟨2 * e.val + g.val, by omega⟩ (row b i) d
  t : ∀ (g : Fin 2) r j, x4 (ix3 g r j) = tile (T ⟨2 * e.val + g.val, by omega⟩) r j
  gate : ∀ (g : Fin 2) i d, x5 (ix3 g i d) = G ⟨2 * e.val + g.val, by omega⟩ (row b i) d

/-- What the local attention leaves in a block of two heads. -/
def localOut (Q : Heads 64) (V G : Heads 32) (T : Fin 16 → Fin 257 → EReal) (e b : Fin 8) (y : S2x2048x128.Idx) : EReal :=
  aOut Q V G T ⟨2 * e.val + (y 0).val, by have : (y 0).val < 2 := (y 0).isLt; omega⟩ b (y 1) (y 2)

section Block

variable {Q : Heads 64} {V G : Heads 32} {T : Fin 16 → Fin 257 → EReal} {q₀ k₀ w : ℕ}
  {q g : FVec Ideal S128x128 .bf16} {k : FVec Ideal ⟨2, ![w, 128]⟩ .bf16} {t : FVec Ideal ⟨2, ![128, w]⟩ .f32}
  {vx : FVec Ideal ⟨2, ![w, 256]⟩ .bf16}
  {dS : DotDims S128x128 ⟨2, ![w, 128]⟩ ⟨2, ![128, w]⟩} {dV : DotDims ⟨2, ![128, w]⟩ ⟨2, ![w, 256]⟩ S128x256}
  {hc : (⟨2, ![128, w]⟩ : Shape).ShapeCasts ⟨2, ![128, w]⟩}
  {hr : (⟨2, ![128, w]⟩ : Shape).Reduces [1] S128} {hb : S128x1.Broadcasts ⟨2, ![128, w]⟩}

/-- A block of the local attention: 128 queries from `q₀` of one head against the `w` keys up to their own. -/
theorem local_block (hQ : ∀ a t d, ∃ r : ℝ, Q a t d = r) (hT : ∀ h x, ∃ r : ℝ, T h x = r)
    (hS : ∀ (x : FVec Ideal S128x128 .bf16) (y : FVec Ideal ⟨2, ![w, 128]⟩ .bf16) (r : Fin 128) (j : Fin w),
      matmul dS none x y (constant ⟨2, ![128, w]⟩ .f32 0x00000000#32) (ix2 r j) = ∑ d : Fin 128, x (ix2 r d) * y (ix2 j d))
    (hV : ∀ (x : FVec Ideal ⟨2, ![128, w]⟩ .bf16) (y : FVec Ideal ⟨2, ![w, 256]⟩ .bf16) (r : Fin 128) (c : Fin 256),
      matmul dV none x y (constant (F := Ideal) S128x256 .f32 0x00000000#32) (ix2 r c) = ∑ j : Fin w, x (ix2 r j) * y (ix2 j c))
    (h : Fin 16) (b : Fin 8) (hq : q₀ % 128 = 0) (hn : q₀ + 128 ≤ 2048) (hk : k₀ + w = q₀ + 128) (hw : w ≤ 640) (hz : k₀ = 0 ∨ w = 640)
    (eq : ∀ r d, q (ix2 r d) = Q ⟨h.val, by omega⟩ (row b ⟨q₀ + r.val, by omega⟩) d)
    (ek : ∀ j d, k (ix2 j d) = Q ⟨16 + h.val, by omega⟩ (row b ⟨k₀ + j.val, by omega⟩) d)
    (et : ∀ r j, t (ix2 r j) = tile (T h) r ⟨640 - w + j.val, by omega⟩)
    (ev : ∀ (j : Fin w) (c : Fin 128), vx (ix2 j ⟨c.val, by omega⟩) = V ⟨h.val, by omega⟩ (row b ⟨k₀ + j.val, by omega⟩) c)
    (eo : ∀ (j : Fin w) (c : Fin 128), vx (ix2 j ⟨128 + c.val, by omega⟩) = (1 : EReal))
    (eg : ∀ r c, g (ix2 r c) = G ⟨h.val, by omega⟩ (row b ⟨q₀ + r.val, by omega⟩) c) (r c : Fin 128) :
    localMix (localScores q k t dS hc) vx g dV hr hb (ix3 0 r c) = aOut Q V G T h b ⟨q₀ + r.val, by omega⟩ c := by
  have hs : ∀ j : Fin w, localScores q k t dS hc (ix2 r j) = aScore Q T h b ⟨q₀ + r.val, by omega⟩ ⟨k₀ + j.val, by omega⟩ := fun j => by
    rw [localScores_at _ _ _ hc hS, ← local_score Q T h b hq hn hk hw r j, et]
    exact congrArg (· + _) (Finset.sum_congr rfl fun d _ => by rw [eq, ek])
  rw [localMix_at _ _ _ hr hb hV, eg]
  simp only [eo]
  refine congrArg (· * _) ?_
  refine local_row (n := 2048) (off := k₀) (by omega) (aScore_scores hQ hT h b _) (fun j hj => if_neg fun e => ?_)
    (fun _ => rfl) (fun j => V ⟨h.val, by omega⟩ (row b j) c) hs fun j => ev j c
  have e1 : j.val / 64 ≤ (q₀ + r.val) / 64 := e.1
  have e2 : (q₀ + r.val) / 64 ≤ j.val / 64 + 8 := e.2
  omega

end Block

section Piece

variable {Q : Heads 64} {V G : Heads 32} {T : Fin 16 → Fin 257 → EReal} (hQ : ∀ a t d, ∃ r : ℝ, Q a t d = r)
  (hT : ∀ h x, ∃ r : ℝ, T h x = r) {e b : Fin 8} {x1 x2 x3 x5 : Vec Ideal S2x2048x128 .bf16} {x4 : Vec Ideal S2x128x640 .f32}
  (hB : LocalBlocks Q V G T e b x1 x2 x3 x4 x5)
  {arg3 arg4 arg7 : Memref sig .tc .vmem S2x2048x128 .bf16} {arg6 : Memref sig .tc .vmem S2x128x640 .f32}
  {arg15 : Memref sig .tc .vmem S2x2048x256 .bf16} {harg3 : arg3.IsWhole} {harg4 : arg4.IsWhole} {harg6 : arg6.IsWhole}
  {harg7 : arg7.IsWhole} {L : List (View.Piece (Elt Ideal) S2x2048x256 .bf16)}
  {g q₀ k₀ w b₀ : ℕ}
  {dS : DotDims S128x128 ⟨2, ![w, 128]⟩ ⟨2, ![128, w]⟩} {dV : DotDims ⟨2, ![128, w]⟩ ⟨2, ![w, 256]⟩ S128x256}
  {hc : (⟨2, ![128, w]⟩ : Shape).ShapeCasts ⟨2, ![128, w]⟩}
  {hr : (⟨2, ![128, w]⟩ : Shape).Reduces [1] S128} {hb : S128x1.Broadcasts ⟨2, ![128, w]⟩}

include hQ hT hB in
/-- One store of the local attention: 128 queries from `q₀` against the `w` keys up to their own. -/
theorem local_piece {i3 j3 a3 b3 c3 r3 i4 j4 a4 b4 c4 r4 i6 j6 a6 b6 c6 r6 i7 j7 a7 b7 c7 r7 i15 j15 a15 b15 c15 r15}
    (hS : ∀ (x : FVec Ideal S128x128 .bf16) (y : FVec Ideal ⟨2, ![w, 128]⟩ .bf16) (r : Fin 128) (j : Fin w),
      matmul dS none x y (constant ⟨2, ![128, w]⟩ .f32 0x00000000#32) (ix2 r j) = ∑ d : Fin 128, x (ix2 r d) * y (ix2 j d))
    (hV : ∀ (x : FVec Ideal ⟨2, ![128, w]⟩ .bf16) (y : FVec Ideal ⟨2, ![w, 256]⟩ .bf16) (r : Fin 128) (c : Fin 256),
      matmul dV none x y (constant (F := Ideal) S128x256 .f32 0x00000000#32) (ix2 r c) = ∑ j : Fin w, x (ix2 r j) * y (ix2 j c))
    (hL : ∀ y : S2x2048x256.Idx, (y 0).val = g → View.canon L y = valuesOnes x3 y)
    (x : S1x128x128.Idx) (y : S2x2048x128.Idx)
    (hg : (y 0).val = g) (h1 : (y 1).val = q₀ + (x 1).val) (h2 : (y 2).val = (x 2).val)
    (hq : q₀ % 128 = 0) (hn : q₀ + 128 ≤ 2048) (hk : k₀ + w = q₀ + 128) (hw : w ≤ 640) (hz : k₀ = 0 ∨ w = 640) (hb₀ : b₀ = 640 - w) :
    localMix
      (localScores
        (LoadRect.valAlong (lr := (Rect.unit (s := S2048x128) ![q₀, 0] ![128, 128] j3).toLoadRect) r3
          (View.readAt (Elt Ideal) arg3.view ((Rect.unit (s := S2x2048x128) ![g, 0, 0] ![1, 2048, 128] i3).withinL
            ((Rect.unit (s := S2048x128) ![q₀, 0] ![128, 128] j3).toLoadRect.consLift ![1, 2048, 128] a3 b3) c3) (harg3.unread x1)))
        (LoadRect.valAlong (lr := (Rect.unit (s := S2048x128) ![k₀, 0] ![w, 128] j4).toLoadRect) r4
          (View.readAt (Elt Ideal) arg4.view ((Rect.unit (s := S2x2048x128) ![g, 0, 0] ![1, 2048, 128] i4).withinL
            ((Rect.unit (s := S2048x128) ![k₀, 0] ![w, 128] j4).toLoadRect.consLift ![1, 2048, 128] a4 b4) c4) (harg4.unread x2)))
        (LoadRect.valAlong (lr := (Rect.unit (s := S128x640) ![0, b₀] ![128, w] j6).toLoadRect) r6
          (View.readAt (Elt Ideal) arg6.view ((Rect.unit (s := S2x128x640) ![g, 0, 0] ![1, 128, 640] i6).withinL
            ((Rect.unit (s := S128x640) ![0, b₀] ![128, w] j6).toLoadRect.consLift ![1, 128, 640] a6 b6) c6) (harg6.unread x4)))
        dS hc)
      (LoadRect.valAlong (lr := (Rect.unit (s := S2048x256) ![k₀, 0] ![w, 256] j15).toLoadRect) r15
        (arg15.view.readCov L ((Rect.unit (s := S2x2048x256) ![g, 0, 0] ![1, 2048, 256] i15).withinL
          ((Rect.unit (s := S2048x256) ![k₀, 0] ![w, 256] j15).toLoadRect.consLift ![1, 2048, 256] a15 b15) c15)))
      (LoadRect.valAlong (lr := (Rect.unit (s := S2048x128) ![q₀, 0] ![128, 128] j7).toLoadRect) r7
        (View.readAt (Elt Ideal) arg7.view ((Rect.unit (s := S2x2048x128) ![g, 0, 0] ![1, 2048, 128] i7).withinL
          ((Rect.unit (s := S2048x128) ![q₀, 0] ![128, 128] j7).toLoadRect.consLift ![1, 2048, 128] a7 b7) c7) (harg7.unread x5)))
      dV hr hb x = localOut Q V G T e b y := by
  have hg2 : g < 2 := hg ▸ (y 0).isLt
  have ex : x = ix3 (0 : Fin 1) (x 1 : Fin 128) (x 2 : Fin 128) := by blk_ext
  have key : localOut Q V G T e b y
      = aOut Q V G T ⟨2 * e.val + g, by omega⟩ b ⟨q₀ + (x 1 : Fin 128).val, by have : (x 1).val < 128 := (x 1).isLt; omega⟩ (x 2 : Fin 128) := by
    have e0 : (y 0 : Fin 2) = ⟨g, hg2⟩ := Fin.ext hg
    have e1 : (y 1 : Fin 2048) = ⟨q₀ + (x 1 : Fin 128).val, by have : (x 1).val < 128 := (x 1).isLt; omega⟩ := Fin.ext h1
    have e2 : (y 2 : Fin 128) = (x 2 : Fin 128) := Fin.ext h2
    unfold localOut
    subst hg
    exact congrArg₂ (aOut Q V G T _ b) e1 e2
  refine ((congrArg _ ex).trans ?_).trans key.symm
  refine local_block hQ hT hS hV ⟨2 * e.val + g, by omega⟩ b hq hn hk hw hz (fun r d => ?_) (fun j d => ?_) (fun r j => ?_)
    (fun j c => ?_) (fun j c => ?_) (fun r c => ?_) _ _
  · exact (load_at arg3 harg3 x1 i3 j3 a3 b3 c3 r3 r d (ix3 (⟨g, hg2⟩ : Fin 2) (⟨q₀ + r.val, by omega⟩ : Fin 2048) d) rfl rfl
      (Nat.zero_add _).symm).trans (hB.q ⟨g, hg2⟩ _ d)
  · exact (load_at arg4 harg4 x2 i4 j4 a4 b4 c4 r4 j d (ix3 (⟨g, hg2⟩ : Fin 2) (⟨k₀ + j.val, by omega⟩ : Fin 2048) d) rfl rfl
      (Nat.zero_add _).symm).trans (hB.k ⟨g, hg2⟩ _ d)
  · exact (load_at arg6 harg6 x4 i6 j6 a6 b6 c6 r6 r j (ix3 (⟨g, hg2⟩ : Fin 2) r (⟨640 - w + j.val, by omega⟩ : Fin 640)) rfl
      (Nat.zero_add _).symm (by subst hb₀; rfl)).trans (hB.t ⟨g, hg2⟩ r _)
  · refine (cover_at arg15 L i15 j15 a15 b15 c15 r15 j _ (ix3 (⟨g, hg2⟩ : Fin 2) (⟨k₀ + j.val, by omega⟩ : Fin 2048) (⟨c.val, by omega⟩ : Fin 256))
      rfl rfl (Nat.zero_add _).symm).trans ((hL _ rfl).trans ((dif_pos c.isLt).trans (hB.v ⟨g, hg2⟩ _ c)))
  · refine (cover_at arg15 L i15 j15 a15 b15 c15 r15 j _ (ix3 (⟨g, hg2⟩ : Fin 2) (⟨k₀ + j.val, by omega⟩ : Fin 2048) (⟨128 + c.val, by omega⟩ : Fin 256))
      rfl rfl (Nat.zero_add _).symm).trans ((hL _ rfl).trans (dif_neg (by show ¬ 128 + c.val < 128; omega)))
  · exact (load_at arg7 harg7 x5 i7 j7 a7 b7 c7 r7 r c (ix3 (⟨g, hg2⟩ : Fin 2) (⟨q₀ + r.val, by omega⟩ : Fin 2048) c) rfl rfl
      (Nat.zero_add _).symm).trans (hB.gate ⟨g, hg2⟩ _ c)

end Piece

/-! The two products' contractions at the widths in use. -/

theorem scores_128 (x : FVec Ideal S128x128 .bf16) (y : FVec Ideal S128x128 .bf16) (r : Fin 128) (j : Fin 128) :
    matmul dot_S128x128_S128x128_S128x128_1_1_0_0_n_n none x y (constant S128x128 .f32 0x00000000#32) (ix2 r j) = ∑ d : Fin 128, x (ix2 r d) * y (ix2 j d) := by
  pointwise [dot_S128x128_S128x128_S128x128_1_1_0_0_n_n]

theorem mix_128 (x : FVec Ideal S128x128 .bf16) (y : FVec Ideal S128x256 .bf16) (r : Fin 128) (c : Fin 256) :
    matmul dot_S128x128_S128x256_S128x256_1_0_0_1_n_n none x y (constant (F := Ideal) S128x256 .f32 0x00000000#32) (ix2 r c) = ∑ j : Fin 128, x (ix2 r j) * y (ix2 j c) := by
  pointwise [dot_S128x128_S128x256_S128x256_1_0_0_1_n_n]

theorem scores_256 (x : FVec Ideal S128x128 .bf16) (y : FVec Ideal S256x128 .bf16) (r : Fin 128) (j : Fin 256) :
    matmul dot_S128x128_S256x128_S128x256_1_1_0_0_n_n none x y (constant S128x256 .f32 0x00000000#32) (ix2 r j) = ∑ d : Fin 128, x (ix2 r d) * y (ix2 j d) := by
  pointwise [dot_S128x128_S256x128_S128x256_1_1_0_0_n_n]

theorem mix_256 (x : FVec Ideal S128x256 .bf16) (y : FVec Ideal S256x256 .bf16) (r : Fin 128) (c : Fin 256) :
    matmul dot_S128x256_S256x256_S128x256_1_0_0_1_n_n none x y (constant (F := Ideal) S128x256 .f32 0x00000000#32) (ix2 r c) = ∑ j : Fin 256, x (ix2 r j) * y (ix2 j c) := by
  pointwise [dot_S128x256_S256x256_S128x256_1_0_0_1_n_n]

theorem scores_384 (x : FVec Ideal S128x128 .bf16) (y : FVec Ideal S384x128 .bf16) (r : Fin 128) (j : Fin 384) :
    matmul dot_S128x128_S384x128_S128x384_1_1_0_0_n_n none x y (constant S128x384 .f32 0x00000000#32) (ix2 r j) = ∑ d : Fin 128, x (ix2 r d) * y (ix2 j d) := by
  pointwise [dot_S128x128_S384x128_S128x384_1_1_0_0_n_n]

theorem mix_384 (x : FVec Ideal S128x384 .bf16) (y : FVec Ideal S384x256 .bf16) (r : Fin 128) (c : Fin 256) :
    matmul dot_S128x384_S384x256_S128x256_1_0_0_1_n_n none x y (constant (F := Ideal) S128x256 .f32 0x00000000#32) (ix2 r c) = ∑ j : Fin 384, x (ix2 r j) * y (ix2 j c) := by
  pointwise [dot_S128x384_S384x256_S128x256_1_0_0_1_n_n]

theorem scores_512 (x : FVec Ideal S128x128 .bf16) (y : FVec Ideal S512x128 .bf16) (r : Fin 128) (j : Fin 512) :
    matmul dot_S128x128_S512x128_S128x512_1_1_0_0_n_n none x y (constant S128x512 .f32 0x00000000#32) (ix2 r j) = ∑ d : Fin 128, x (ix2 r d) * y (ix2 j d) := by
  pointwise [dot_S128x128_S512x128_S128x512_1_1_0_0_n_n]

theorem mix_512 (x : FVec Ideal S128x512 .bf16) (y : FVec Ideal S512x256 .bf16) (r : Fin 128) (c : Fin 256) :
    matmul dot_S128x512_S512x256_S128x256_1_0_0_1_n_n none x y (constant (F := Ideal) S128x256 .f32 0x00000000#32) (ix2 r c) = ∑ j : Fin 512, x (ix2 r j) * y (ix2 j c) := by
  pointwise [dot_S128x512_S512x256_S128x256_1_0_0_1_n_n]

theorem scores_640 (x : FVec Ideal S128x128 .bf16) (y : FVec Ideal S640x128 .bf16) (r : Fin 128) (j : Fin 640) :
    matmul dot_S128x128_S640x128_S128x640_1_1_0_0_n_n none x y (constant S128x640 .f32 0x00000000#32) (ix2 r j) = ∑ d : Fin 128, x (ix2 r d) * y (ix2 j d) := by
  pointwise [dot_S128x128_S640x128_S128x640_1_1_0_0_n_n]

theorem mix_640 (x : FVec Ideal S128x640 .bf16) (y : FVec Ideal S640x256 .bf16) (r : Fin 128) (c : Fin 256) :
    matmul dot_S128x640_S640x256_S128x256_1_0_0_1_n_n none x y (constant (F := Ideal) S128x256 .f32 0x00000000#32) (ix2 r c) = ∑ j : Fin 640, x (ix2 r j) * y (ix2 j c) := by
  pointwise [dot_S128x640_S640x256_S128x256_1_0_0_1_n_n]

set_option maxHeartbeats 4000000 in
/-- Every store of the local attention, so its whole block. -/
theorem local_out {Q : Heads 64} {V G : Heads 32} {T : Fin 16 → Fin 257 → EReal} (hQ : ∀ a t d, ∃ r : ℝ, Q a t d = r)
    (hT : ∀ h x, ∃ r : ℝ, T h x = r) {e b : Fin 8} (c : Dev nD) (i : grid0.Coords)
    (arg2 : Memref sig .tc .smem S1 .f32) (harg2 : arg2.IsWhole)
    (arg3 : Memref sig .tc .vmem S2x2048x128 .bf16) (harg3 : arg3.IsWhole)
    (arg4 : Memref sig .tc .vmem S2x2048x128 .bf16) (harg4 : arg4.IsWhole)
    (arg5 : Memref sig .tc .vmem S2x2048x128 .bf16) (harg5 : arg5.IsWhole)
    (arg6 : Memref sig .tc .vmem S2x128x640 .f32) (harg6 : arg6.IsWhole)
    (arg7 : Memref sig .tc .vmem S2x2048x128 .bf16) (harg7 : arg7.IsWhole)
    (arg8 : Memref sig .tc .vmem S2x2048x128 .bf16) (harg8 : arg8.IsWhole)
    (arg9 : Memref sig .tc .vmem S2x2048x128 .bf16) (harg9 : arg9.IsWhole)
    (arg10 : Memref sig .tc .vmem S2x2048x128 .bf16) (harg10 : arg10.IsWhole)
    (arg11 : Memref sig .tc .vmem S1x256 .f32) (harg11 : arg11.IsWhole)
    (arg12 : Memref sig .tc .vmem S2x2048x128 .bf16) (harg12 : arg12.IsWhole)
    (arg13 : Memref sig .tc .vmem S2x2048x128 .bf16) (harg13 : arg13.IsWhole)
    (arg14 : Memref sig .tc .vmem S1x2048x256 .bf16) (harg14 : arg14.IsWhole)
    (arg15 : Memref sig .tc .vmem S2x2048x256 .bf16) (harg15 : arg15.IsWhole)
    (x0 : Vec Ideal S1 .f32) (x1 : Vec Ideal S2x2048x128 .bf16) (x2 : Vec Ideal S2x2048x128 .bf16) (x3 : Vec Ideal S2x2048x128 .bf16) (x4 : Vec Ideal S2x128x640 .f32) (x5 : Vec Ideal S2x2048x128 .bf16) (x6 : Vec Ideal S2x2048x128 .bf16) (x7 : Vec Ideal S2x2048x128 .bf16) (x8 : Vec Ideal S2x2048x128 .bf16) (x9 : Vec Ideal S1x256 .f32) (x10 : Vec Ideal S2x2048x128 .bf16)
    (hB : LocalBlocks Q V G T e b x1 x2 x3 x4 x5) (y : S2x2048x128.Idx) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y = localOut Q V G T e b y := by
  unfold out0_A_11
  frame_out
  canon_tiles x h
  case' piece10 => open_payloads
  case' piece21 => open_payloads
  case' piece26 => open_payloads
  all_goals
    refine local_piece hQ hT hB ?_ ?_ ?_ x y (by omega) (by omega) (by omega) (by omega) (by omega) (by omega) (by omega) (by omega) (by omega)
    · first | exact scores_640 | exact scores_512 | exact scores_384 | exact scores_256 | exact scores_128
    · first | exact mix_640 | exact mix_512 | exact mix_384 | exact mix_256 | exact mix_128
    · first
        | exact fun z hz => filled x3 0 rfl _ _ _ _ ones_first (values_first x3 _ _ _ _) _ z hz
        | exact fun z hz => filled x3 1 rfl _ _ _ _ ones_second (values_second x3 _) _ z hz
        | exact fun z hz => (below _ _ z hz).trans ((below _ _ z hz).trans (filled x3 0 rfl _ _ _ _ ones_first (values_first x3 _ _ _ _) _ z hz))

end Cert.KernelIdeal.Value
-- ==== Proof.KernelDiff.lean ====
/- The kernel's differential attention: each of its stores holds half the columns of 256 queries of one head. -/
module

public import proofs.«01_k».proof.Proof.KernelLoads

@[expose] public section

set_option maxRecDepth 65536

noncomputable section

namespace Cert.KernelIdeal.Value

open Idealize Idealize.ShloMosaic Idealize.ShloMosaic.Tactic
open Cert.KernelIdeal Cert.KernelIdeal.Gen Cert.Attn

/-- The blocks of a grid point at batch entry `b`: the two maps' queries and keys, the values and gates of the two heads
    that share them, the gain and the factor of the second map. -/
structure DiffBlocks (Q : Heads 64) (V G : Heads 32) (lam : EReal) (gain : Fin 256 → EReal) (e b : Fin 8)
    (x0 : Vec Ideal S1 .f32) (x6 x7 x8 : Vec Ideal S2x2048x128 .bf16) (x9 : Vec Ideal S1x256 .f32)
    (x10 : Vec Ideal S2x2048x128 .bf16) : Prop where
  lam : x0 (ix1 0) = lam
  q : ∀ (μ : Fin 2) i d, x6 (ix3 μ i d) = Q ⟨32 + 2 * e.val + μ.val, by omega⟩ (row b i) d
  k : ∀ (μ : Fin 2) i d, x7 (ix3 μ i d) = Q ⟨48 + 2 * e.val + μ.val, by omega⟩ (row b i) d
  v : ∀ (m : Fin 2) i d, x8 (ix3 m i d) = V ⟨16 + 2 * e.val + m.val, by omega⟩ (row b i) d
  gain : ∀ c, x9 (ix2 0 c) = gain c
  gate : ∀ (m : Fin 2) i d, x10 (ix3 m i d) = G ⟨16 + 2 * e.val + m.val, by omega⟩ (row b i) d

/-- The norm's guard and the constant its result is scaled by. -/
abbrev guard : EReal := Ideal.ofBits .f32 0x358637BD#32
abbrev scale : EReal := Ideal.ofBits .f32 0x3F4CCCCD#32

/-- What the differential attention leaves in a block of one head. -/
def diffOut (Q : Heads 64) (V G : Heads 32) (lam : EReal) (gain : Fin 256 → EReal) (e b : Fin 8) (y : S1x2048x256.Idx) : EReal :=
  bOut Q V G lam guard scale gain e b (y 1) (y 2)

section Block

variable {Q : Heads 64} {V G : Heads 32} {lamV : EReal} {gain : Fin 256 → EReal} {a : ℕ}
  {q k q' k' : FVec Ideal S1x256x128 .bf16} {hot hot' : FVec Ideal S256x128 .bf16} {kL kL' : FVec Ideal ⟨3, ![1, a, 128]⟩ .bf16}
  {lam : EReal} {vs : FVec Ideal S256x256 .bf16} {vt : FVec Ideal ⟨2, ![a, 256]⟩ .bf16} {gs : FVec Ideal S1x256 .f32}
  {dS : DotDims S256x128 ⟨2, ![a, 128]⟩ ⟨2, ![256, a]⟩} {hc : (⟨3, ![1, a, 128]⟩ : Shape).ShapeCasts ⟨2, ![a, 128]⟩}
  {dT : DotDims ⟨2, ![256, a]⟩ ⟨2, ![a, 256]⟩ S256x256}
  {hr : (⟨2, ![256, a]⟩ : Shape).Reduces [1] S256} {hb : S256x1.Broadcasts ⟨2, ![256, a]⟩}

/-- A score of the block on the diagonal. -/
theorem diag_score (ha : a % 256 = 0) (hn : a + 256 ≤ 2048) (μ : Fin 2) (e b : Fin 8)
    (hh : ∀ r j : Fin 256, ∑ l : Fin 128, hot (ix2 r l) * hot' (ix2 j l) = if j.val / 64 ≤ r.val / 64 then (0 : EReal) else ⊥)
    (eq : ∀ r d, q (ix3 0 r d) = Q ⟨32 + 2 * e.val + μ.val, by omega⟩ (row b ⟨a + r.val, by omega⟩) d)
    (ek : ∀ j d, k (ix3 0 j d) = Q ⟨48 + 2 * e.val + μ.val, by omega⟩ (row b ⟨a + j.val, by omega⟩) d) (r j : Fin 256) :
    diffDiag q k hot hot' (ix2 r j) = bScore Q μ e b ⟨a + r.val, by omega⟩ ⟨a + j.val, by omega⟩ := by
  rw [diffDiag_at, hh, Finset.sum_congr rfl fun d _ => by rw [eq r d, ek j d]]
  unfold bScore
  by_cases hj : j.val / 64 ≤ r.val / 64
  · rw [if_pos hj, if_pos (show causal _ _ by unfold causal; dsimp only; omega), add_zero]
    rfl
  · rw [if_neg hj, if_neg (show ¬ causal _ _ by unfold causal; dsimp only; omega), EReal.add_bot]

/-- A score to the left of it. -/
theorem left_score (ha : a % 256 = 0) (hn : a + 256 ≤ 2048) (μ : Fin 2) (e b : Fin 8)
    (hS : ∀ (x : FVec Ideal S256x128 .bf16) (y : FVec Ideal ⟨2, ![a, 128]⟩ .bf16) (r : Fin 256) (j : Fin a),
      matmul dS none x y (constant ⟨2, ![256, a]⟩ .f32 0x00000000#32) (ix2 r j) = ∑ d : Fin 128, x (ix2 r d) * y (ix2 j d))
    (eq : ∀ r d, q (ix3 0 r d) = Q ⟨32 + 2 * e.val + μ.val, by omega⟩ (row b ⟨a + r.val, by omega⟩) d)
    (ek : ∀ (j : Fin a) d, kL (ix3 0 j d) = Q ⟨48 + 2 * e.val + μ.val, by omega⟩ (row b ⟨j.val, by omega⟩) d)
    (r : Fin 256) (j : Fin a) :
    diffLeft q kL dS hc (ix2 r j) = bScore Q μ e b ⟨a + r.val, by omega⟩ ⟨j.val, by omega⟩ := by
  rw [diffLeft_at q kL hc hS, Finset.sum_congr rfl fun d _ => by rw [eq r d, ek j d]]
  unfold bScore
  rw [if_pos (show causal _ _ by unfold causal; dsimp only; omega)]
  rfl

theorem masked_right (hn : a + 256 ≤ 2048) (ha : a % 256 = 0) (μ : Fin 2) (e b : Fin 8) (r : Fin 256) (j : Fin 2048) (hj : a + 256 ≤ j.val) :
    bScore Q μ e b ⟨a + r.val, by omega⟩ j = ⊥ :=
  if_neg (by unfold causal; dsimp only; omega)

/-- A row of such a block, from its readings. -/
theorem row_out (hQ : ∀ a t d, ∃ r : ℝ, Q a t d = r) (ha : a % 256 = 0) (hn : a + 256 ≤ 2048) (e b : Fin 8) (r : Fin 256)
    (R : DiffRow a 256 256)
    (h₁ : ∀ j, R.s₁ j = bScore Q 0 e b ⟨a + r.val, by omega⟩ ⟨a + j.val, by omega⟩)
    (h₁' : ∀ j, R.t₁ j = bScore Q 0 e b ⟨a + r.val, by omega⟩ ⟨j.val, by omega⟩)
    (h₂ : ∀ j, R.s₂ j = bScore Q 1 e b ⟨a + r.val, by omega⟩ ⟨a + j.val, by omega⟩)
    (h₂' : ∀ j, R.t₂ j = bScore Q 1 e b ⟨a + r.val, by omega⟩ ⟨j.val, by omega⟩)
    (hv : ∀ j c, R.vs j c = wide V e (row b ⟨a + j.val, by omega⟩) c)
    (hv' : ∀ j c, R.vt j c = wide V e (row b ⟨j.val, by omega⟩) c) (c : Fin 256) :
    R.out ((256 : ℝ) : EReal) guard c = bMix Q V R.lam e b ⟨a + r.val, by omega⟩ c
      * Ideal.rsqrt (Ideal.div (∑ d, bMix Q V R.lam e b ⟨a + r.val, by omega⟩ d * bMix Q V R.lam e b ⟨a + r.val, by omega⟩ d)
        ((256 : ℝ) : EReal) + guard) := by
  have h256 : ((256 : ℝ)) ≠ 0 := by norm_num
  exact R.out_eq hn (bScore_scores hQ 0 e b ⟨a + r.val, by omega⟩) (bScore_scores hQ 1 e b ⟨a + r.val, by omega⟩)
    (masked_right hn ha 0 e b r) (masked_right hn ha 1 e b r)
    (g₁ := fun j => bScore Q 0 e b ⟨a + r.val, by omega⟩ j * ((Real.log 2 : ℝ) : EReal))
    (g₂ := fun j => bScore Q 1 e b ⟨a + r.val, by omega⟩ j * ((Real.log 2 : ℝ) : EReal))
    (fun _ => rfl) (fun _ => rfl) (fun j c => wide V e (row b j) c) h₁ h₁' h₂ h₂' hv hv' h256 guard
    (o := bMix Q V R.lam e b ⟨a + r.val, by omega⟩) (fun _ => rfl) c

/-- A block of the differential attention: 256 queries from `a` of one head against the keys up to their own. -/
theorem diff_block (hQ : ∀ a t d, ∃ r : ℝ, Q a t d = r) (ha : a % 256 = 0) (hn : a + 256 ≤ 2048) (e b : Fin 8)
    (hS : ∀ (x : FVec Ideal S256x128 .bf16) (y : FVec Ideal ⟨2, ![a, 128]⟩ .bf16) (r : Fin 256) (j : Fin a),
      matmul dS none x y (constant ⟨2, ![256, a]⟩ .f32 0x00000000#32) (ix2 r j) = ∑ d : Fin 128, x (ix2 r d) * y (ix2 j d))
    (hT : ∀ (x : FVec Ideal ⟨2, ![256, a]⟩ .bf16) (y : FVec Ideal ⟨2, ![a, 256]⟩ .bf16) (r c : Fin 256),
      matmul dT none x y (constant S256x256 .f32 0x00000000#32) (ix2 r c) = ∑ j : Fin a, x (ix2 r j) * y (ix2 j c))
    (hh : ∀ r j : Fin 256, ∑ l : Fin 128, hot (ix2 r l) * hot' (ix2 j l) = if j.val / 64 ≤ r.val / 64 then (0 : EReal) else ⊥)
    (eq : ∀ r d, q (ix3 0 r d) = Q ⟨32 + 2 * e.val + (0 : Fin 2).val, by omega⟩ (row b ⟨a + r.val, by omega⟩) d)
    (ek : ∀ j d, k (ix3 0 j d) = Q ⟨48 + 2 * e.val + (0 : Fin 2).val, by omega⟩ (row b ⟨a + j.val, by omega⟩) d)
    (eq' : ∀ r d, q' (ix3 0 r d) = Q ⟨32 + 2 * e.val + (1 : Fin 2).val, by omega⟩ (row b ⟨a + r.val, by omega⟩) d)
    (ek' : ∀ j d, k' (ix3 0 j d) = Q ⟨48 + 2 * e.val + (1 : Fin 2).val, by omega⟩ (row b ⟨a + j.val, by omega⟩) d)
    (el : ∀ (j : Fin a) d, kL (ix3 0 j d) = Q ⟨48 + 2 * e.val + (0 : Fin 2).val, by omega⟩ (row b ⟨j.val, by omega⟩) d)
    (el' : ∀ (j : Fin a) d, kL' (ix3 0 j d) = Q ⟨48 + 2 * e.val + (1 : Fin 2).val, by omega⟩ (row b ⟨j.val, by omega⟩) d)
    (evs : ∀ (j : Fin 256) c, vs (ix2 j c) = wide V e (row b ⟨a + j.val, by omega⟩) c)
    (evt : ∀ (j : Fin a) c, vt (ix2 j c) = wide V e (row b ⟨j.val, by omega⟩) c)
    (hlam : lam = lamV) (egs : ∀ c, gs (ix2 0 c) = gain c * scale) (r c : Fin 256) :
    diffNorm gs (diffAcc (diffDiag q k hot hot') (diffDiag q' k' hot hot') (diffLeft q kL dS hc) (diffLeft q' kL' dS hc) lam vs vt dT hr hb)
      (diffSum (diffDiag q k hot hot') (diffLeft q kL dS hc) hr hb) (ix2 r c) * wide G e (row b ⟨a + r.val, by omega⟩) c
      = bOut Q V G lamV guard scale gain e b ⟨a + r.val, by omega⟩ c := by
  subst hlam
  refine (congrArg (· * _) ((diffOut_at _ _ _ _ _ _ _ _ hr hb hT r c).trans (congrArg₂ (· * ·)
    (row_out hQ ha hn e b r _ (diag_score ha hn 0 e b hh eq ek r) (left_score ha hn 0 e b hS eq el r)
      (diag_score ha hn 1 e b hh eq' ek' r) (left_score ha hn 1 e b hS eq' el' r) evs evt c) (egs c)))).trans ?_
  rw [← mul_assoc]
  rfl

/-- The first block, with nothing to its left. -/
theorem first_block (hQ : ∀ a t d, ∃ r : ℝ, Q a t d = r) (e b : Fin 8)
    (hh : ∀ r j : Fin 256, ∑ l : Fin 128, hot (ix2 r l) * hot' (ix2 j l) = if j.val / 64 ≤ r.val / 64 then (0 : EReal) else ⊥)
    (eq : ∀ r d, q (ix3 0 r d) = Q ⟨32 + 2 * e.val + (0 : Fin 2).val, by omega⟩ (row b ⟨0 + r.val, by omega⟩) d)
    (ek : ∀ j d, k (ix3 0 j d) = Q ⟨48 + 2 * e.val + (0 : Fin 2).val, by omega⟩ (row b ⟨0 + j.val, by omega⟩) d)
    (eq' : ∀ r d, q' (ix3 0 r d) = Q ⟨32 + 2 * e.val + (1 : Fin 2).val, by omega⟩ (row b ⟨0 + r.val, by omega⟩) d)
    (ek' : ∀ j d, k' (ix3 0 j d) = Q ⟨48 + 2 * e.val + (1 : Fin 2).val, by omega⟩ (row b ⟨0 + j.val, by omega⟩) d)
    (evs : ∀ (j : Fin 256) c, vs (ix2 j c) = wide V e (row b ⟨0 + j.val, by omega⟩) c)
    (hlam : lam = lamV) (egs : ∀ c, gs (ix2 0 c) = gain c * scale) (r c : Fin 256) :
    diffNorm gs (firstAcc (diffDiag q k hot hot') (diffDiag q' k' hot hot') lam vs) (firstSum (diffDiag q k hot hot')) (ix2 r c)
      * wide G e (row b ⟨0 + r.val, by omega⟩) c
      = bOut Q V G lamV guard scale gain e b ⟨0 + r.val, by omega⟩ c := by
  subst hlam
  refine (congrArg (· * _) ((firstOut_at _ _ _ _ _ r c).trans (congrArg₂ (· * ·)
    (row_out hQ rfl (by omega) e b r _ (diag_score rfl (by omega) 0 e b hh eq ek r) (fun i => i.elim0)
      (diag_score rfl (by omega) 1 e b hh eq' ek' r) (fun i => i.elim0) evs (fun i => i.elim0) c) (egs c)))).trans ?_
  rw [← mul_assoc]
  rfl

end Block

/-! ## What the blocks' loads read -/

/-- A load of `a` rows of plane `g` of a block reads the block. -/
theorem plane_at {A B C a g r₀ : ℕ} {τ} (m : Memref sig .tc .vmem ⟨3, ![A, B, C]⟩ τ) (hm : m.IsWhole) (X : Vec Ideal ⟨3, ![A, B, C]⟩ τ)
    (inb) (inb') (h) (i : Fin a) (j : Fin C) (y : (⟨3, ![A, B, C]⟩ : Shape).Idx)
    (e0 : (y 0).val = g) (e1 : (y 1).val = r₀ + i.val) (e2 : (y 2).val = j.val) :
    View.readAt (Elt Ideal) m.view ((Rect.unit (s := ⟨3, ![A, B, C]⟩) ![0, 0, 0] ![A, B, C] inb).withinL
      (Rect.unit (s := ⟨3, ![A, B, C]⟩) ![g, r₀, 0] ![1, a, C] inb').toLoadRect h) (hm.unread X) (ix3 0 i j) = X y := by
  refine (View.readAt_apply _ _ _).trans ?_
  rw [Memref.IsWhole.read_unread]
  refine congrArg X ?_
  funext k
  fin_cases k
  · exact Fin.ext (by simp [LoadRect.idx_apply, Rect.withinL]; exact e0.symm)
  · exact Fin.ext (by simp [LoadRect.idx_apply, Rect.withinL]; exact e1.symm)
  · exact Fin.ext (by simp [LoadRect.idx_apply, Rect.withinL]; exact e2.symm)

theorem gains_at (x9 : Vec Ideal S1x256 .f32) (c : Fin 256) : k0_pay8 x9 (ix2 0 c) = x9 (ix2 0 c) * scale := by
  pointwise [k0_pay8]

theorem only (x0 : Vec Ideal S1 .f32) (i : S1.Idx) : x0 i = x0 (ix1 0) :=
  congrArg x0 (funext fun k => by fin_cases k; exact Fin.ext (by have : (i 0).val < 1 := (i 0).isLt; show (i 0).val = 0; omega))

theorem values_at (u v : Vec Ideal S1x2048x128 .bf16) (t : Fin 2048) (c : Fin 256) :
    k0_pay2 u v (ix2 t c) = if h : c.val < 128 then u (ix3 0 t (⟨c.val, h⟩ : Fin 128)) else v (ix3 0 t (⟨c.val - 128, by omega⟩ : Fin 128)) := by
  pointwise [k0_pay2]

theorem rows_at {a r₀ : ℕ} (v : FVec Ideal S2048x256 .bf16) (hs : S2048x256.Slices ![r₀, 0] ⟨2, ![a, 256]⟩) (i : Fin a) (t : Fin 2048)
    (ht : t.val = r₀ + i.val) (c : Fin 256) : extractStridedSlice ⟨2, ![a, 256]⟩ ![r₀, 0] v hs (ix2 i c) = v (ix2 t c) := by
  pointwise
  exact congrArg v (congrArg (fun z => ix2 z c) (Fin.ext ht.symm))

/-- Two blocks of values side by side are the two heads' columns side by side. -/
theorem wide_at {V : Heads 32} {e b : Fin 8} {u v : Vec Ideal S1x2048x128 .bf16}
    (hu : ∀ t d, u (ix3 0 t d) = V ⟨16 + 2 * e.val + (0 : Fin 2).val, by omega⟩ (row b t) d)
    (hv : ∀ t d, v (ix3 0 t d) = V ⟨16 + 2 * e.val + (1 : Fin 2).val, by omega⟩ (row b t) d) (t : Fin 2048) (c : Fin 256) :
    k0_pay2 u v (ix2 t c) = wide V e (row b t) c := by
  rw [values_at]
  unfold wide
  by_cases h : c.val < 128
  · rw [dif_pos h, hu]
    have e₁ : (⟨16 + 2 * e.val + (0 : Fin 2).val, by omega⟩ : Fin 32) = ⟨16 + 2 * e.val + c.val / 128, by omega⟩ :=
      Fin.ext (by show 16 + 2 * e.val + 0 = 16 + 2 * e.val + c.val / 128; omega)
    have e₂ : (⟨c.val, h⟩ : Fin 128) = ⟨c.val % 128, by omega⟩ := Fin.ext (by show c.val = c.val % 128; omega)
    exact congrArg₂ (fun x y => V x (row b t) y) e₁ e₂
  · rw [dif_neg h, hv]
    have e₁ : (⟨16 + 2 * e.val + (1 : Fin 2).val, by omega⟩ : Fin 32) = ⟨16 + 2 * e.val + c.val / 128, by omega⟩ :=
      Fin.ext (by show 16 + 2 * e.val + 1 = 16 + 2 * e.val + c.val / 128; omega)
    have e₂ : (⟨c.val - 128, by omega⟩ : Fin 128) = ⟨c.val % 128, by omega⟩ := Fin.ext (by show c.val - 128 = c.val % 128; omega)
    exact congrArg₂ (fun x y => V x (row b t) y) e₁ e₂

section Pieces

variable {Q : Heads 64} {V G : Heads 32} {lamV : EReal} {gain : Fin 256 → EReal} {a : ℕ}

/-- The left half of a block's rows, once they are known before the gate. -/
theorem lo_piece {e b : Fin 8} {N : FVec Ideal S256x256 .f32} {gt : FVec Ideal S1x256x128 .bf16} (hn : a + 256 ≤ 2048)
    (hN : ∀ r c : Fin 256, N (ix2 r c) * wide G e (row b ⟨a + r.val, by omega⟩) c
      = bOut Q V G lamV guard scale gain e b ⟨a + r.val, by omega⟩ c)
    (hg : ∀ (r : Fin 256) d, gt (ix3 0 r d) = G ⟨16 + 2 * e.val + (0 : Fin 2).val, by omega⟩ (row b ⟨a + r.val, by omega⟩) d)
    (x : S1x256x128.Idx) (y : S1x2048x256.Idx) (h1 : (y 1).val = a + (x 1).val) (h2 : (y 2).val = (x 2).val) :
    diffLo N gt x = diffOut Q V G lamV gain e b y := by
  have ex : x = ix3 (0 : Fin 1) (x 1 : Fin 256) (x 2 : Fin 128) := by blk_ext
  have l1 : (x 1).val < 256 := (x 1).isLt
  have l2 : (x 2).val < 128 := (x 2).isLt
  have e1 : (y 1 : Fin 2048) = ⟨a + (x 1 : Fin 256).val, by omega⟩ := Fin.ext h1
  have e2 : (y 2 : Fin 256) = ⟨(x 2 : Fin 128).val, by omega⟩ := Fin.ext h2
  refine (congrArg (diffLo N gt) ex).trans ((diffLo_at N gt (x 1 : Fin 256) (x 2 : Fin 128)).trans
    (Eq.trans ?_ (congrArg₂ (bOut Q V G lamV guard scale gain e b) e1 e2).symm))
  refine Eq.trans (congrArg (N _ * ·) ((hg (x 1 : Fin 256) (x 2 : Fin 128)).trans ?_)) (hN (x 1 : Fin 256) _)
  unfold wide
  have f₁ : (⟨16 + 2 * e.val + (0 : Fin 2).val, by omega⟩ : Fin 32) = ⟨16 + 2 * e.val + (x 2 : Fin 128).val / 128, by omega⟩ :=
    Fin.ext (by show 16 + 2 * e.val + 0 = 16 + 2 * e.val + (x 2).val / 128; omega)
  have f₂ : (x 2 : Fin 128) = ⟨(x 2 : Fin 128).val % 128, by omega⟩ := Fin.ext (by show (x 2).val = (x 2).val % 128; omega)
  exact congrArg₂ (fun z d => G z (row b ⟨a + (x 1 : Fin 256).val, by omega⟩) d) f₁ f₂

/-- The right half. -/
theorem hi_piece {e b : Fin 8} {N : FVec Ideal S256x256 .f32} {gt : FVec Ideal S1x256x128 .bf16} (hn : a + 256 ≤ 2048)
    (hN : ∀ r c : Fin 256, N (ix2 r c) * wide G e (row b ⟨a + r.val, by omega⟩) c
      = bOut Q V G lamV guard scale gain e b ⟨a + r.val, by omega⟩ c)
    (hg : ∀ (r : Fin 256) d, gt (ix3 0 r d) = G ⟨16 + 2 * e.val + (1 : Fin 2).val, by omega⟩ (row b ⟨a + r.val, by omega⟩) d)
    (x : S1x256x128.Idx) (y : S1x2048x256.Idx) (h1 : (y 1).val = a + (x 1).val) (h2 : (y 2).val = 128 + (x 2).val) :
    diffHi N gt x = diffOut Q V G lamV gain e b y := by
  have ex : x = ix3 (0 : Fin 1) (x 1 : Fin 256) (x 2 : Fin 128) := by blk_ext
  have l1 : (x 1).val < 256 := (x 1).isLt
  have l2 : (x 2).val < 128 := (x 2).isLt
  have e1 : (y 1 : Fin 2048) = ⟨a + (x 1 : Fin 256).val, by omega⟩ := Fin.ext h1
  have e2 : (y 2 : Fin 256) = ⟨128 + (x 2 : Fin 128).val, by omega⟩ := Fin.ext h2
  refine (congrArg (diffHi N gt) ex).trans ((diffHi_at N gt (x 1 : Fin 256) (x 2 : Fin 128)).trans
    (Eq.trans ?_ (congrArg₂ (bOut Q V G lamV guard scale gain e b) e1 e2).symm))
  refine Eq.trans (congrArg (N _ * ·) ((hg (x 1 : Fin 256) (x 2 : Fin 128)).trans ?_)) (hN (x 1 : Fin 256) _)
  unfold wide
  have f₁ : (⟨16 + 2 * e.val + (1 : Fin 2).val, by omega⟩ : Fin 32) = ⟨16 + 2 * e.val + (128 + (x 2 : Fin 128).val) / 128, by omega⟩ :=
    Fin.ext (by show 16 + 2 * e.val + 1 = 16 + 2 * e.val + (128 + (x 2).val) / 128; omega)
  have f₂ : (x 2 : Fin 128) = ⟨(128 + (x 2 : Fin 128).val) % 128, by omega⟩ :=
    Fin.ext (by show (x 2).val = (128 + (x 2).val) % 128; omega)
  exact congrArg₂ (fun z d => G z (row b ⟨a + (x 1 : Fin 256).val, by omega⟩) d) f₁ f₂

variable {q k q' k' gt : FVec Ideal S1x256x128 .bf16} {hot hot' : FVec Ideal S256x128 .bf16} {kL kL' : FVec Ideal ⟨3, ![1, a, 128]⟩ .bf16}
  {lam : EReal} {u v : Vec Ideal S1x2048x128 .bf16} {x9 : Vec Ideal S1x256 .f32}
  {dS : DotDims S256x128 ⟨2, ![a, 128]⟩ ⟨2, ![256, a]⟩} {hc : (⟨3, ![1, a, 128]⟩ : Shape).ShapeCasts ⟨2, ![a, 128]⟩}
  {dT : DotDims ⟨2, ![256, a]⟩ ⟨2, ![a, 256]⟩ S256x256}
  {hr : (⟨2, ![256, a]⟩ : Shape).Reduces [1] S256} {hb : S256x1.Broadcasts ⟨2, ![256, a]⟩}
  {hs : S2048x256.Slices ![a, 0] S256x256} {hs' : S2048x256.Slices ![0, 0] ⟨2, ![a, 256]⟩}

/-- The left half of a block with keys to its left. -/
theorem lo_later (hQ : ∀ a t d, ∃ r : ℝ, Q a t d = r) {e b : Fin 8} (x : S1x256x128.Idx) (y : S1x2048x256.Idx)
    (h1 : (y 1).val = a + (x 1).val) (h2 : (y 2).val = (x 2).val) (ha : a % 256 = 0) (hn : a + 256 ≤ 2048)
    (hS : ∀ (x : FVec Ideal S256x128 .bf16) (y : FVec Ideal ⟨2, ![a, 128]⟩ .bf16) (r : Fin 256) (j : Fin a),
      matmul dS none x y (constant ⟨2, ![256, a]⟩ .f32 0x00000000#32) (ix2 r j) = ∑ d : Fin 128, x (ix2 r d) * y (ix2 j d))
    (hT : ∀ (x : FVec Ideal ⟨2, ![256, a]⟩ .bf16) (y : FVec Ideal ⟨2, ![a, 256]⟩ .bf16) (r c : Fin 256),
      matmul dT none x y (constant S256x256 .f32 0x00000000#32) (ix2 r c) = ∑ j : Fin a, x (ix2 r j) * y (ix2 j c))
    (hh : ∀ r j : Fin 256, ∑ l : Fin 128, hot (ix2 r l) * hot' (ix2 j l) = if j.val / 64 ≤ r.val / 64 then (0 : EReal) else ⊥)
    (eq : ∀ (r : Fin 256) d, q (ix3 0 r d) = Q ⟨32 + 2 * e.val + (0 : Fin 2).val, by omega⟩ (row b ⟨a + r.val, by omega⟩) d)
    (ek : ∀ (j : Fin 256) d, k (ix3 0 j d) = Q ⟨48 + 2 * e.val + (0 : Fin 2).val, by omega⟩ (row b ⟨a + j.val, by omega⟩) d)
    (eq' : ∀ (r : Fin 256) d, q' (ix3 0 r d) = Q ⟨32 + 2 * e.val + (1 : Fin 2).val, by omega⟩ (row b ⟨a + r.val, by omega⟩) d)
    (ek' : ∀ (j : Fin 256) d, k' (ix3 0 j d) = Q ⟨48 + 2 * e.val + (1 : Fin 2).val, by omega⟩ (row b ⟨a + j.val, by omega⟩) d)
    (el : ∀ (j : Fin a) d, kL (ix3 0 j d) = Q ⟨48 + 2 * e.val + (0 : Fin 2).val, by omega⟩ (row b ⟨j.val, by omega⟩) d)
    (el' : ∀ (j : Fin a) d, kL' (ix3 0 j d) = Q ⟨48 + 2 * e.val + (1 : Fin 2).val, by omega⟩ (row b ⟨j.val, by omega⟩) d)
    (hu : ∀ t d, u (ix3 0 t d) = V ⟨16 + 2 * e.val + (0 : Fin 2).val, by omega⟩ (row b t) d)
    (hv : ∀ t d, v (ix3 0 t d) = V ⟨16 + 2 * e.val + (1 : Fin 2).val, by omega⟩ (row b t) d)
    (hlam : lam = lamV) (hx9 : ∀ c, x9 (ix2 0 c) = gain c)
    (hg : ∀ (r : Fin 256) d, gt (ix3 0 r d) = G ⟨16 + 2 * e.val + (0 : Fin 2).val, by omega⟩ (row b ⟨a + r.val, by omega⟩) d) :
    diffLo (diffNorm (k0_pay8 x9) (diffAcc (diffDiag q k hot hot') (diffDiag q' k' hot hot') (diffLeft q kL dS hc) (diffLeft q' kL' dS hc) lam
        (extractStridedSlice S256x256 ![a, 0] (k0_pay2 u v) hs) (extractStridedSlice ⟨2, ![a, 256]⟩ ![0, 0] (k0_pay2 u v) hs') dT hr hb)
      (diffSum (diffDiag q k hot hot') (diffLeft q kL dS hc) hr hb)) gt x
      = diffOut Q V G lamV gain e b y :=
  lo_piece hn (diff_block hQ ha hn e b hS hT hh eq ek eq' ek' el el'
    (fun j c => (rows_at _ hs j ⟨a + j.val, by omega⟩ rfl c).trans (wide_at hu hv _ c))
    (fun j c => (rows_at _ hs' j ⟨j.val, by omega⟩ (Nat.zero_add _).symm c).trans (wide_at hu hv _ c))
    hlam (fun c => (gains_at x9 c).trans (congrArg (· * scale) (hx9 c)))) hg x y h1 h2
/-- The right half of a block with keys to its left. -/
theorem hi_later (hQ : ∀ a t d, ∃ r : ℝ, Q a t d = r) {e b : Fin 8} (x : S1x256x128.Idx) (y : S1x2048x256.Idx)
    (h1 : (y 1).val = a + (x 1).val) (h2 : (y 2).val = 128 + (x 2).val) (ha : a % 256 = 0) (hn : a + 256 ≤ 2048)
    (hS : ∀ (x : FVec Ideal S256x128 .bf16) (y : FVec Ideal ⟨2, ![a, 128]⟩ .bf16) (r : Fin 256) (j : Fin a),
      matmul dS none x y (constant ⟨2, ![256, a]⟩ .f32 0x00000000#32) (ix2 r j) = ∑ d : Fin 128, x (ix2 r d) * y (ix2 j d))
    (hT : ∀ (x : FVec Ideal ⟨2, ![256, a]⟩ .bf16) (y : FVec Ideal ⟨2, ![a, 256]⟩ .bf16) (r c : Fin 256),
      matmul dT none x y (constant S256x256 .f32 0x00000000#32) (ix2 r c) = ∑ j : Fin a, x (ix2 r j) * y (ix2 j c))
    (hh : ∀ r j : Fin 256, ∑ l : Fin 128, hot (ix2 r l) * hot' (ix2 j l) = if j.val / 64 ≤ r.val / 64 then (0 : EReal) else ⊥)
    (eq : ∀ (r : Fin 256) d, q (ix3 0 r d) = Q ⟨32 + 2 * e.val + (0 : Fin 2).val, by omega⟩ (row b ⟨a + r.val, by omega⟩) d)
    (ek : ∀ (j : Fin 256) d, k (ix3 0 j d) = Q ⟨48 + 2 * e.val + (0 : Fin 2).val, by omega⟩ (row b ⟨a + j.val, by omega⟩) d)
    (eq' : ∀ (r : Fin 256) d, q' (ix3 0 r d) = Q ⟨32 + 2 * e.val + (1 : Fin 2).val, by omega⟩ (row b ⟨a + r.val, by omega⟩) d)
    (ek' : ∀ (j : Fin 256) d, k' (ix3 0 j d) = Q ⟨48 + 2 * e.val + (1 : Fin 2).val, by omega⟩ (row b ⟨a + j.val, by omega⟩) d)
    (el : ∀ (j : Fin a) d, kL (ix3 0 j d) = Q ⟨48 + 2 * e.val + (0 : Fin 2).val, by omega⟩ (row b ⟨j.val, by omega⟩) d)
    (el' : ∀ (j : Fin a) d, kL' (ix3 0 j d) = Q ⟨48 + 2 * e.val + (1 : Fin 2).val, by omega⟩ (row b ⟨j.val, by omega⟩) d)
    (hu : ∀ t d, u (ix3 0 t d) = V ⟨16 + 2 * e.val + (0 : Fin 2).val, by omega⟩ (row b t) d)
    (hv : ∀ t d, v (ix3 0 t d) = V ⟨16 + 2 * e.val + (1 : Fin 2).val, by omega⟩ (row b t) d)
    (hlam : lam = lamV) (hx9 : ∀ c, x9 (ix2 0 c) = gain c)
    (hg : ∀ (r : Fin 256) d, gt (ix3 0 r d) = G ⟨16 + 2 * e.val + (1 : Fin 2).val, by omega⟩ (row b ⟨a + r.val, by omega⟩) d) :
    diffHi (diffNorm (k0_pay8 x9) (diffAcc (diffDiag q k hot hot') (diffDiag q' k' hot hot') (diffLeft q kL dS hc) (diffLeft q' kL' dS hc) lam
        (extractStridedSlice S256x256 ![a, 0] (k0_pay2 u v) hs) (extractStridedSlice ⟨2, ![a, 256]⟩ ![0, 0] (k0_pay2 u v) hs') dT hr hb)
      (diffSum (diffDiag q k hot hot') (diffLeft q kL dS hc) hr hb)) gt x
      = diffOut Q V G lamV gain e b y :=
  hi_piece hn (diff_block hQ ha hn e b hS hT hh eq ek eq' ek' el el'
    (fun j c => (rows_at _ hs j ⟨a + j.val, by omega⟩ rfl c).trans (wide_at hu hv _ c))
    (fun j c => (rows_at _ hs' j ⟨j.val, by omega⟩ (Nat.zero_add _).symm c).trans (wide_at hu hv _ c))
    hlam (fun c => (gains_at x9 c).trans (congrArg (· * scale) (hx9 c)))) hg x y h1 h2
end Pieces

section First

variable {Q : Heads 64} {V G : Heads 32} {lamV : EReal} {gain : Fin 256 → EReal} {q k q' k' gt : FVec Ideal S1x256x128 .bf16}
  {hot hot' : FVec Ideal S256x128 .bf16} {lam : EReal} {u v : Vec Ideal S1x2048x128 .bf16} {x9 : Vec Ideal S1x256 .f32}
  {hs0 : S2048x256.Slices ![0, 0] S256x256}

/-- The left half of the first block. -/
theorem lo_first (hQ : ∀ a t d, ∃ r : ℝ, Q a t d = r) {e b : Fin 8} (x : S1x256x128.Idx) (y : S1x2048x256.Idx)
    (h1 : (y 1).val = 0 + (x 1).val) (h2 : (y 2).val = (x 2).val)
    (hh : ∀ r j : Fin 256, ∑ l : Fin 128, hot (ix2 r l) * hot' (ix2 j l) = if j.val / 64 ≤ r.val / 64 then (0 : EReal) else ⊥)
    (eq : ∀ (r : Fin 256) d, q (ix3 0 r d) = Q ⟨32 + 2 * e.val + (0 : Fin 2).val, by omega⟩ (row b ⟨0 + r.val, by omega⟩) d)
    (ek : ∀ (j : Fin 256) d, k (ix3 0 j d) = Q ⟨48 + 2 * e.val + (0 : Fin 2).val, by omega⟩ (row b ⟨0 + j.val, by omega⟩) d)
    (eq' : ∀ (r : Fin 256) d, q' (ix3 0 r d) = Q ⟨32 + 2 * e.val + (1 : Fin 2).val, by omega⟩ (row b ⟨0 + r.val, by omega⟩) d)
    (ek' : ∀ (j : Fin 256) d, k' (ix3 0 j d) = Q ⟨48 + 2 * e.val + (1 : Fin 2).val, by omega⟩ (row b ⟨0 + j.val, by omega⟩) d)
    (hu : ∀ t d, u (ix3 0 t d) = V ⟨16 + 2 * e.val + (0 : Fin 2).val, by omega⟩ (row b t) d)
    (hv : ∀ t d, v (ix3 0 t d) = V ⟨16 + 2 * e.val + (1 : Fin 2).val, by omega⟩ (row b t) d)
    (hlam : lam = lamV) (hx9 : ∀ c, x9 (ix2 0 c) = gain c)
    (hg : ∀ (r : Fin 256) d, gt (ix3 0 r d) = G ⟨16 + 2 * e.val + (0 : Fin 2).val, by omega⟩ (row b ⟨0 + r.val, by omega⟩) d) :
    diffLo (diffNorm (k0_pay8 x9) (firstAcc (diffDiag q k hot hot') (diffDiag q' k' hot hot') lam
        (extractStridedSlice S256x256 ![0, 0] (k0_pay2 u v) hs0)) (firstSum (diffDiag q k hot hot'))) gt x
      = diffOut Q V G lamV gain e b y :=
  lo_piece (a := 0) (by omega) (first_block (a := 0) hQ e b hh eq ek eq' ek'
    (fun j c => (rows_at _ hs0 j ⟨0 + j.val, by omega⟩ rfl c).trans (wide_at hu hv _ c))
    hlam (fun c => (gains_at x9 c).trans (congrArg (· * scale) (hx9 c)))) hg x y h1 h2

/-- The right half of the first block. -/
theorem hi_first (hQ : ∀ a t d, ∃ r : ℝ, Q a t d = r) {e b : Fin 8} (x : S1x256x128.Idx) (y : S1x2048x256.Idx)
    (h1 : (y 1).val = 0 + (x 1).val) (h2 : (y 2).val = 128 + (x 2).val)
    (hh : ∀ r j : Fin 256, ∑ l : Fin 128, hot (ix2 r l) * hot' (ix2 j l) = if j.val / 64 ≤ r.val / 64 then (0 : EReal) else ⊥)
    (eq : ∀ (r : Fin 256) d, q (ix3 0 r d) = Q ⟨32 + 2 * e.val + (0 : Fin 2).val, by omega⟩ (row b ⟨0 + r.val, by omega⟩) d)
    (ek : ∀ (j : Fin 256) d, k (ix3 0 j d) = Q ⟨48 + 2 * e.val + (0 : Fin 2).val, by omega⟩ (row b ⟨0 + j.val, by omega⟩) d)
    (eq' : ∀ (r : Fin 256) d, q' (ix3 0 r d) = Q ⟨32 + 2 * e.val + (1 : Fin 2).val, by omega⟩ (row b ⟨0 + r.val, by omega⟩) d)
    (ek' : ∀ (j : Fin 256) d, k' (ix3 0 j d) = Q ⟨48 + 2 * e.val + (1 : Fin 2).val, by omega⟩ (row b ⟨0 + j.val, by omega⟩) d)
    (hu : ∀ t d, u (ix3 0 t d) = V ⟨16 + 2 * e.val + (0 : Fin 2).val, by omega⟩ (row b t) d)
    (hv : ∀ t d, v (ix3 0 t d) = V ⟨16 + 2 * e.val + (1 : Fin 2).val, by omega⟩ (row b t) d)
    (hlam : lam = lamV) (hx9 : ∀ c, x9 (ix2 0 c) = gain c)
    (hg : ∀ (r : Fin 256) d, gt (ix3 0 r d) = G ⟨16 + 2 * e.val + (1 : Fin 2).val, by omega⟩ (row b ⟨0 + r.val, by omega⟩) d) :
    diffHi (diffNorm (k0_pay8 x9) (firstAcc (diffDiag q k hot hot') (diffDiag q' k' hot hot') lam
        (extractStridedSlice S256x256 ![0, 0] (k0_pay2 u v) hs0)) (firstSum (diffDiag q k hot hot'))) gt x
      = diffOut Q V G lamV gain e b y :=
  hi_piece (a := 0) (by omega) (first_block (a := 0) hQ e b hh eq ek eq' ek'
    (fun j c => (rows_at _ hs0 j ⟨0 + j.val, by omega⟩ rfl c).trans (wide_at hu hv _ c))
    hlam (fun c => (gains_at x9 c).trans (congrArg (· * scale) (hx9 c)))) hg x y h1 h2

end First

end Cert.KernelIdeal.Value
-- ==== Proof.KernelDiffOut.lean ====
/- Every store of the kernel's differential attention, so the whole block of a grid point. -/
module

public import proofs.«01_k».proof.Proof.KernelDiff

@[expose] public section

set_option maxRecDepth 65536

noncomputable section

namespace Cert.KernelIdeal.Value

open Idealize Idealize.ShloMosaic Idealize.ShloMosaic.Tactic
open Cert.KernelIdeal Cert.KernelIdeal.Gen Cert.Attn

/-! The products of a block with the keys and values to its left, at each width the kernel has. -/

theorem left_scores_256 (x : FVec Ideal S256x128 .bf16) (y : FVec Ideal S256x128 .bf16) (r : Fin 256) (j : Fin 256) :
    matmul dot_S256x128_S256x128_S256x256_1_1_0_0_n_n none x y (constant S256x256 .f32 0x00000000#32) (ix2 r j) = ∑ d : Fin 128, x (ix2 r d) * y (ix2 j d) := by
  pointwise [dot_S256x128_S256x128_S256x256_1_1_0_0_n_n]

theorem left_mix_256 (x : FVec Ideal S256x256 .bf16) (y : FVec Ideal S256x256 .bf16) (r c : Fin 256) :
    matmul dot_S256x256_S256x256_S256x256_1_0_0_1_n_n none x y (constant (F := Ideal) S256x256 .f32 0x00000000#32) (ix2 r c) = ∑ j : Fin 256, x (ix2 r j) * y (ix2 j c) := by
  pointwise [dot_S256x256_S256x256_S256x256_1_0_0_1_n_n]

theorem left_scores_512 (x : FVec Ideal S256x128 .bf16) (y : FVec Ideal S512x128 .bf16) (r : Fin 256) (j : Fin 512) :
    matmul dot_S256x128_S512x128_S256x512_1_1_0_0_n_n none x y (constant S256x512 .f32 0x00000000#32) (ix2 r j) = ∑ d : Fin 128, x (ix2 r d) * y (ix2 j d) := by
  pointwise [dot_S256x128_S512x128_S256x512_1_1_0_0_n_n]

theorem left_mix_512 (x : FVec Ideal S256x512 .bf16) (y : FVec Ideal S512x256 .bf16) (r c : Fin 256) :
    matmul dot_S256x512_S512x256_S256x256_1_0_0_1_n_n none x y (constant (F := Ideal) S256x256 .f32 0x00000000#32) (ix2 r c) = ∑ j : Fin 512, x (ix2 r j) * y (ix2 j c) := by
  pointwise [dot_S256x512_S512x256_S256x256_1_0_0_1_n_n]

theorem left_scores_768 (x : FVec Ideal S256x128 .bf16) (y : FVec Ideal S768x128 .bf16) (r : Fin 256) (j : Fin 768) :
    matmul dot_S256x128_S768x128_S256x768_1_1_0_0_n_n none x y (constant S256x768 .f32 0x00000000#32) (ix2 r j) = ∑ d : Fin 128, x (ix2 r d) * y (ix2 j d) := by
  pointwise [dot_S256x128_S768x128_S256x768_1_1_0_0_n_n]

theorem left_mix_768 (x : FVec Ideal S256x768 .bf16) (y : FVec Ideal S768x256 .bf16) (r c : Fin 256) :
    matmul dot_S256x768_S768x256_S256x256_1_0_0_1_n_n none x y (constant (F := Ideal) S256x256 .f32 0x00000000#32) (ix2 r c) = ∑ j : Fin 768, x (ix2 r j) * y (ix2 j c) := by
  pointwise [dot_S256x768_S768x256_S256x256_1_0_0_1_n_n]

theorem left_scores_1024 (x : FVec Ideal S256x128 .bf16) (y : FVec Ideal S1024x128 .bf16) (r : Fin 256) (j : Fin 1024) :
    matmul dot_S256x128_S1024x128_S256x1024_1_1_0_0_n_n none x y (constant S256x1024 .f32 0x00000000#32) (ix2 r j) = ∑ d : Fin 128, x (ix2 r d) * y (ix2 j d) := by
  pointwise [dot_S256x128_S1024x128_S256x1024_1_1_0_0_n_n]

theorem left_mix_1024 (x : FVec Ideal S256x1024 .bf16) (y : FVec Ideal S1024x256 .bf16) (r c : Fin 256) :
    matmul dot_S256x1024_S1024x256_S256x256_1_0_0_1_n_n none x y (constant (F := Ideal) S256x256 .f32 0x00000000#32) (ix2 r c) = ∑ j : Fin 1024, x (ix2 r j) * y (ix2 j c) := by
  pointwise [dot_S256x1024_S1024x256_S256x256_1_0_0_1_n_n]

theorem left_scores_1280 (x : FVec Ideal S256x128 .bf16) (y : FVec Ideal S1280x128 .bf16) (r : Fin 256) (j : Fin 1280) :
    matmul dot_S256x128_S1280x128_S256x1280_1_1_0_0_n_n none x y (constant S256x1280 .f32 0x00000000#32) (ix2 r j) = ∑ d : Fin 128, x (ix2 r d) * y (ix2 j d) := by
  pointwise [dot_S256x128_S1280x128_S256x1280_1_1_0_0_n_n]

theorem left_mix_1280 (x : FVec Ideal S256x1280 .bf16) (y : FVec Ideal S1280x256 .bf16) (r c : Fin 256) :
    matmul dot_S256x1280_S1280x256_S256x256_1_0_0_1_n_n none x y (constant (F := Ideal) S256x256 .f32 0x00000000#32) (ix2 r c) = ∑ j : Fin 1280, x (ix2 r j) * y (ix2 j c) := by
  pointwise [dot_S256x1280_S1280x256_S256x256_1_0_0_1_n_n]

theorem left_scores_1536 (x : FVec Ideal S256x128 .bf16) (y : FVec Ideal S1536x128 .bf16) (r : Fin 256) (j : Fin 1536) :
    matmul dot_S256x128_S1536x128_S256x1536_1_1_0_0_n_n none x y (constant S256x1536 .f32 0x00000000#32) (ix2 r j) = ∑ d : Fin 128, x (ix2 r d) * y (ix2 j d) := by
  pointwise [dot_S256x128_S1536x128_S256x1536_1_1_0_0_n_n]

theorem left_mix_1536 (x : FVec Ideal S256x1536 .bf16) (y : FVec Ideal S1536x256 .bf16) (r c : Fin 256) :
    matmul dot_S256x1536_S1536x256_S256x256_1_0_0_1_n_n none x y (constant (F := Ideal) S256x256 .f32 0x00000000#32) (ix2 r c) = ∑ j : Fin 1536, x (ix2 r j) * y (ix2 j c) := by
  pointwise [dot_S256x1536_S1536x256_S256x256_1_0_0_1_n_n]

theorem left_scores_1792 (x : FVec Ideal S256x128 .bf16) (y : FVec Ideal S1792x128 .bf16) (r : Fin 256) (j : Fin 1792) :
    matmul dot_S256x128_S1792x128_S256x1792_1_1_0_0_n_n none x y (constant S256x1792 .f32 0x00000000#32) (ix2 r j) = ∑ d : Fin 128, x (ix2 r d) * y (ix2 j d) := by
  pointwise [dot_S256x128_S1792x128_S256x1792_1_1_0_0_n_n]

theorem left_mix_1792 (x : FVec Ideal S256x1792 .bf16) (y : FVec Ideal S1792x256 .bf16) (r c : Fin 256) :
    matmul dot_S256x1792_S1792x256_S256x256_1_0_0_1_n_n none x y (constant (F := Ideal) S256x256 .f32 0x00000000#32) (ix2 r c) = ∑ j : Fin 1792, x (ix2 r j) * y (ix2 j c) := by
  pointwise [dot_S256x1792_S1792x256_S256x256_1_0_0_1_n_n]

section Stores

variable {Q : Heads 64} {V G : Heads 32} {lamV : EReal} {gain : Fin 256 → EReal} (hQ : ∀ a t d, ∃ r : ℝ, Q a t d = r) {e b : Fin 8}
  {arg8 : Memref sig .tc .vmem S2x2048x128 .bf16} {harg8 : arg8.IsWhole} {arg9 : Memref sig .tc .vmem S2x2048x128 .bf16} {harg9 : arg9.IsWhole}
  {arg10 : Memref sig .tc .vmem S2x2048x128 .bf16} {harg10 : arg10.IsWhole} {arg12 : Memref sig .tc .vmem S2x2048x128 .bf16} {harg12 : arg12.IsWhole}
  {x0 : Vec Ideal S1 .f32} {x6 x7 x8 : Vec Ideal S2x2048x128 .bf16} {x9 : Vec Ideal S1x256 .f32} {x10 : Vec Ideal S2x2048x128 .bf16}
  (hB : DiffBlocks Q V G lamV gain e b x0 x6 x7 x8 x9 x10)
  {hot hot' : FVec Ideal S256x128 .bf16} {lam : EReal}
include hQ hB

variable {hs0 : S2048x256.Slices ![0, 0] S256x256} in
/-- The store of the left half of the first block. -/
theorem lo_store_first {i1 i2 i3 k1 k2 k3 m1 m2 m3 n1 n2 n3 u1 u2 u3 v1 v2 v3 w1 w2 w3} (x : S1x256x128.Idx) (y : S1x2048x256.Idx)
    (h1 : (y 1).val = 0 + (x 1).val) (h2 : (y 2).val = (x 2).val)
    (hh : ∀ r j : Fin 256, ∑ l : Fin 128, hot (ix2 r l) * hot' (ix2 j l) = if j.val / 64 ≤ r.val / 64 then (0 : EReal) else ⊥)
    (hlam : lam = lamV) :
    diffLo (diffNorm (k0_pay8 x9) (firstAcc (diffDiag (View.readAt (Elt Ideal) arg8.view ((Rect.unit (s := S2x2048x128) ![0, 0, 0] ![2, 2048, 128] i1).withinL (Rect.unit (s := S2x2048x128) ![0, 0, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, 0, 0] ![1, 256, 128] k2).toLoadRect k3) (harg9.unread x7)) hot hot')
        (diffDiag (View.readAt (Elt Ideal) arg8.view ((Rect.unit (s := S2x2048x128) ![0, 0, 0] ![2, 2048, 128] m1).withinL (Rect.unit (s := S2x2048x128) ![1, 0, 0] ![1, 256, 128] m2).toLoadRect m3) (harg8.unread x6)) (View.readAt (Elt Ideal) arg9.view ((Rect.unit (s := S2x2048x128) ![0, 0, 0] ![2, 2048, 128] n1).withinL (Rect.unit (s := S2x2048x128) ![1, 0, 0] ![1, 256, 128] n2).toLoadRect n3) (harg9.unread x7)) hot hot') lam
        (extractStridedSlice S256x256 ![0, 0] (k0_pay2 (View.readAt (Elt Ideal) arg10.view ((Rect.unit (s := S2x2048x128) ![0, 0, 0] ![2, 2048, 128] u1).withinL (Rect.unit (s := S2x2048x128) ![0, 0, 0] ![1, 2048, 128] u2).toLoadRect u3) (harg10.unread x8)) (View.readAt (Elt Ideal) arg10.view ((Rect.unit (s := S2x2048x128) ![0, 0, 0] ![2, 2048, 128] v1).withinL (Rect.unit (s := S2x2048x128) ![1, 0, 0] ![1, 2048, 128] v2).toLoadRect v3) (harg10.unread x8))) hs0)) (firstSum (diffDiag (View.readAt (Elt Ideal) arg8.view ((Rect.unit (s := S2x2048x128) ![0, 0, 0] ![2, 2048, 128] i1).withinL (Rect.unit (s := S2x2048x128) ![0, 0, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, 0, 0] ![1, 256, 128] k2).toLoadRect k3) (harg9.unread x7)) hot hot')))
      (View.readAt (Elt Ideal) arg12.view ((Rect.unit (s := S2x2048x128) ![0, 0, 0] ![2, 2048, 128] w1).withinL (Rect.unit (s := S2x2048x128) ![0, 0, 0] ![1, 256, 128] w2).toLoadRect w3) (harg12.unread x10)) x = diffOut Q V G lamV gain e b y :=
  lo_first hQ x y h1 h2 hh
    (fun i d => (plane_at arg8 harg8 x6 _ _ _ i d (ix3 (0 : Fin 2) _ d) rfl rfl rfl).trans (hB.q 0 _ d))
    (fun i d => (plane_at arg9 harg9 x7 _ _ _ i d (ix3 (0 : Fin 2) _ d) rfl rfl rfl).trans (hB.k 0 _ d))
    (fun i d => (plane_at arg8 harg8 x6 _ _ _ i d (ix3 (1 : Fin 2) _ d) rfl rfl rfl).trans (hB.q 1 _ d))
    (fun i d => (plane_at arg9 harg9 x7 _ _ _ i d (ix3 (1 : Fin 2) _ d) rfl rfl rfl).trans (hB.k 1 _ d))
    (fun i d => (plane_at arg10 harg10 x8 _ _ _ i d (ix3 (0 : Fin 2) _ d) rfl (Nat.zero_add _).symm rfl).trans (hB.v 0 _ d))
    (fun i d => (plane_at arg10 harg10 x8 _ _ _ i d (ix3 (1 : Fin 2) _ d) rfl (Nat.zero_add _).symm rfl).trans (hB.v 1 _ d))
    hlam hB.gain (fun i d => (plane_at arg12 harg12 x10 _ _ _ i d (ix3 (0 : Fin 2) _ d) rfl rfl rfl).trans (hB.gate 0 _ d))

variable {hs0 : S2048x256.Slices ![0, 0] S256x256} in
/-- The store of the right half of the first block. -/
theorem hi_store_first {i1 i2 i3 k1 k2 k3 m1 m2 m3 n1 n2 n3 u1 u2 u3 v1 v2 v3 w1 w2 w3} (x : S1x256x128.Idx) (y : S1x2048x256.Idx)
    (h1 : (y 1).val = 0 + (x 1).val) (h2 : (y 2).val = 128 + (x 2).val)
    (hh : ∀ r j : Fin 256, ∑ l : Fin 128, hot (ix2 r l) * hot' (ix2 j l) = if j.val / 64 ≤ r.val / 64 then (0 : EReal) else ⊥)
    (hlam : lam = lamV) :
    diffHi (diffNorm (k0_pay8 x9) (firstAcc (diffDiag (View.readAt (Elt Ideal) arg8.view ((Rect.unit (s := S2x2048x128) ![0, 0, 0] ![2, 2048, 128] i1).withinL (Rect.unit (s := S2x2048x128) ![0, 0, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, 0, 0] ![1, 256, 128] k2).toLoadRect k3) (harg9.unread x7)) hot hot')
        (diffDiag (View.readAt (Elt Ideal) arg8.view ((Rect.unit (s := S2x2048x128) ![0, 0, 0] ![2, 2048, 128] m1).withinL (Rect.unit (s := S2x2048x128) ![1, 0, 0] ![1, 256, 128] m2).toLoadRect m3) (harg8.unread x6)) (View.readAt (Elt Ideal) arg9.view ((Rect.unit (s := S2x2048x128) ![0, 0, 0] ![2, 2048, 128] n1).withinL (Rect.unit (s := S2x2048x128) ![1, 0, 0] ![1, 256, 128] n2).toLoadRect n3) (harg9.unread x7)) hot hot') lam
        (extractStridedSlice S256x256 ![0, 0] (k0_pay2 (View.readAt (Elt Ideal) arg10.view ((Rect.unit (s := S2x2048x128) ![0, 0, 0] ![2, 2048, 128] u1).withinL (Rect.unit (s := S2x2048x128) ![0, 0, 0] ![1, 2048, 128] u2).toLoadRect u3) (harg10.unread x8)) (View.readAt (Elt Ideal) arg10.view ((Rect.unit (s := S2x2048x128) ![0, 0, 0] ![2, 2048, 128] v1).withinL (Rect.unit (s := S2x2048x128) ![1, 0, 0] ![1, 2048, 128] v2).toLoadRect v3) (harg10.unread x8))) hs0)) (firstSum (diffDiag (View.readAt (Elt Ideal) arg8.view ((Rect.unit (s := S2x2048x128) ![0, 0, 0] ![2, 2048, 128] i1).withinL (Rect.unit (s := S2x2048x128) ![0, 0, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, 0, 0] ![1, 256, 128] k2).toLoadRect k3) (harg9.unread x7)) hot hot')))
      (View.readAt (Elt Ideal) arg12.view ((Rect.unit (s := S2x2048x128) ![0, 0, 0] ![2, 2048, 128] w1).withinL (Rect.unit (s := S2x2048x128) ![1, 0, 0] ![1, 256, 128] w2).toLoadRect w3) (harg12.unread x10)) x = diffOut Q V G lamV gain e b y :=
  hi_first hQ x y h1 h2 hh
    (fun i d => (plane_at arg8 harg8 x6 _ _ _ i d (ix3 (0 : Fin 2) _ d) rfl rfl rfl).trans (hB.q 0 _ d))
    (fun i d => (plane_at arg9 harg9 x7 _ _ _ i d (ix3 (0 : Fin 2) _ d) rfl rfl rfl).trans (hB.k 0 _ d))
    (fun i d => (plane_at arg8 harg8 x6 _ _ _ i d (ix3 (1 : Fin 2) _ d) rfl rfl rfl).trans (hB.q 1 _ d))
    (fun i d => (plane_at arg9 harg9 x7 _ _ _ i d (ix3 (1 : Fin 2) _ d) rfl rfl rfl).trans (hB.k 1 _ d))
    (fun i d => (plane_at arg10 harg10 x8 _ _ _ i d (ix3 (0 : Fin 2) _ d) rfl (Nat.zero_add _).symm rfl).trans (hB.v 0 _ d))
    (fun i d => (plane_at arg10 harg10 x8 _ _ _ i d (ix3 (1 : Fin 2) _ d) rfl (Nat.zero_add _).symm rfl).trans (hB.v 1 _ d))
    hlam hB.gain (fun i d => (plane_at arg12 harg12 x10 _ _ _ i d (ix3 (1 : Fin 2) _ d) rfl rfl rfl).trans (hB.gate 1 _ d))

variable {a : ℕ}
  {dS : DotDims S256x128 ⟨2, ![a, 128]⟩ ⟨2, ![256, a]⟩} {hc : (⟨3, ![1, a, 128]⟩ : Shape).ShapeCasts ⟨2, ![a, 128]⟩}
  {dT : DotDims ⟨2, ![256, a]⟩ ⟨2, ![a, 256]⟩ S256x256}
  {hr : (⟨2, ![256, a]⟩ : Shape).Reduces [1] S256} {hb : S256x1.Broadcasts ⟨2, ![256, a]⟩}
  {hs : S2048x256.Slices ![a, 0] S256x256} {hs' : S2048x256.Slices ![0, 0] ⟨2, ![a, 256]⟩}

/-- The store of the left half of a block with keys to its left. -/
theorem lo_store_later {i1 i2 i3 k1 k2 k3 m1 m2 m3 n1 n2 n3 u1 u2 u3 v1 v2 v3 w1 w2 w3 p1 p2 p3 r1 r2 r3} (x : S1x256x128.Idx) (y : S1x2048x256.Idx)
    (h1 : (y 1).val = a + (x 1).val) (h2 : (y 2).val = (x 2).val)
    (ha : a % 256 = 0) (hn : a + 256 ≤ 2048)
    (hS : ∀ (x : FVec Ideal S256x128 .bf16) (y : FVec Ideal ⟨2, ![a, 128]⟩ .bf16) (r : Fin 256) (j : Fin a),
      matmul dS none x y (constant ⟨2, ![256, a]⟩ .f32 0x00000000#32) (ix2 r j) = ∑ d : Fin 128, x (ix2 r d) * y (ix2 j d))
    (hT : ∀ (x : FVec Ideal ⟨2, ![256, a]⟩ .bf16) (y : FVec Ideal ⟨2, ![a, 256]⟩ .bf16) (r c : Fin 256),
      matmul dT none x y (constant S256x256 .f32 0x00000000#32) (ix2 r c) = ∑ j : Fin a, x (ix2 r j) * y (ix2 j c))
    (hh : ∀ r j : Fin 256, ∑ l : Fin 128, hot (ix2 r l) * hot' (ix2 j l) = if j.val / 64 ≤ r.val / 64 then (0 : EReal) else ⊥)
    (hlam : lam = lamV) :
    diffLo (diffNorm (k0_pay8 x9) (diffAcc
        (diffDiag (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, a, 0] ![1, 256, 128] k2).toLoadRect k3) (harg9.unread x7)) hot hot')
        (diffDiag (View.readAt (Elt Ideal) arg8.view ((Rect.unit (s := S2x2048x128) ![0, 0, 0] ![2, 2048, 128] m1).withinL (Rect.unit (s := S2x2048x128) ![1, a, 0] ![1, 256, 128] m2).toLoadRect m3) (harg8.unread x6)) (View.readAt (Elt Ideal) arg9.view ((Rect.unit (s := S2x2048x128) ![0, 0, 0] ![2, 2048, 128] n1).withinL (Rect.unit (s := S2x2048x128) ![1, a, 0] ![1, 256, 128] n2).toLoadRect n3) (harg9.unread x7)) hot hot')
        (diffLeft (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] p1).withinL (Rect.unit (s := S2x2048x128) ![0, 0, 0] ![1, a, 128] p2).toLoadRect p3) (harg9.unread x7)) dS hc)
        (diffLeft (View.readAt (Elt Ideal) arg8.view ((Rect.unit (s := S2x2048x128) ![0, 0, 0] ![2, 2048, 128] m1).withinL (Rect.unit (s := S2x2048x128) ![1, a, 0] ![1, 256, 128] m2).toLoadRect m3) (harg8.unread x6)) (View.readAt (Elt Ideal) arg9.view ((Rect.unit (s := S2x2048x128) ![0, 0, 0] ![2, 2048, 128] r1).withinL (Rect.unit (s := S2x2048x128) ![1, 0, 0] ![1, a, 128] r2).toLoadRect r3) (harg9.unread x7)) dS hc) lam
        (extractStridedSlice S256x256 ![a, 0] (k0_pay2 (View.readAt (Elt Ideal) arg10.view ((Rect.unit (s := S2x2048x128) ![0, 0, 0] ![2, 2048, 128] u1).withinL (Rect.unit (s := S2x2048x128) ![0, 0, 0] ![1, 2048, 128] u2).toLoadRect u3) (harg10.unread x8)) (View.readAt (Elt Ideal) arg10.view ((Rect.unit (s := S2x2048x128) ![0, 0, 0] ![2, 2048, 128] v1).withinL (Rect.unit (s := S2x2048x128) ![1, 0, 0] ![1, 2048, 128] v2).toLoadRect v3) (harg10.unread x8))) hs)
        (extractStridedSlice ⟨2, ![a, 256]⟩ ![0, 0] (k0_pay2 (View.readAt (Elt Ideal) arg10.view ((Rect.unit (s := S2x2048x128) ![0, 0, 0] ![2, 2048, 128] u1).withinL (Rect.unit (s := S2x2048x128) ![0, 0, 0] ![1, 2048, 128] u2).toLoadRect u3) (harg10.unread x8)) (View.readAt (Elt Ideal) arg10.view ((Rect.unit (s := S2x2048x128) ![0, 0, 0] ![2, 2048, 128] v1).withinL (Rect.unit (s := S2x2048x128) ![1, 0, 0] ![1, 2048, 128] v2).toLoadRect v3) (harg10.unread x8))) hs') dT hr hb)
      (diffSum (diffDiag (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, a, 0] ![1, 256, 128] k2).toLoadRect k3) (harg9.unread x7)) hot hot') (diffLeft (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] p1).withinL (Rect.unit (s := S2x2048x128) ![0, 0, 0] ![1, a, 128] p2).toLoadRect p3) (harg9.unread x7)) dS hc) hr hb))
      (View.readAt (Elt Ideal) arg12.view ((Rect.unit (s := S2x2048x128) ![0, 0, 0] ![2, 2048, 128] w1).withinL (Rect.unit (s := S2x2048x128) ![0, a, 0] ![1, 256, 128] w2).toLoadRect w3) (harg12.unread x10)) x = diffOut Q V G lamV gain e b y :=
  lo_later hQ x y h1 h2 ha hn hS hT hh
    (fun i d => (plane_at arg8 harg8 x6 _ _ _ i d (ix3 (0 : Fin 2) _ d) rfl rfl rfl).trans (hB.q 0 _ d))
    (fun i d => (plane_at arg9 harg9 x7 _ _ _ i d (ix3 (0 : Fin 2) _ d) rfl rfl rfl).trans (hB.k 0 _ d))
    (fun i d => (plane_at arg8 harg8 x6 _ _ _ i d (ix3 (1 : Fin 2) _ d) rfl rfl rfl).trans (hB.q 1 _ d))
    (fun i d => (plane_at arg9 harg9 x7 _ _ _ i d (ix3 (1 : Fin 2) _ d) rfl rfl rfl).trans (hB.k 1 _ d))
    (fun i d => (plane_at arg9 harg9 x7 _ _ _ i d (ix3 (0 : Fin 2) _ d) rfl (Nat.zero_add _).symm rfl).trans (hB.k 0 _ d))
    (fun i d => (plane_at arg9 harg9 x7 _ _ _ i d (ix3 (1 : Fin 2) _ d) rfl (Nat.zero_add _).symm rfl).trans (hB.k 1 _ d))
    (fun i d => (plane_at arg10 harg10 x8 _ _ _ i d (ix3 (0 : Fin 2) _ d) rfl (Nat.zero_add _).symm rfl).trans (hB.v 0 _ d))
    (fun i d => (plane_at arg10 harg10 x8 _ _ _ i d (ix3 (1 : Fin 2) _ d) rfl (Nat.zero_add _).symm rfl).trans (hB.v 1 _ d))
    hlam hB.gain (fun i d => (plane_at arg12 harg12 x10 _ _ _ i d (ix3 (0 : Fin 2) _ d) rfl rfl rfl).trans (hB.gate 0 _ d))

/-- The store of the right half of a block with keys to its left. -/
theorem hi_store_later {i1 i2 i3 k1 k2 k3 m1 m2 m3 n1 n2 n3 u1 u2 u3 v1 v2 v3 w1 w2 w3 p1 p2 p3 r1 r2 r3} (x : S1x256x128.Idx) (y : S1x2048x256.Idx)
    (h1 : (y 1).val = a + (x 1).val) (h2 : (y 2).val = 128 + (x 2).val)
    (ha : a % 256 = 0) (hn : a + 256 ≤ 2048)
    (hS : ∀ (x : FVec Ideal S256x128 .bf16) (y : FVec Ideal ⟨2, ![a, 128]⟩ .bf16) (r : Fin 256) (j : Fin a),
      matmul dS none x y (constant ⟨2, ![256, a]⟩ .f32 0x00000000#32) (ix2 r j) = ∑ d : Fin 128, x (ix2 r d) * y (ix2 j d))
    (hT : ∀ (x : FVec Ideal ⟨2, ![256, a]⟩ .bf16) (y : FVec Ideal ⟨2, ![a, 256]⟩ .bf16) (r c : Fin 256),
      matmul dT none x y (constant S256x256 .f32 0x00000000#32) (ix2 r c) = ∑ j : Fin a, x (ix2 r j) * y (ix2 j c))
    (hh : ∀ r j : Fin 256, ∑ l : Fin 128, hot (ix2 r l) * hot' (ix2 j l) = if j.val / 64 ≤ r.val / 64 then (0 : EReal) else ⊥)
    (hlam : lam = lamV) :
    diffHi (diffNorm (k0_pay8 x9) (diffAcc
        (diffDiag (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, a, 0] ![1, 256, 128] k2).toLoadRect k3) (harg9.unread x7)) hot hot')
        (diffDiag (View.readAt (Elt Ideal) arg8.view ((Rect.unit (s := S2x2048x128) ![0, 0, 0] ![2, 2048, 128] m1).withinL (Rect.unit (s := S2x2048x128) ![1, a, 0] ![1, 256, 128] m2).toLoadRect m3) (harg8.unread x6)) (View.readAt (Elt Ideal) arg9.view ((Rect.unit (s := S2x2048x128) ![0, 0, 0] ![2, 2048, 128] n1).withinL (Rect.unit (s := S2x2048x128) ![1, a, 0] ![1, 256, 128] n2).toLoadRect n3) (harg9.unread x7)) hot hot')
        (diffLeft (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] p1).withinL (Rect.unit (s := S2x2048x128) ![0, 0, 0] ![1, a, 128] p2).toLoadRect p3) (harg9.unread x7)) dS hc)
        (diffLeft (View.readAt (Elt Ideal) arg8.view ((Rect.unit (s := S2x2048x128) ![0, 0, 0] ![2, 2048, 128] m1).withinL (Rect.unit (s := S2x2048x128) ![1, a, 0] ![1, 256, 128] m2).toLoadRect m3) (harg8.unread x6)) (View.readAt (Elt Ideal) arg9.view ((Rect.unit (s := S2x2048x128) ![0, 0, 0] ![2, 2048, 128] r1).withinL (Rect.unit (s := S2x2048x128) ![1, 0, 0] ![1, a, 128] r2).toLoadRect r3) (harg9.unread x7)) dS hc) lam
        (extractStridedSlice S256x256 ![a, 0] (k0_pay2 (View.readAt (Elt Ideal) arg10.view ((Rect.unit (s := S2x2048x128) ![0, 0, 0] ![2, 2048, 128] u1).withinL (Rect.unit (s := S2x2048x128) ![0, 0, 0] ![1, 2048, 128] u2).toLoadRect u3) (harg10.unread x8)) (View.readAt (Elt Ideal) arg10.view ((Rect.unit (s := S2x2048x128) ![0, 0, 0] ![2, 2048, 128] v1).withinL (Rect.unit (s := S2x2048x128) ![1, 0, 0] ![1, 2048, 128] v2).toLoadRect v3) (harg10.unread x8))) hs)
        (extractStridedSlice ⟨2, ![a, 256]⟩ ![0, 0] (k0_pay2 (View.readAt (Elt Ideal) arg10.view ((Rect.unit (s := S2x2048x128) ![0, 0, 0] ![2, 2048, 128] u1).withinL (Rect.unit (s := S2x2048x128) ![0, 0, 0] ![1, 2048, 128] u2).toLoadRect u3) (harg10.unread x8)) (View.readAt (Elt Ideal) arg10.view ((Rect.unit (s := S2x2048x128) ![0, 0, 0] ![2, 2048, 128] v1).withinL (Rect.unit (s := S2x2048x128) ![1, 0, 0] ![1, 2048, 128] v2).toLoadRect v3) (harg10.unread x8))) hs') dT hr hb)
      (diffSum (diffDiag (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] k1).withinL (Rect.unit (s := S2x2048x128) ![0, a, 0] ![1, 256, 128] k2).toLoadRect k3) (harg9.unread x7)) hot hot') (diffLeft (View.readAt (Elt Ideal) arg8.view ((Rect.unit (s := S2x2048x128) ![0, 0, 0] ![2, 2048, 128] i1).withinL (Rect.unit (s := S2x2048x128) ![0, a, 0] ![1, 256, 128] i2).toLoadRect i3) (harg8.unread x6)) (View.readAt (Elt Ideal) arg9.view ((Rect.unit (s := S2x2048x128) ![0, 0, 0] ![2, 2048, 128] p1).withinL (Rect.unit (s := S2x2048x128) ![0, 0, 0] ![1, a, 128] p2).toLoadRect p3) (harg9.unread x7)) dS hc) hr hb))
      (View.readAt (Elt Ideal) arg12.view ((Rect.unit (s := S2x2048x128) ![0, 0, 0] ![2, 2048, 128] w1).withinL (Rect.unit (s := S2x2048x128) ![1, a, 0] ![1, 256, 128] w2).toLoadRect w3) (harg12.unread x10)) x = diffOut Q V G lamV gain e b y :=
  hi_later hQ x y h1 h2 ha hn hS hT hh
    (fun i d => (plane_at arg8 harg8 x6 _ _ _ i d (ix3 (0 : Fin 2) _ d) rfl rfl rfl).trans (hB.q 0 _ d))
    (fun i d => (plane_at arg9 harg9 x7 _ _ _ i d (ix3 (0 : Fin 2) _ d) rfl rfl rfl).trans (hB.k 0 _ d))
    (fun i d => (plane_at arg8 harg8 x6 _ _ _ i d (ix3 (1 : Fin 2) _ d) rfl rfl rfl).trans (hB.q 1 _ d))
    (fun i d => (plane_at arg9 harg9 x7 _ _ _ i d (ix3 (1 : Fin 2) _ d) rfl rfl rfl).trans (hB.k 1 _ d))
    (fun i d => (plane_at arg9 harg9 x7 _ _ _ i d (ix3 (0 : Fin 2) _ d) rfl (Nat.zero_add _).symm rfl).trans (hB.k 0 _ d))
    (fun i d => (plane_at arg9 harg9 x7 _ _ _ i d (ix3 (1 : Fin 2) _ d) rfl (Nat.zero_add _).symm rfl).trans (hB.k 1 _ d))
    (fun i d => (plane_at arg10 harg10 x8 _ _ _ i d (ix3 (0 : Fin 2) _ d) rfl (Nat.zero_add _).symm rfl).trans (hB.v 0 _ d))
    (fun i d => (plane_at arg10 harg10 x8 _ _ _ i d (ix3 (1 : Fin 2) _ d) rfl (Nat.zero_add _).symm rfl).trans (hB.v 1 _ d))
    hlam hB.gain (fun i d => (plane_at arg12 harg12 x10 _ _ _ i d (ix3 (1 : Fin 2) _ d) rfl rfl rfl).trans (hB.gate 1 _ d))

end Stores

set_option maxHeartbeats 8000000 in
/-- Every store of the differential attention, so its whole block. -/
theorem diff_out {Q : Heads 64} {V G : Heads 32} {lam : EReal} {gain : Fin 256 → EReal} (hQ : ∀ a t d, ∃ r : ℝ, Q a t d = r)
    {e b : Fin 8} (c : Dev nD) (i : grid0.Coords)
    (arg2 : Memref sig .tc .smem S1 .f32) (harg2 : arg2.IsWhole)
    (arg3 : Memref sig .tc .vmem S2x2048x128 .bf16) (harg3 : arg3.IsWhole)
    (arg4 : Memref sig .tc .vmem S2x2048x128 .bf16) (harg4 : arg4.IsWhole)
    (arg5 : Memref sig .tc .vmem S2x2048x128 .bf16) (harg5 : arg5.IsWhole)
    (arg6 : Memref sig .tc .vmem S2x128x640 .f32) (harg6 : arg6.IsWhole)
    (arg7 : Memref sig .tc .vmem S2x2048x128 .bf16) (harg7 : arg7.IsWhole)
    (arg8 : Memref sig .tc .vmem S2x2048x128 .bf16) (harg8 : arg8.IsWhole)
    (arg9 : Memref sig .tc .vmem S2x2048x128 .bf16) (harg9 : arg9.IsWhole)
    (arg10 : Memref sig .tc .vmem S2x2048x128 .bf16) (harg10 : arg10.IsWhole)
    (arg11 : Memref sig .tc .vmem S1x256 .f32) (harg11 : arg11.IsWhole)
    (arg12 : Memref sig .tc .vmem S2x2048x128 .bf16) (harg12 : arg12.IsWhole)
    (arg13 : Memref sig .tc .vmem S2x2048x128 .bf16) (harg13 : arg13.IsWhole)
    (arg14 : Memref sig .tc .vmem S1x2048x256 .bf16) (harg14 : arg14.IsWhole)
    (arg15 : Memref sig .tc .vmem S2x2048x256 .bf16) (harg15 : arg15.IsWhole)
    (x0 : Vec Ideal S1 .f32) (x1 : Vec Ideal S2x2048x128 .bf16) (x2 : Vec Ideal S2x2048x128 .bf16) (x3 : Vec Ideal S2x2048x128 .bf16) (x4 : Vec Ideal S2x128x640 .f32) (x5 : Vec Ideal S2x2048x128 .bf16) (x6 : Vec Ideal S2x2048x128 .bf16) (x7 : Vec Ideal S2x2048x128 .bf16) (x8 : Vec Ideal S2x2048x128 .bf16) (x9 : Vec Ideal S1x256 .f32) (x10 : Vec Ideal S2x2048x128 .bf16)
    (hB : DiffBlocks Q V G lam gain e b x0 x6 x7 x8 x9 x10) (y : S1x2048x256.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y = diffOut Q V G lam gain e b y := by
  unfold out0_A_12
  frame_out
  canon_tiles x h
  case' piece0 => refine hi_store_later hQ hB x y (by omega) (by omega) (by omega) (by omega) ?_ ?_ ?_ ?_
  case' piece1 => refine lo_store_later hQ hB x y (by omega) (by omega) (by omega) (by omega) ?_ ?_ ?_ ?_
  case' piece2 => refine hi_store_later hQ hB x y (by omega) (by omega) (by omega) (by omega) ?_ ?_ ?_ ?_
  case' piece3 => refine lo_store_later hQ hB x y (by omega) (by omega) (by omega) (by omega) ?_ ?_ ?_ ?_
  case' piece4 => refine hi_store_later hQ hB x y (by omega) (by omega) (by omega) (by omega) ?_ ?_ ?_ ?_
  case' piece5 => refine lo_store_later hQ hB x y (by omega) (by omega) (by omega) (by omega) ?_ ?_ ?_ ?_
  case' piece6 => refine hi_store_later hQ hB x y (by omega) (by omega) (by omega) (by omega) ?_ ?_ ?_ ?_
  case' piece7 => refine lo_store_later hQ hB x y (by omega) (by omega) (by omega) (by omega) ?_ ?_ ?_ ?_
  case' piece8 => refine hi_store_later hQ hB x y (by omega) (by omega) (by omega) (by omega) ?_ ?_ ?_ ?_
  case' piece9 => refine lo_store_later hQ hB x y (by omega) (by omega) (by omega) (by omega) ?_ ?_ ?_ ?_
  case' piece10 => refine hi_store_later hQ hB x y (by omega) (by omega) (by omega) (by omega) ?_ ?_ ?_ ?_
  case' piece11 => refine lo_store_later hQ hB x y (by omega) (by omega) (by omega) (by omega) ?_ ?_ ?_ ?_
  case' piece12 => refine hi_store_later hQ hB x y (by omega) (by omega) (by omega) (by omega) ?_ ?_ ?_ ?_
  case' piece13 => refine lo_store_later hQ hB x y (by omega) (by omega) (by omega) (by omega) ?_ ?_ ?_ ?_
  case' piece14 => refine hi_store_first hQ hB x y (by omega) (by omega) ?_ ?_
  case' piece15 => refine lo_store_first hQ hB x y (by omega) (by omega) ?_ ?_
  all_goals first
    | exact left_scores_256 | exact left_scores_512 | exact left_scores_768 | exact left_scores_1024 | exact left_scores_1280
    | exact left_scores_1536 | exact left_scores_1792
    | exact left_mix_256 | exact left_mix_512 | exact left_mix_768 | exact left_mix_1024 | exact left_mix_1280
    | exact left_mix_1536 | exact left_mix_1792
    | exact hot_at
    | exact (only x0 _).trans hB.lam

end Cert.KernelIdeal.Value
-- ==== Proof.Tile.lean ====
/- The kernel's host operands: the bias tile laid out from the table, and the factor of the second map. -/
module

public import proofs.«01_k».proof.Proof.KernelLocal
public import proofs.«01_k».proof.Proof.KernelDiffOut
public import proofs.«01_k».proof.Proof.Gen.KernelIdeal.Value
public import Idealize.ShloMosaic.Lib.StableHlo.RunRead

@[expose] public section

set_option maxRecDepth 16384

noncomputable section

namespace Cert.KernelIdeal.Value

open Idealize Idealize.ShloMosaic Idealize.ShloMosaic.Tactic
open Cert.KernelIdeal Cert.KernelIdeal.Gen Cert.Attn

/-- One line of the tile: the table's last column 447 times, its columns 256 down to 65, and a zero. -/
def biasLine (T : FVec Ideal S16x257 .f32) : FVec Ideal S16x640 .f32 :=
  concatenate S16x640 1 [⟨S16x447, broadcastInDim S16x447 ![0, 1] bcast_S16x1_S16x447_0_1 (extractStridedSlice S16x1 ![0, 256] T slices_S16x257_S16x1_0_256)⟩,
    ⟨S16x192, Host.reverse [1] (extractStridedSlice S16x192 ![0, 65] T slices_S16x257_S16x192_0_65)⟩,
    ⟨S16x1, broadcastInDim S16x1 ![] bcast_S_S16x1 (constant S_ .f32 0x00000000#32)⟩] concatenates_S16x447_S16x192_S16x1_S16x640_d1

/-- Below its last entry the line holds the column at distance `575 - p`, clipped. -/
theorem biasLine_at (T : FVec Ideal S16x257 .f32) (h : Fin 16) (p : Fin 640) (hp : p.val < 639) :
    biasLine T (ix2 h p) = T (ix2 h ⟨min (703 - p.val) 256, by omega⟩) := by
  pointwise [biasLine]
  by_cases h1 : p.val < 447
  · rw [dif_pos h1]
    refine congrArg (fun z => T (ix2 h z)) (Fin.ext ?_)
    show 256 = min (703 - p.val) 256
    omega
  · have h2 : p.val - 447 < 192 := by omega
    rw [dif_neg h1, dif_pos h2]
    refine congrArg₂ (fun y z => T (ix2 y z)) rfl (Fin.ext ?_)
    show 65 + (192 - (p.val - 447 + 1)) = min (703 - p.val) 256
    omega

/-- The line written 64 times, each time one entry further right. -/
def sheared (L : FVec Ideal S16x640 .f32) : FVec Ideal S16x64x576 .f32 :=
  extractStridedSlice S16x64x576 ![0, 0, 63] (shapeCast S16x64x639 (extractStridedSlice S16x40896 ![0, 0]
    (shapeCast S16x40960 (broadcastInDim S1x16x64x640 ![0, 1, 2, 3] bcast_S1x16x1x640_S1x16x64x640_0_1_2_3
      (shapeCast S1x16x1x640 L shapeCasts_S16x640_S1x16x1x640)) shapeCasts_S1x16x64x640_S16x40960)
    slices_S16x40960_S16x40896_0_0) shapeCasts_S16x40896_S16x64x639) slices_S16x64x639_S16x64x576_0_0_63

theorem sheared_at (L : FVec Ideal S16x640 .f32) (h : Fin 16) (r : Fin 64) (x : Fin 576) :
    sheared L (ix3 h r x) = L (ix2 h ⟨63 + x.val - r.val, by omega⟩) := by
  pointwise [sheared]
  refine congrArg (fun z => L (ix2 h z)) (Fin.ext ?_)
  dsimp only
  omega

/-- The tile of two query chunks: the second chunk's keys stand 64 columns further right. -/
def tileOf (S : FVec Ideal S16x64x576 .f32) : FVec Ideal S16x128x640 .f32 :=
  concatenate S16x128x640 1 [
    ⟨S16x64x640, concatenate S16x64x640 2 [⟨S16x64x576, S⟩, ⟨S16x64x64, broadcastInDim S16x64x64 ![] bcast_S_S16x64x64 (constant S_ .f32 0xFF800000#32)⟩] concatenates_S16x64x576_S16x64x64_S16x64x640_d2⟩,
    ⟨S16x64x640, concatenate S16x64x640 2 [⟨S16x64x64, broadcastInDim S16x64x64 ![] bcast_S_S16x64x64 (constant S_ .f32 0xFF800000#32)⟩, ⟨S16x64x576, S⟩] concatenates_S16x64x64_S16x64x576_S16x64x640_d2⟩]
    concatenates_S16x64x640_S16x64x640_S16x128x640_d1

theorem tileOf_at (S : FVec Ideal S16x64x576 .f32) (h : Fin 16) (r : Fin 128) (x : Fin 640) :
    tileOf S (ix3 h r x) = if hv : x.val / 64 ≤ r.val / 64 + 8 ∧ r.val / 64 ≤ x.val / 64 then
      S (ix3 h ⟨r.val % 64, by omega⟩ ⟨x.val - 64 * (r.val / 64), by omega⟩) else ⊥ := by
  pointwise [tileOf]
  by_cases hr : r.val < 64
  · rw [dif_pos hr]
    by_cases hx : x.val < 576
    · rw [dif_pos hx, dif_pos ⟨by omega, by omega⟩]
      exact congrArg₂ (fun y z => S (ix3 h y z)) (Fin.ext (by dsimp only; omega)) (Fin.ext (by dsimp only; omega))
    · rw [dif_neg hx, dif_neg (by omega)]
      exact ofBits_bot
  · rw [dif_neg hr]
    by_cases hx : x.val < 64
    · rw [dif_pos hx, dif_neg (by omega)]
      exact ofBits_bot
    · rw [dif_neg hx, dif_pos ⟨by omega, by omega⟩]
      exact congrArg₂ (fun y z => S (ix3 h y z)) (Fin.ext (by dsimp only; omega)) (Fin.ext (by dsimp only; omega))

/-- The host's tile is the table's columns at the clipped distances, `⊥` outside the band. -/
theorem bias_tile_at (T : FVec Ideal S16x257 .f32) (h : Fin 16) (r : Fin 128) (x : Fin 640) :
    tileOf (sheared (biasLine T)) (ix3 h r x) = tile (fun y => T (ix2 h y)) r x := by
  rw [tileOf_at]
  unfold tile
  by_cases hv : x.val / 64 ≤ r.val / 64 + 8 ∧ r.val / 64 ≤ x.val / 64
  · rw [dif_pos hv, if_pos hv, sheared_at, biasLine_at _ _ _ (by dsimp only; omega)]
    refine congrArg (fun z => T (ix2 h z)) (Fin.ext ?_)
    dsimp only
    omega
  · rw [dif_neg hv, if_neg hv]

/-- The factor of the second map. -/
def lamK (a b c d : FVec Ideal S128 .f32) : EReal :=
  Ideal.exp (∑ i : Fin 128, a (ix1 i) * b (ix1 i)) - Ideal.exp (∑ i : Fin 128, c (ix1 i) * d (ix1 i)) + Ideal.ofBits .f32 0x3E4CCCCD#32

variable (m : (ℓ : Loc nD τ sig) → Buf (Elt Ideal) ℓ) (c : Dev nD)

set_option maxHeartbeats 2000000 in
theorem tile_entry (h : Fin 16) (r : Fin 128) (x : Fin 640) :
    V m c main_v24 (ix3 h r x) = tile (fun y => m ((c.tc : Thread nD τ).loc main_arg3) (ix2 h y)) r x := by
  refine Eq.trans (congrFun ?_ _) (bias_tile_at (m ((c.tc : Thread nD τ).loc main_arg3)) h r x)
  unfold V
  after_reads_simp
  rfl

set_option maxHeartbeats 2000000 in
theorem lam_entry (i : S1.Idx) : V m c main_v8 i = lamK (m ((c.tc : Thread nD τ).loc main_arg4)) (m ((c.tc : Thread nD τ).loc main_arg5))
    (m ((c.tc : Thread nD τ).loc main_arg6)) (m ((c.tc : Thread nD τ).loc main_arg7)) := by
  entry_read
  pointwise [lamK]

set_option maxHeartbeats 2000000 in
theorem gain_entry (x : Fin 256) : V m c main_v25 (ix2 0 x) = m ((c.tc : Thread nD τ).loc main_arg8) (ix1 x) := by
  entry_read
  pointwise

end Cert.KernelIdeal.Value
-- ==== Proof.Bridge.lean ====
/- The kernel's two result arrays: each grid point's block is the block of the attention it computes. -/
module

public import proofs.«01_k».proof.Proof.Tile
public import Idealize.ShloMosaic.Lib.Pipeline.ValueKit

@[expose] public section

set_option maxRecDepth 16384

noncomputable section

namespace Cert.KernelIdeal.Value

open Idealize Idealize.ShloMosaic Idealize.ShloMosaic.Tactic
open Cert.KernelIdeal Cert.KernelIdeal.Gen Cert.Attn

variable (m : (ℓ : Loc nD τ sig) → Buf (Elt Ideal) ℓ) (c : Dev nD)

/-- The launch's queries and keys, values, gates, bias table, factor and gain. -/
def inQ : Heads 64 := fun a t d => m ((c.tc : Thread nD τ).loc main_arg0) (ix3 a t d)
def inV : Heads 32 := fun a t d => m ((c.tc : Thread nD τ).loc main_arg1) (ix3 a t d)
def inG : Heads 32 := fun a t d => m ((c.tc : Thread nD τ).loc main_arg2) (ix3 a t d)
def inT : Fin 16 → Fin 257 → EReal := fun h x => m ((c.tc : Thread nD τ).loc main_arg3) (ix2 h x)
def inLam : EReal := lamK (m ((c.tc : Thread nD τ).loc main_arg4)) (m ((c.tc : Thread nD τ).loc main_arg5))
    (m ((c.tc : Thread nD τ).loc main_arg6)) (m ((c.tc : Thread nD τ).loc main_arg7))
def inGain : Fin 256 → EReal := fun x => m ((c.tc : Thread nD τ).loc main_arg8) (ix1 x)

/-- Grid point `t` is batch entry `t / 8` and step `t % 8`. -/
theorem idx : ∀ t : Fin cfg0.N, t.val < 64 ∧ win0_1.index t = ![t.val % 8, t.val / 8, 0] ∧ win0_2.index t = ![8 + t.val % 8, t.val / 8, 0]
    ∧ win0_3.index t = ![t.val % 8, t.val / 8, 0] ∧ win0_4.index t = ![t.val % 8, 0, 0] ∧ win0_5.index t = ![t.val % 8, t.val / 8, 0]
    ∧ win0_6.index t = ![16 + t.val % 8, t.val / 8, 0] ∧ win0_7.index t = ![24 + t.val % 8, t.val / 8, 0]
    ∧ win0_8.index t = ![8 + t.val % 8, t.val / 8, 0] ∧ win0_9.index t = ![0, 0] ∧ win0_10.index t = ![8 + t.val % 8, t.val / 8, 0]
    ∧ win0_11.index t = ![t.val % 8, t.val / 8, 0] ∧ win0_12.index t = ![t.val % 8, t.val / 8, 0] :=
  (by decide +kernel : ∀ t : Fin grid0.N, _)

/-- The step and the batch entry of a grid point. -/
def stepOf (t : Fin cfg0.N) : Fin 8 := ⟨t.val % 8, by omega⟩
def batchOf (t : Fin cfg0.N) : Fin 8 := ⟨t.val / 8, by have := (idx t).1; omega⟩

set_option maxHeartbeats 2000000 in
/-- The local attention's input blocks at a grid point. -/
theorem local_blocks (t : Fin cfg0.N) : LocalBlocks (inQ m c) (inV m c) (inG m c) (inT m c) (stepOf t) (batchOf t)
    (iblk m c 1 t) (iblk m c 2 t) (iblk m c 3 t) (iblk m c 4 t) (iblk m c 5 t) where
  q g i d := by unfold inQ stepOf batchOf row; blk_ext [iblk, V, idx t]
  k g i d := by unfold inQ stepOf batchOf row; blk_ext [iblk, V, idx t]
  v g i d := by unfold inV stepOf batchOf row; blk_ext [iblk, V, idx t]
  t g r j := by
    refine Eq.trans ?_ (tile_entry m c ⟨2 * (t.val % 8) + g.val, by omega⟩ r j)
    blk_ext [iblk, idx t]
  gate g i d := by unfold inG stepOf batchOf row; blk_ext [iblk, V, idx t]

set_option maxHeartbeats 2000000 in
/-- The differential attention's. -/
theorem diff_blocks (t : Fin cfg0.N) : DiffBlocks (inQ m c) (inV m c) (inG m c) (inLam m c) (inGain m c) (stepOf t) (batchOf t)
    (iblk m c 0 t) (iblk m c 6 t) (iblk m c 7 t) (iblk m c 8 t) (iblk m c 9 t) (iblk m c 10 t) where
  lam := by
    blk_simp [iblk]
    exact lam_entry m c _
  q g i d := by unfold inQ stepOf batchOf row; blk_ext [iblk, V, idx t]
  k g i d := by unfold inQ stepOf batchOf row; blk_ext [iblk, V, idx t]
  v g i d := by unfold inV stepOf batchOf row; blk_ext [iblk, V, idx t]
  gain x := by
    refine Eq.trans ?_ (gain_entry m c x)
    blk_ext [iblk, idx t]
  gate g i d := by unfold inG stepOf batchOf row; blk_ext [iblk, V, idx t]

/-- Both attentions at equal indices. -/
theorem aOut_at {Q : Heads 64} {V G : Heads 32} {T : Fin 16 → Fin 257 → EReal} {h h' : Fin 16} {b b' : Fin 8} {i i' : Fin 2048}
    {x x' : Fin 128} (e1 : h = h') (e2 : b = b') (e3 : i = i') (e4 : x = x') : aOut Q V G T h b i x = aOut Q V G T h' b' i' x' := by
  subst e1 e2 e3 e4; rfl
theorem bOut_at {Q : Heads 64} {V G : Heads 32} {lam u s : EReal} {g : Fin 256 → EReal} {h h' : Fin 8} {b b' : Fin 8} {i i' : Fin 2048}
    {x x' : Fin 256} (e1 : h = h') (e2 : b = b') (e3 : i = i') (e4 : x = x') : bOut Q V G lam u s g h b i x = bOut Q V G lam u s g h' b' i' x' := by
  subst e1 e2 e3 e4; rfl

set_option maxHeartbeats 2000000 in
/-- The first result array. -/
theorem final_a (hQ : ∀ a t d, ∃ r : ℝ, inQ m c a t d = r) (hT : ∀ h x, ∃ r : ℝ, inT m c h x = r) :
    (dats m 0 c).arrAt 11 cfg0.N = fun y : S16x16384x128.Idx => aOut (inQ m c) (inV m c) (inG m c) (inT m c) (y 0)
      ⟨(y 1).val / 2048, by have : (y 1).val < 16384 := (y 1).isLt; omega⟩ ⟨(y 1).val % 2048, by omega⟩ (y 2) := by
  refine (dats m 0 c).arrAt_eq_of_covers 11 _ (by decide +kernel) fun t hf y => ?_
  blk_simp
  rw [after0_11]
  dsimp only [outsAt0]
  refine (local_out hQ hT c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (local_blocks m c t) y).trans ?_
  unfold localOut
  have y1 : (y 1).val < 2048 := (y 1).isLt
  refine aOut_at (Fin.ext ?_) (Fin.ext ?_) (Fin.ext ?_) (Fin.ext ?_)
  all_goals
    blk_simp [idx t, stepOf, batchOf]
    try dsimp only
    try omega

set_option maxHeartbeats 2000000 in
/-- The second. -/
theorem final_b (hQ : ∀ a t d, ∃ r : ℝ, inQ m c a t d = r) :
    (dats m 0 c).arrAt 12 cfg0.N = fun y : S8x16384x256.Idx => bOut (inQ m c) (inV m c) (inG m c) (inLam m c) guard scale (inGain m c) (y 0)
      ⟨(y 1).val / 2048, by have : (y 1).val < 16384 := (y 1).isLt; omega⟩ ⟨(y 1).val % 2048, by omega⟩ (y 2) := by
  refine (dats m 0 c).arrAt_eq_of_covers 12 _ (by decide +kernel) fun t hf y => ?_
  blk_simp
  rw [after0_12]
  dsimp only [outsAt0]
  refine (diff_out hQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (diff_blocks m c t) y).trans ?_
  unfold diffOut
  have y1 : (y 1).val < 2048 := (y 1).isLt
  refine bOut_at (Fin.ext ?_) (Fin.ext ?_) (Fin.ext ?_) (Fin.ext ?_)
  all_goals
    blk_simp [idx t, stepOf, batchOf]
    try dsimp only
    try omega

end Cert.KernelIdeal.Value
-- ==== Proof.Gather.lean ====
/- A `stablehlo.gather` along the columns of a matrix at a matrix of column numbers, read at an index: what
   `x[:, idx]` of `x : [H, N]` at `idx : [R, C]` is lowered to. -/
module

public import Idealize.ShloMosaic.Lib.ValueIdxCore
public import Idealize.ShloMosaic.Lib.Pointwise

@[expose] public section

noncomputable section

namespace Cert.Attn

open Idealize.ShloMosaic

variable {α : Type}

/-- The dimension numbers of a gather along the columns. -/
abbrev takeColsDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- Element `(h, r, c)` of the gather is row `h` of the operand at the column the start indices name at `(r, c)`, read
    signed and clamped into the row. -/
theorem gather_cols_apply {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (takeColsDims H N R C wf) x idx (ix3 h r c)
      = x (ix2 h ⟨min (idx (ix3 r c 0)).toInt.toNat (N - 1), by omega⟩) := by
  unfold Host.gather
  congr 1
  funext a
  refine Fin.ext ?_
  show (takeColsDims H N R C wf).start (ix3 h r c) idx a + (takeColsDims H N R C wf).batchCoord (ix3 h r c) a
      + (takeColsDims H N R C wf).offCoord (ix3 h r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (fun hm => by simp at hm)]
    unfold GatherDims.offCoord
    rw [dif_pos ((GatherDims.mem_sKept _ _).mpr ⟨fun hm => by simp at hm, List.not_mem_nil⟩)]
    simp only [Nat.zero_add]
    rfl
  · rw [GatherDims.offCoord_eq_zero _ _ _ (fun hm => ((GatherDims.mem_sKept _ _).mp hm).1 (List.mem_singleton.mpr rfl))]
    simp only [Nat.add_zero]
    unfold GatherDims.start
    rw [dif_pos (show (1 : Fin 2) ∈ (takeColsDims H N R C wf).startIndexMap from List.mem_singleton.mpr rfl)]
    have hsi : (takeColsDims H N R C wf).siIdx (ix3 h r c) ⟨List.idxOf (1 : Fin 2) (takeColsDims H N R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

end Cert.Attn

end
-- ==== Proof.RefReads.lean ====
/- What the reference's reshapes, slices and index arithmetic read. -/
module

public import proofs.«01_k».proof.Proof.Spec
public import proofs.«01_k».proof.Proof.Gather
public import proofs.«01_k».proof.Proof.Consts
public import proofs.«01_k».proof.Proof.Gen.ReferenceIdeal.Run
public import Idealize.ShloMosaic.Lib.Pipeline.ValueKit
public import Idealize.ShloMosaic.Lib.ValueLayout

@[expose] public section

set_option maxRecDepth 16384

noncomputable section

namespace Cert.ReferenceIdeal.Value

open Idealize Idealize.ShloMosaic Idealize.ShloMosaic.Tactic Cert.ReferenceIdeal Cert.ReferenceIdeal.Gen Cert.Attn

variable (V0 : Valuation τ sig (Elt Ideal))

/-- The arguments, by their own indices. -/
def argQ : Heads 64 := fun a t d => (V0 (Proc.devRef .tc main_arg0)) (ix3 a t d)
def argV : Heads 32 := fun a t d => (V0 (Proc.devRef .tc main_arg1)) (ix3 a t d)
def argG : Heads 32 := fun a t d => (V0 (Proc.devRef .tc main_arg2)) (ix3 a t d)
def argT : Fin 16 → Fin 257 → EReal := fun h x => (V0 (Proc.devRef .tc main_arg3)) (ix2 h x)

theorem argQ_eq {s : Fin 64} {t : Fin 16384} {a : Fin 64} {u : Fin 16384} (d : Fin 128) (ha : a.val = s.val) (hu : u.val = t.val) :
    (V0 (Proc.devRef .tc main_arg0)) (ix3 a u d) = argQ V0 s t d := by
  rw [show a = s from Fin.ext ha, show u = t from Fin.ext hu]
  rfl

theorem argV_eq {s : Fin 32} {t : Fin 16384} {a : Fin 32} {u : Fin 16384} (d : Fin 128) (ha : a.val = s.val) (hu : u.val = t.val) :
    (V0 (Proc.devRef .tc main_arg1)) (ix3 a u d) = argV V0 s t d := by
  rw [show a = s from Fin.ext ha, show u = t from Fin.ext hu]
  rfl

theorem argG_eq {s : Fin 32} {t : Fin 16384} {a : Fin 32} {u : Fin 16384} (d : Fin 128) (ha : a.val = s.val) (hu : u.val = t.val) :
    (V0 (Proc.devRef .tc main_arg2)) (ix3 a u d) = argG V0 s t d := by
  rw [show a = s from Fin.ext ha, show u = t from Fin.ext hu]
  rfl

theorem v1_at (s : Fin 4) (h : Fin 16) (b : Fin 8) (i : Fin 2048) (d : Fin 128) :
    res_main_v1 V0 (ix5 s h b i d) = argQ V0 ⟨16 * s.val + h.val, by omega⟩ (row b i) d := by
  pointwise [res_main_v1]
  exact argQ_eq V0 d (by show s.val * 16 + h.val = 16 * s.val + h.val; omega) (by show b.val * 2048 + i.val = 2048 * b.val + i.val; omega)

theorem v11_at (s : Fin 2) (h : Fin 16) (b : Fin 8) (i : Fin 2048) (d : Fin 128) :
    res_main_v11 V0 (ix5 s h b i d) = argV V0 ⟨16 * s.val + h.val, by omega⟩ (row b i) d := by
  pointwise [res_main_v11]
  exact argV_eq V0 d (by show s.val * 16 + h.val = 16 * s.val + h.val; omega) (by show b.val * 2048 + i.val = 2048 * b.val + i.val; omega)

theorem v17_at (s : Fin 2) (h : Fin 16) (b : Fin 8) (i : Fin 2048) (d : Fin 128) :
    res_main_v17 V0 (ix5 s h b i d) = argG V0 ⟨16 * s.val + h.val, by omega⟩ (row b i) d := by
  pointwise [res_main_v17]
  exact argG_eq V0 d (by show s.val * 16 + h.val = 16 * s.val + h.val; omega) (by show b.val * 2048 + i.val = 2048 * b.val + i.val; omega)

/-- The two maps' queries and keys. -/
theorem v81_at (μ : Fin 2) (h : Fin 8) (b : Fin 8) (i : Fin 2048) (d : Fin 128) :
    res_main_v81 V0 (ix5 μ h b i d) = argQ V0 ⟨32 + 2 * h.val + μ.val, by omega⟩ (row b i) d := by
  pointwise [res_main_v81]
  refine (v1_at V0 _ _ b i d).trans (congrArg (fun z => argQ V0 z (row b i) d) (Fin.ext ?_))
  show 16 * 2 + (h.val * 2 + μ.val) = 32 + 2 * h.val + μ.val
  omega

theorem v87_at (μ : Fin 2) (h : Fin 8) (b : Fin 8) (i : Fin 2048) (d : Fin 128) :
    res_main_v87 V0 (ix5 μ h b i d) = argQ V0 ⟨48 + 2 * h.val + μ.val, by omega⟩ (row b i) d := by
  pointwise [res_main_v87]
  refine (v1_at V0 _ _ b i d).trans (congrArg (fun z => argQ V0 z (row b i) d) (Fin.ext ?_))
  show 16 * 3 + (h.val * 2 + μ.val) = 48 + 2 * h.val + μ.val
  omega

/-! ## Chunks and relative positions -/

/-- A position's chunk of 64, as the floor division of its word computes it. -/
theorem chunk_of (i : Fin 2048) : Scalar.select (IntOp.andi (IntOp.cmpi CmpIPredicate.ne
        (if BitVec.ofNat 32 i.val = 0 then (0 : BitVec 32) else if (BitVec.ofNat 32 i.val).msb = true then -1 else 1)
        (if (64#32) = 0 then 0 else if BitVec.msb (64#32) = true then -1 else 1))
      (IntOp.cmpi CmpIPredicate.ne (IntOp.remsi ArithUnit.host (BitVec.ofNat 32 i.val) (64#32)) 0#32))
    (IntOp.subi (IntOp.divsi ArithUnit.host (BitVec.ofNat 32 i.val) (64#32)) 1#32)
    (IntOp.divsi ArithUnit.host (BitVec.ofNat 32 i.val) (64#32)) = BitVec.ofNat 32 (i.val / 64) := by
  revert i
  decide +kernel

theorem v25_at (i : Fin 2048) : res_main_v25 V0 (ix2 i 0) = BitVec.ofNat 32 (i.val / 64) := by
  pointwise [res_main_v25, res_main_call0_v2, res_main_v23, res_main_call0_v0]
  exact chunk_of i

theorem v27_at (i : Fin 2048) : res_main_v27 V0 (ix2 0 i) = BitVec.ofNat 32 (i.val / 64) := by
  pointwise [res_main_v27, res_main_call1_v2, res_main_v23, res_main_call1_v0]
  exact chunk_of i

theorem clip_up (d : Fin 2048) : IntOp.addi (IntOp.minsi (128#32) (IntOp.maxsi (4294967168#32) (BitVec.ofNat 32 d.val))) 128#32
    = BitVec.ofNat 32 (min (d.val + 128) 256) := by
  revert d
  decide +kernel

theorem clip_down (d : Fin 2048) : IntOp.addi (IntOp.minsi (128#32) (IntOp.maxsi (4294967168#32) (-BitVec.ofNat 32 d.val))) 128#32
    = BitVec.ofNat 32 (128 - d.val) := by
  revert d
  decide +kernel

/-- The bias table's column at a query and a key. -/
theorem v35_at (i j : Fin 2048) : res_main_v35 V0 (ix2 i j) = BitVec.ofNat 32 (rel i j).val := by
  pointwise [res_main_v35, res_main_v23]
  have hs : IntOp.subi (BitVec.ofNat 32 i.val) (BitVec.ofNat 32 j.val) = BitVec.ofNat 32 i.val - BitVec.ofNat 32 j.val := rfl
  rw [hs]
  by_cases h : j.val ≤ i.val
  · have e : BitVec.ofNat 32 i.val - BitVec.ofNat 32 j.val = BitVec.ofNat 32 (⟨i.val - j.val, by omega⟩ : Fin 2048).val := by
      apply BitVec.eq_of_toNat_eq
      simp only [BitVec.toNat_sub, BitVec.toNat_ofNat]
      omega
    rw [e]
    refine (clip_up _).trans (congrArg (BitVec.ofNat 32) ?_)
    show min (i.val - j.val + 128) 256 = min (i.val + 128 - j.val) 256
    omega
  · have e : BitVec.ofNat 32 i.val - BitVec.ofNat 32 j.val = -BitVec.ofNat 32 (⟨j.val - i.val, by omega⟩ : Fin 2048).val := by
      apply BitVec.eq_of_toNat_eq
      simp only [BitVec.toNat_sub, BitVec.toNat_neg, BitVec.toNat_ofNat]
      omega
    rw [e]
    refine (clip_down _).trans (congrArg (BitVec.ofNat 32) ?_)
    show 128 - (j.val - i.val) = min (i.val + 128 - j.val) 256
    omega

theorem sle_small (x y : Fin 32) : IntOp.cmpi .sle (BitVec.ofNat 32 x.val) (BitVec.ofNat 32 y.val) = if x.val ≤ y.val then 1#1 else 0#1 := by
  revert x y
  decide +kernel

theorem sge_small (x y : Fin 32) : IntOp.cmpi .sge (BitVec.ofNat 32 x.val) (IntOp.subi (BitVec.ofNat 32 y.val) 8#32)
    = if y.val ≤ x.val + 8 then 1#1 else 0#1 := by
  revert x y
  decide +kernel

/-- The column as the gather clamps it. -/
theorem column (x : Fin 257) : (Scalar.select (IntOp.cmpi .slt (BitVec.ofNat 32 x.val) 0#32) (IntOp.addi (BitVec.ofNat 32 x.val) 257#32)
    (BitVec.ofNat 32 x.val)).toInt.toNat = x.val := by
  revert x
  decide +kernel

theorem v94_at (i j : Fin 2048) : res_main_v94 V0 (ix2 i j) = if causal i j then 1#1 else 0#1 := by
  pointwise [res_main_v94]
  rw [v25_at, v27_at]
  exact sle_small ⟨j.val / 64, by omega⟩ ⟨i.val / 64, by omega⟩

theorem log_two : Ideal.log (Ideal.ofBits .f32 0x40000000#32) = ((Real.log 2 : ℝ) : EReal) := by
  rw [ofBits_two]
  exact if_neg (by norm_num : ¬ (2 : ℝ) ≤ 0)

/-- The fill of a masked score. -/
theorem fill : (id (constant (F := Ideal) S_ .f32 0xFF800000#32) ix0 : EReal) = ⊥ := ofBits_bot

theorem select_if {p : Prop} [Decidable p] (x y : EReal) : Scalar.select (if p then 1#1 else 0#1) x y = if p then x else y := by
  by_cases h : p
  · rw [if_pos h, if_pos h]; rfl
  · rw [if_neg h, if_neg h]; rfl

theorem and_if {p q : Prop} [Decidable p] [Decidable q] : IntOp.andi (if p then 1#1 else 0#1) (if q then 1#1 else 0#1) = if p ∧ q then 1#1 else 0#1 := by
  by_cases h : p <;> by_cases k : q <;> simp [h, k, IntOp.andi]

/-! ## The masked scores -/

theorem v101_at (h b : Fin 8) (i j : Fin 2048) : res_main_v101 V0 (ix4 h b i j) = bScore (argQ V0) 0 h b i j * ((Real.log 2 : ℝ) : EReal) := by
  rw [bScore_mul]
  pointwise [res_main_v101, dot_S8x8x2048x128_S8x8x2048x128_S8x8x2048x2048_3_3_2_2_01_01, res_main_v22]
  rw [v94_at, fill, log_two, Finset.sum_congr rfl fun d _ => by rw [v81_at, v87_at]]
  exact select_if _ _

theorem v113_at (h b : Fin 8) (i j : Fin 2048) : res_main_v113 V0 (ix4 h b i j) = bScore (argQ V0) 1 h b i j * ((Real.log 2 : ℝ) : EReal) := by
  rw [bScore_mul]
  pointwise [res_main_v113, dot_S8x8x2048x128_S8x8x2048x128_S8x8x2048x2048_3_3_2_2_01_01, res_main_v22]
  rw [v94_at, fill, log_two, Finset.sum_congr rfl fun d _ => by rw [v81_at, v87_at]]
  exact select_if _ _

/-- The column the gather is given: negative ones, of which there are none, wrap. -/
theorem wrapped_at (i j : Fin 2048) : (broadcastInDim S2048x2048x1 ![0, 1] bcast_S2048x2048_S2048x2048x1_0_1
    (select (cmpi CmpIPredicate.slt (res_main_v35 V0) (broadcastInDim S2048x2048 ![] bcast_S_S2048x2048 (constantI S_ 32 0#32)))
      (addi (res_main_v35 V0) (broadcastInDim S2048x2048 ![] bcast_S_S2048x2048 (constantI S_ 32 257#32))) (res_main_v35 V0))) (ix3 i j 0)
    = Scalar.select (IntOp.cmpi .slt (BitVec.ofNat 32 (rel i j).val) 0#32) (IntOp.addi (BitVec.ofNat 32 (rel i j).val) 257#32)
        (BitVec.ofNat 32 (rel i j).val) := by
  rw [← v35_at V0]
  pointwise

/-- The bias read by the gather. -/
theorem bias_at (h : Fin 16) (i j : Fin 2048) :
    Host.gather gather_S16x257_S2048x2048x1_S16x2048x2048_0_1_n_n_1_2_161 (V0 (Proc.devRef .tc main_arg3))
      (broadcastInDim S2048x2048x1 ![0, 1] bcast_S2048x2048_S2048x2048x1_0_1
        (select (cmpi CmpIPredicate.slt (res_main_v35 V0) (broadcastInDim S2048x2048 ![] bcast_S_S2048x2048 (constantI S_ 32 0#32)))
          (addi (res_main_v35 V0) (broadcastInDim S2048x2048 ![] bcast_S_S2048x2048 (constantI S_ 32 257#32))) (res_main_v35 V0)))
      (ix3 h i j) = argT V0 h (rel i j) := by
  refine (gather_cols_apply (by norm_num) _ _ _ h i j).trans (congrArg (fun z => (V0 (Proc.devRef .tc main_arg3)) (ix2 h z)) (Fin.ext ?_))
  refine (congrArg (fun z : BitVec 32 => min z.toInt.toNat 256) (wrapped_at V0 i j)).trans ?_
  rw [column]
  have := (rel i j).isLt
  omega

theorem v58_at {V0 : Valuation τ sig (Elt Ideal)} (hQ : ∀ a t d, ∃ r : ℝ, argQ V0 a t d = r) (hT : ∀ h x, ∃ r : ℝ, argT V0 h x = r)
    (h : Fin 16) (b : Fin 8) (i j : Fin 2048) :
    res_main_v58 V0 (ix4 h b i j) = aScore (argQ V0) (argT V0) h b i j * ((Real.log 2 : ℝ) : EReal) := by
  rw [aScore_mul hQ hT]
  pointwise [res_main_v58, dot_S16x8x2048x128_S16x8x2048x128_S16x8x2048x2048_3_3_2_2_01_01, res_main_v22]
  rw [bias_at, fill, log_two, v25_at, v27_at, sle_small ⟨j.val / 64, by omega⟩ ⟨i.val / 64, by omega⟩,
    sge_small ⟨j.val / 64, by omega⟩ ⟨i.val / 64, by omega⟩, and_if, select_if,
    Finset.sum_congr rfl fun d _ => by rw [v1_at, v1_at]]
  by_cases hn : near i j
  · rw [if_pos hn]
    refine (if_pos hn).trans (congrArg (· * _ + _) (Finset.sum_congr rfl fun d _ => ?_))
    exact congrArg₂ (· * ·) (congrArg (fun z => argQ V0 z (row b i) d) (Fin.ext (by show 16 * 0 + h.val = h.val; omega)))
      (congrArg (fun z => argQ V0 z (row b j) d) (Fin.ext (by show 16 * 1 + h.val = 16 + h.val; omega)))
  · rw [if_neg hn]
    exact if_neg hn

end Cert.ReferenceIdeal.Value
-- ==== Proof.RefOut.lean ====
/- The reference's two results, element by element. -/
module

public import proofs.«01_k».proof.Proof.RefReads

@[expose] public section

set_option maxRecDepth 16384

noncomputable section

namespace Cert.ReferenceIdeal.Value

open Idealize Idealize.ShloMosaic Idealize.ShloMosaic.Tactic Cert.ReferenceIdeal Cert.ReferenceIdeal.Gen Cert.Attn

/-- The first result's term of the arguments. -/
def resA (V0 : Valuation τ sig (Elt Ideal)) : FVec Ideal S16x16384x128 .bf16 :=
  truncf .bf16 (shapeCast _ (mulf (Host.dotGeneral (φ₂ := .f32) dot_S16x8x2048x2048_S16x8x2048x128_S16x8x2048x128_3_2_2_3_01_01 none (Host.divf (res_main_v65 V0) (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd (res_main_v65 V0) (constant S_ .f32 0x00000000#32) reducesTo_S16x8x2048x2048_S16x8x2048_d3 h_S_)))) (shapeCast _ (extractStridedSlice S1x16x8x2048x128 ![0, 0, 0, 0, 0] (res_main_v11 V0) slices_S2x16x8x2048x128_S1x16x8x2048x128_0_0_0_0_0) shapeCasts_S1x16x8x2048x128_S16x8x2048x128)) (shapeCast _ (extractStridedSlice S1x16x8x2048x128 ![0, 0, 0, 0, 0] (res_main_v17 V0) slices_S2x16x8x2048x128_S1x16x8x2048x128_0_0_0_0_0) shapeCasts_S1x16x8x2048x128_S16x8x2048x128)) shapeCasts_S16x8x2048x128_S16x16384x128) bitsLt_bf16_f32

/-- The second result's. -/
def resB (V0 : Valuation τ sig (Elt Ideal)) : FVec Ideal S8x16384x256 .bf16 :=
  truncf .bf16 (shapeCast _ (mulf (mulf (mulf (mulf (res_main_v131 V0) (broadcastInDim S8x8x2048x256 ![0, 1, 2, 3] bcast_S8x8x2048x1_S8x8x2048x256_0_1_2_3 (Host.rsqrt (addf (Host.divf (broadcastInDim S8x8x2048x1 ![0, 1, 2] bcast_S8x8x2048_S8x8x2048x1_0_1_2 (Host.reduceAdd (mulf (res_main_v131 V0) (res_main_v131 V0)) (constant S_ .f32 0x00000000#32) reducesTo_S8x8x2048x256_S8x8x2048_d3 h_S_)) (broadcastInDim S8x8x2048x1 ![] bcast_S_S8x8x2048x1 (constant S_ .f32 0x43800000#32))) (broadcastInDim S8x8x2048x1 ![] bcast_S_S8x8x2048x1 (constant S_ .f32 0x358637BD#32)))))) (broadcastInDim S8x8x2048x256 ![0, 1, 2, 3] bcast_S1x1x1x256_S8x8x2048x256_0_1_2_3 (broadcastInDim S1x1x1x256 ![3] bcast_S256_S1x1x1x256_3 (V0 (Proc.devRef .tc main_arg8))))) (broadcastInDim S8x8x2048x256 ![] bcast_S_S8x8x2048x256 (constant S_ .f32 0x3F4CCCCD#32))) (shapeCast _ (transpose S8x8x2048x2x128 [0, 2, 3, 1, 4] (shapeCast _ (shapeCast _ (extractStridedSlice S1x16x8x2048x128 ![1, 0, 0, 0, 0] (res_main_v17 V0) slices_S2x16x8x2048x128_S1x16x8x2048x128_1_0_0_0_0) shapeCasts_S1x16x8x2048x128_S16x8x2048x128) shapeCasts_S16x8x2048x128_S8x2x8x2048x128) transposes_S8x2x8x2048x128_S8x8x2048x2x128_0_2_3_1_4) shapeCasts_S8x8x2048x2x128_S8x8x2048x256)) shapeCasts_S8x8x2048x256_S8x16384x256) bitsLt_bf16_f32

/-- The factor of the second map. -/
def lamOf (a b c d : FVec Ideal S128 .f32) : EReal :=
  Ideal.exp (∑ i : Fin 128, a (ix1 i) * b (ix1 i)) - Ideal.exp (∑ i : Fin 128, c (ix1 i) * d (ix1 i)) + Ideal.ofBits .f32 0x3E4CCCCD#32

variable (V0 : Valuation τ sig (Elt Ideal))

def argLam : EReal := lamOf (V0 (Proc.devRef .tc main_arg4)) (V0 (Proc.devRef .tc main_arg5)) (V0 (Proc.devRef .tc main_arg6)) (V0 (Proc.devRef .tc main_arg7))

/-- The maximum along the last axis. -/
theorem top_row {A B M n : ℕ} (v : FVec Ideal ⟨4, ![A, B, M, n]⟩ .f32) (c : FVec Ideal S_ .f32) (hc : (c (Shape.Idx.first h_S_) : EReal) = ⊥)
    (hr : (⟨4, ![A, B, M, n]⟩ : Shape).ReducesTo [3] ⟨3, ![A, B, M]⟩) (hu : 0 < S_.numel) (a : Fin A) (b : Fin B) (i : Fin M) :
    Host.reduce FloatOps.maximumf v c hr hu (ix3 a b i) = top fun j => v (ix4 a b i j) :=
  ((Host.reduce_eq_fold _ _ _ _ _ _).trans (hr.fold_fiber_r4_a3 _ _ _ _)).trans (congrArg (fun z => Finset.univ.fold max z _) hc)

/-! The weights of a softmax row before they are normalised. -/

theorem shifted_a (v : FVec Ideal S16x8x2048x2048 .f32) (m : FVec Ideal S16x8x2048 .f32) (h : Fin 16) (b : Fin 8) (i j : Fin 2048) :
    Host.exp (subf v (broadcastInDim S16x8x2048x2048 ![0, 1, 2, 3] bcast_S16x8x2048x1_S16x8x2048x2048_0_1_2_3
      (broadcastInDim S16x8x2048x1 ![0, 1, 2] bcast_S16x8x2048_S16x8x2048x1_0_1_2 (maximumf
        (broadcastInDim S16x8x2048 ![] bcast_S_S16x8x2048 (constant S_ .f32 0xFF800000#32)) m)))) (ix4 h b i j)
      = Ideal.exp (v (ix4 h b i j) - m (ix3 h b i)) := by
  pointwise
  rw [ofBits_bot, max_eq_right bot_le]

theorem weights_a (v : FVec Ideal S16x8x2048x2048 .f32) (h : Fin 16) (b : Fin 8) (i j : Fin 2048) :
    Host.exp (subf v (broadcastInDim S16x8x2048x2048 ![0, 1, 2, 3] bcast_S16x8x2048x1_S16x8x2048x2048_0_1_2_3
      (broadcastInDim S16x8x2048x1 ![0, 1, 2] bcast_S16x8x2048_S16x8x2048x1_0_1_2 (maximumf
        (broadcastInDim S16x8x2048 ![] bcast_S_S16x8x2048 (constant S_ .f32 0xFF800000#32))
        (Host.reduce FloatOps.maximumf v (constant S_ .f32 0xFF800000#32) reducesTo_S16x8x2048x2048_S16x8x2048_d3 h_S_))))) (ix4 h b i j)
      = Ideal.exp (v (ix4 h b i j) - top fun j => v (ix4 h b i j)) :=
  (shifted_a v _ h b i j).trans (congrArg (fun z => Ideal.exp (v (ix4 h b i j) - z)) (top_row v _ ofBits_bot _ _ h b i))

theorem shifted_b (v : FVec Ideal S8x8x2048x2048 .f32) (m : FVec Ideal S8x8x2048 .f32) (h : Fin 8) (b : Fin 8) (i j : Fin 2048) :
    Host.exp (subf v (broadcastInDim S8x8x2048x2048 ![0, 1, 2, 3] bcast_S8x8x2048x1_S8x8x2048x2048_0_1_2_3
      (broadcastInDim S8x8x2048x1 ![0, 1, 2] bcast_S8x8x2048_S8x8x2048x1_0_1_2 (maximumf
        (broadcastInDim S8x8x2048 ![] bcast_S_S8x8x2048 (constant S_ .f32 0xFF800000#32)) m)))) (ix4 h b i j)
      = Ideal.exp (v (ix4 h b i j) - m (ix3 h b i)) := by
  pointwise
  rw [ofBits_bot, max_eq_right bot_le]

theorem weights_b (v : FVec Ideal S8x8x2048x2048 .f32) (h : Fin 8) (b : Fin 8) (i j : Fin 2048) :
    Host.exp (subf v (broadcastInDim S8x8x2048x2048 ![0, 1, 2, 3] bcast_S8x8x2048x1_S8x8x2048x2048_0_1_2_3
      (broadcastInDim S8x8x2048x1 ![0, 1, 2] bcast_S8x8x2048_S8x8x2048x1_0_1_2 (maximumf
        (broadcastInDim S8x8x2048 ![] bcast_S_S8x8x2048 (constant S_ .f32 0xFF800000#32))
        (Host.reduce FloatOps.maximumf v (constant S_ .f32 0xFF800000#32) reducesTo_S8x8x2048x2048_S8x8x2048_d3 h_S_))))) (ix4 h b i j)
      = Ideal.exp (v (ix4 h b i j) - top fun j => v (ix4 h b i j)) :=
  (shifted_b v _ h b i j).trans (congrArg (fun z => Ideal.exp (v (ix4 h b i j) - z)) (top_row v _ ofBits_bot _ _ h b i))

/-- A weighted sum over the weights of a row `g`, normalised. -/
theorem soft_of {w : Fin 2048 → EReal} {g : Fin 2048 → EReal} (hw : ∀ j, w j = Ideal.exp (g j - top g)) (j : Fin 2048) :
    Ideal.div (w j) (∑ k, w k) = soft g j := by
  unfold soft
  rw [hw, Finset.sum_congr rfl fun k _ => hw k]

theorem v65_at {V0 : Valuation τ sig (Elt Ideal)} (hQ : ∀ a t d, ∃ r : ℝ, argQ V0 a t d = r) (hT : ∀ h x, ∃ r : ℝ, argT V0 h x = r)
    (h : Fin 16) (b : Fin 8) (i j : Fin 2048) : (res_main_v65 V0 (ix4 h b i j) : EReal)
    = Ideal.exp ((fun j => aScore (argQ V0) (argT V0) h b i j * ((Real.log 2 : ℝ) : EReal)) j
      - top fun j => aScore (argQ V0) (argT V0) h b i j * ((Real.log 2 : ℝ) : EReal)) := by
  refine (weights_a (res_main_v58 V0) h b i j).trans ?_
  rw [show (fun j => (res_main_v58 V0 (ix4 h b i j) : EReal)) = _ from funext fun j => v58_at hQ hT h b i j, v58_at hQ hT]

theorem v108_at (h b : Fin 8) (i j : Fin 2048) : (res_main_v108 V0 (ix4 h b i j) : EReal)
    = Ideal.exp ((fun j => bScore (argQ V0) 0 h b i j * ((Real.log 2 : ℝ) : EReal)) j
      - top fun j => bScore (argQ V0) 0 h b i j * ((Real.log 2 : ℝ) : EReal)) := by
  refine (weights_b (res_main_v101 V0) h b i j).trans ?_
  rw [show (fun j => (res_main_v101 V0 (ix4 h b i j) : EReal)) = _ from funext fun j => v101_at V0 h b i j, v101_at]

theorem v120_at (h b : Fin 8) (i j : Fin 2048) : (res_main_v120 V0 (ix4 h b i j) : EReal)
    = Ideal.exp ((fun j => bScore (argQ V0) 1 h b i j * ((Real.log 2 : ℝ) : EReal)) j
      - top fun j => bScore (argQ V0) 1 h b i j * ((Real.log 2 : ℝ) : EReal)) := by
  refine (weights_b (res_main_v113 V0) h b i j).trans ?_
  rw [show (fun j => (res_main_v113 V0 (ix4 h b i j) : EReal)) = _ from funext fun j => v113_at V0 h b i j, v113_at]

/-- Two heads' values side by side. -/
theorem wide_v_at (h b : Fin 8) (i : Fin 2048) (c : Fin 256) :
    (res_main_v11 V0 (ix5 1 ⟨h.val * 2 + c.val / 128, by omega⟩ b i ⟨c.val % 128, by omega⟩) : EReal) = wide (argV V0) h (row b i) c := by
  refine (v11_at V0 1 _ b i _).trans (congrArg (fun z => argV V0 z (row b i) _) (Fin.ext ?_))
  show 16 * 1 + (h.val * 2 + c.val / 128) = 16 + 2 * h.val + c.val / 128
  omega

theorem wide_g_at (h b : Fin 8) (i : Fin 2048) (c : Fin 256) :
    (res_main_v17 V0 (ix5 1 ⟨h.val * 2 + c.val / 128, by omega⟩ b i ⟨c.val % 128, by omega⟩) : EReal) = wide (argG V0) h (row b i) c := by
  refine (v17_at V0 1 _ b i _).trans (congrArg (fun z => argG V0 z (row b i) _) (Fin.ext ?_))
  show 16 * 1 + (h.val * 2 + c.val / 128) = 16 + 2 * h.val + c.val / 128
  omega

theorem v131_at (h b : Fin 8) (i : Fin 2048) (c : Fin 256) : (res_main_v131 V0 (ix4 h b i c) : EReal)
    = bMix (argQ V0) (argV V0) (argLam V0) h b i c := by
  pointwise [res_main_v131, dot_S8x8x2048x2048_S8x8x2048x256_S8x8x2048x256_3_2_2_3_01_01]
  unfold bMix
  exact Finset.sum_congr (M := EReal) rfl fun j _ => congrArg₂ (· * ·) (congrArg₂ (· - ·) (soft_of (v108_at V0 h b i) j) (congrArg (argLam V0 * ·) (soft_of (v120_at V0 h b i) j)))
    (wide_v_at V0 h b j c)

/-- The first result, at head `h`, token `t` and column `c`. -/
theorem resA_at {V0 : Valuation τ sig (Elt Ideal)} (hQ : ∀ a t d, ∃ r : ℝ, argQ V0 a t d = r) (hT : ∀ h x, ∃ r : ℝ, argT V0 h x = r)
    (h : Fin 16) (t : Fin 16384) (c : Fin 128) : resA V0 (ix3 h t c)
    = aOut (argQ V0) (argV V0) (argG V0) (argT V0) h ⟨t.val / 2048, by omega⟩ ⟨t.val % 2048, by omega⟩ c := by
  pointwise [resA, dot_S16x8x2048x2048_S16x8x2048x128_S16x8x2048x128_3_2_2_3_01_01]
  unfold aOut
  refine congrArg₂ (· * ·) (Finset.sum_congr rfl fun j _ => congrArg₂ (· * ·) (soft_of (v65_at hQ hT h _ _) j) ?_) ?_
  · refine (v11_at V0 0 _ _ _ _).trans (congrArg (fun z => argV V0 z _ _) (Fin.ext ?_))
    show 16 * 0 + h.val = h.val
    omega
  · refine (v17_at V0 0 _ _ _ _).trans (congrArg (fun z => argG V0 z _ _) (Fin.ext ?_))
    show 16 * 0 + h.val = h.val
    omega

/-- The second, at head `h`, token `t` and column `c`. -/
theorem resB_at (h : Fin 8) (t : Fin 16384) (c : Fin 256) : resB V0 (ix3 h t c)
    = bOut (argQ V0) (argV V0) (argG V0) (argLam V0) (Ideal.ofBits .f32 0x358637BD#32) (Ideal.ofBits .f32 0x3F4CCCCD#32)
        (fun c => (V0 (Proc.devRef .tc main_arg8)) (ix1 c)) h ⟨t.val / 2048, by omega⟩ ⟨t.val % 2048, by omega⟩ c := by
  pointwise [resB]
  unfold bOut
  exact congrArg₂ (· * ·) (congrArg (· * _) (congrArg (· * _) (congrArg₂ (· * ·) (v131_at V0 h _ _ c)
    (congrArg Ideal.rsqrt (congrArg (· + _) (congrArg₂ Ideal.div (Finset.sum_congr (M := EReal) rfl fun d _ =>
      congrArg₂ (· * ·) (v131_at V0 h _ _ d) (v131_at V0 h _ _ d)) ofBits_256)))))) (wide_g_at V0 h _ _ c)

end Cert.ReferenceIdeal.Value
-- ==== Proof.Finite.lean ====
/- The precondition read element by element: every query, key and bias entry is a real number. -/
module

public import proofs.«01_k».proof.Defs
public import proofs.«01_k».proof.Proof.Gen.Pre_finite_scores
public import Idealize.ShloMosaic.Lib.ReduceAll
public import Idealize.ShloMosaic.Lib.Pointwise

@[expose] public section

noncomputable section

namespace Cert.Pre_finite_scores.Value

open Idealize Idealize.ShloMosaic Idealize.ShloMosaic.Tactic Cert.Pre_finite_scores Cert.Pre_finite_scores.Gen

/-- Infinity. -/
theorem ofBits_top : Ideal.ofBits .f32 0x7F800000#32 = ⊤ := by
  simp [Ideal.ofBits, Ideal.ieee]

/-- An extended real below infinity in absolute value is real. -/
theorem real_of_abs {x : EReal} (h : max x (-x) < ⊤) : ∃ r : ℝ, x = r := by
  induction x using EReal.rec with
  | bot => simp at h
  | coe r => exact ⟨r, rfl⟩
  | top => simp at h

/-- The comparison the precondition makes of one element. -/
theorem real_of_olt {x : EReal} (h : Ideal.cmp .olt (max x (-x)) (Ideal.ofBits .f32 0x7F800000#32) = 1#1) : ∃ r : ℝ, x = r := by
  refine real_of_abs ?_
  rw [← ofBits_top]
  by_contra hn
  simp [Ideal.cmp, hn] at h

variable (a0 : FVec Ideal S64x16384x128 .bf16) (a1 a2 : FVec Ideal S32x16384x128 .bf16) (a3 : FVec Ideal S16x257 .f32)
  (a4 a5 a6 a7 : FVec Ideal S128 .f32) (a8 : FVec Ideal S256 .f32)

instance : Subsingleton S_.Idx := ⟨fun x y => funext fun a => a.elim0⟩

theorem reals (h : fn (F := Ideal) a0 a1 a2 a3 a4 a5 a6 a7 a8 = fun _ => 1#1) :
    (∀ a t d, ∃ r : ℝ, a0 (ix3 a t d) = r) ∧ ∀ g x, ∃ r : ℝ, a3 (ix2 g x) = r := by
  have h0 := congrFun h (Shape.Idx.first h_S_)
  unfold fn at h0
  dsimp only at h0
  obtain ⟨h1, h2⟩ := IntOp.andi_eq_one.mp h0
  refine ⟨fun a t d => ?_, fun g x => ?_⟩
  · have := Host.reduce_andi_all _ _ _ _ _ h1 (ix3 a t d)
    exact real_of_olt this
  · have := Host.reduce_andi_all _ _ _ _ _ h2 (ix2 g x)
    exact real_of_olt this

end Cert.Pre_finite_scores.Value
-- ==== Proof.Attention.lean ====
/- The claims of the attention: the frames, the named constants, and the equality of the kernel's two results with the
   reference's over the extended reals. -/
module

public import proofs.«01_k».proof.Defs
public import proofs.«01_k».proof.Proof.Bridge
public import proofs.«01_k».proof.Proof.RefOut
public import proofs.«01_k».proof.Proof.Finite
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Attn

open Idealize Idealize.ShloMosaic Idealize.ShloMosaic.Tactic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_scores := fun m ρ _ => Cert.KernelIdeal.Gen.frame m ρ

/-- The reference runs and leaves its arguments as they were; it has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_reference_pre : Cert.quiescent_ReferenceIdeal_pre_finite_scores := fun m ρ _ => frame_reference m ρ trivial

/-- The two named constants: the mask's fill is `⊥`, the bias's factor `1 / ln 2`. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- An index is its coordinates. -/
theorem coords {a b c : ℕ} (y : (⟨3, ![a, b, c]⟩ : Shape).Idx) : y = ix3 (y 0) (y 1) (y 2) := by
  funext x
  fin_cases x <;> rfl

/-- The two programs compute the second map's factor alike. -/
theorem factor_same {a b c d a' b' c' d' : FVec Ideal Cert.KernelIdeal.S128 .f32} (e1 : a = a') (e2 : b = b') (e3 : c = c') (e4 : d = d') :
    Cert.ReferenceIdeal.Value.lamOf a b c d = Cert.KernelIdeal.Value.lamK a' b' c' d' := by
  subst e1 e2 e3 e4
  rfl

section Values

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)

open Cert.KernelIdeal.Value Cert.ReferenceIdeal.Value

/-- The reference's first result, over the kernel's arguments. -/
theorem result_a (hQ : ∀ a t d, ∃ r : ℝ, inQ m c a t d = r) (hT : ∀ h x, ∃ r : ℝ, inT m c h x = r)
    (eQ : argQ V0 = inQ m c) (eV : argV V0 = inV m c) (eG : argG V0 = inG m c) (eT : argT V0 = inT m c) :
    resA V0 = fun y : Cert.KernelIdeal.S16x16384x128.Idx => aOut (inQ m c) (inV m c) (inG m c) (inT m c) (y 0)
      ⟨(y 1).val / 2048, by have : (y 1).val < 16384 := (y 1).isLt; omega⟩ ⟨(y 1).val % 2048, by omega⟩ (y 2) := by
  funext y
  refine (congrArg (resA V0) (coords y)).trans ((resA_at (by rw [eQ]; exact hQ) (by rw [eT]; exact hT) (y 0) (y 1) (y 2)).trans ?_)
  rw [eQ, eV, eG, eT]

/-- The second. -/
theorem result_b (eQ : argQ V0 = inQ m c) (eV : argV V0 = inV m c) (eG : argG V0 = inG m c) (eL : argLam V0 = inLam m c)
    (eg : (fun x : Fin 256 => ((V0 (Proc.devRef .tc Cert.ReferenceIdeal.main_arg8)) (ix1 x) : EReal)) = inGain m c) :
    resB V0 = fun y : Cert.KernelIdeal.S8x16384x256.Idx => bOut (inQ m c) (inV m c) (inG m c) (inLam m c) guard scale (inGain m c) (y 0)
      ⟨(y 1).val / 2048, by have : (y 1).val < 16384 := (y 1).isLt; omega⟩ ⟨(y 1).val % 2048, by omega⟩ (y 2) := by
  funext y
  refine (congrArg (resB V0) (coords y)).trans ((resB_at V0 (y 0) (y 1) (y 2)).trans ?_)
  rw [eQ, eV, eG, eL, eg]

end Values

set_option maxHeartbeats 2000000 in
/-- From arguments that agree, with real queries, keys and bias entries, the two programs end with the same results. -/
theorem algebraic : Cert.algebraic_KernelIdeal_ReferenceIdeal_pre_finite_scores := by
  intro m g m' g' hpre hagree
  have hQ : ∀ c a t d, ∃ r : ℝ, Cert.KernelIdeal.Value.inQ m c a t d = r := fun c => (Cert.Pre_finite_scores.Value.reals _ _ _ _ _ _ _ _ _ (hpre c)).1
  have hT : ∀ c h x, ∃ r : ℝ, Cert.KernelIdeal.Value.inT m c h x = r := fun c => (Cert.Pre_finite_scores.Value.reals _ _ _ _ _ _ _ _ _ (hpre c)).2
  refine ⟨_, _, Cert.KernelIdeal.Value.run_blocks (F := Ideal) m g, ?_⟩
  refine (θ_run Cert.ReferenceIdeal.defs _ _).mono (fun r h c => ⟨(h c).1.trans ?_, (h c).2.1.trans ?_, (h c).2.2⟩)
    (Cert.ReferenceIdeal.Value.run (F := Ideal) m' g')
  · clear hpre
    obtain ⟨e0, e1, e2, e3, e4, e5, e6, e7, e8⟩ := hagree c
    refine Eq.trans ?_ (Cert.KernelIdeal.Value.final_a m c (hQ c) (hT c)).symm
    refine result_a m (StableHlo.launchContents m' c) c (hQ c) (hT c) ?_ ?_ ?_ ?_
    · funext a t d; exact congrFun e0 _
    · funext a t d; exact congrFun e1 _
    · funext a t d; exact congrFun e2 _
    · funext a t; exact congrFun e3 _
  · clear hpre
    obtain ⟨e0, e1, e2, e3, e4, e5, e6, e7, e8⟩ := hagree c
    refine Eq.trans ?_ (Cert.KernelIdeal.Value.final_b m c (hQ c)).symm
    refine result_b m (StableHlo.launchContents m' c) c ?_ ?_ ?_ ?_ ?_
    · funext a t d; exact congrFun e0 _
    · funext a t d; exact congrFun e1 _
    · funext a t d; exact congrFun e2 _
    · exact factor_same e4 e5 e6 e7
    · funext x; exact congrFun e8 _

end Cert.Attn
-- ==== Proof.Mlp.lean ====
/- The feed-forward call's kernel: each grid point adds one slice of the hidden layer to its block of the residual. -/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Value

open Idealize Idealize.ShloMosaic Idealize.ShloMosaic.Tactic
open Cert.Kernel2Ideal Cert.Kernel2Ideal.Gen

/-- One hidden unit's activation: the squared positive part of a product. -/
def act (z : EReal) : EReal := max z 0 * max z 0

/-- What a slice of the hidden layer adds at row `r` of the block and column `c`. -/
def part (h : Vec Ideal S512x2048 .bf16) (u v : Vec Ideal S2048x2048 .bf16) (r : Fin 512) (c : Fin 2048) : EReal :=
  ∑ k : Fin 2048, act (∑ d : Fin 2048, h (ix2 r d) * u (ix2 d k)) * v (ix2 k c)

/-- The payload of the first half of the rows. -/
theorem first_half (h : Vec Ideal S256x2048 .bf16) (u : Vec Ideal S2048x2048 .bf16) (o : Vec Ideal S256x2048 .f32) (v : Vec Ideal S2048x2048 .bf16)
    (x : S256x2048.Idx) :
    k0_pay1 h u o v x = o x + ∑ k : Fin 2048, act (∑ d : Fin 2048, h (ix2 (x 0) d) * u (ix2 d k)) * v (ix2 k (x 1)) := by
  unfold act
  pointwise [k0_pay1, dot_S256x2048_S2048x2048_S256x2048_1_0_0_1_n_n]

/-- The payload of the second half. -/
theorem second_half (h : Vec Ideal S256x2048 .bf16) (u : Vec Ideal S2048x2048 .bf16) (o : Vec Ideal S256x2048 .f32) (v : Vec Ideal S2048x2048 .bf16)
    (x : S256x2048.Idx) :
    k0_pay2 h u o v x = o x + ∑ k : Fin 2048, act (∑ d : Fin 2048, h (ix2 (x 0) d) * u (ix2 d k)) * v (ix2 k (x 1)) := by
  unfold act
  pointwise [k0_pay2, dot_S256x2048_S2048x2048_S256x2048_1_0_0_1_n_n]

/-- A half's sum is the block's, at the row and the column that it stores. -/
theorem part_of {h' : Vec Ideal S256x2048 .bf16} {h : Vec Ideal S512x2048 .bf16} {u v : Vec Ideal S2048x2048 .bf16} {r' : Fin 256} {r : Fin 512}
    {c' c : Fin 2048} {o' o : EReal} (ho : o' = o) (hr : ∀ d, h' (ix2 r' d) = h (ix2 r d)) (hc : c' = c) :
    o' + ∑ k : Fin 2048, act (∑ d : Fin 2048, h' (ix2 r' d) * u (ix2 d k)) * v (ix2 k c') = o + part h u v r c := by
  subst ho hc
  unfold part
  simp only [hr]

/-- The residual's block at a grid point. -/
def resid (m : (ℓ : Loc nD τ sig) → Buf (Elt Ideal) ℓ) (c : Dev nD) (t : Fin cfg0.N) (y : S512x2048.Idx) : EReal := iblk m c 0 t y

/-- A store that later stores cover is not read back. -/
theorem canon_drop {S : Shape} {e : EltTy} (M : List (View.Piece (Elt Ideal) S e)) :
    ∀ (L : List (View.Piece (Elt Ideal) S e)) (y : S.Idx) (_ : ∃ p ∈ L, y ∈ p.1.set), View.canon (L ++ M) y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [List.cons_append]
      exact (View.canon_cons_emb p.1 p.2 _ x).trans (View.canon_cons_emb p.1 p.2 _ x).symm
    · rw [List.cons_append, View.canon_cons_of_not_mem _ _ hm, View.canon_cons_of_not_mem _ _ hm]
      refine canon_drop M L y ?_
      obtain ⟨q, hq, hy⟩ := h
      rcases List.mem_cons.mp hq with rfl | hq
      · exact absurd hy hm
      · exact ⟨q, hq, hy⟩

/-- Rows loaded after a store of the whole block are that store's. -/
theorem whole_rows (w : View sig .tc .vmem S512x2048 .f32) (Z : Vec Ideal S512x2048 .f32) (r : Rect S512x2048) :
    w.readCov [⟨Rect.unit (s := S512x2048) ![0, 0] S512x2048.size inb_S512x2048_S512x2048_0_0, Z⟩] r.toLoadRect = View.ld Z r :=
  View.readCov_fill w inb_S512x2048_S512x2048_0_0 Z [] r (by decide)

/-- At the first slice the block is the residual's plus the slice's part. -/
theorem step_first (m : (ℓ : Loc nD τ sig) → Buf (Elt Ideal) ℓ) (c : Dev nD) (t : Fin cfg0.N) (h0 : t.val % 4 = 0) (y : S512x2048.Idx) :
    (outsAt0 m c t.val t.isLt y : EReal) = resid m c t y + part (iblk m c 1 t) (iblk m c 2 t) (iblk m c 3 t) (y 0) (y 1) := by
  rw [outsAt0_A m c t h0]
  frame_out
  refine (canon_drop [_] [_, _] y (View.cover_of_tiled_head _ _ _ (by sl_kernel_rfl) y)).trans ?_
  clear h0
  canon_tiles x h
  case' piece0 => rw [View.readCov_skip _ _ _ _ _ (by decide), whole_rows]; refine (second_half _ _ _ _ x).trans (part_of ?_ (fun d => ?_) (Fin.ext h1.symm))
  case' piece1 => rw [whole_rows]; refine (first_half _ _ _ _ x).trans (part_of ?_ (fun d => ?_) (Fin.ext h1.symm))
  all_goals try unfold resid
  all_goals (pointwise; try blk_ext)

/-- At a later slice it is what the slice before left plus the slice's part. -/
theorem step_later (m : (ℓ : Loc nD τ sig) → Buf (Elt Ideal) ℓ) (c : Dev nD) (t : Fin cfg0.N) (h0 : ¬ t.val % 4 = 0) (y : S512x2048.Idx) :
    (outsAt0 m c t.val t.isLt y : EReal) = outsAt0 m c (t.val - 1) (Nat.lt_of_le_of_lt (Nat.sub_le _ _) t.isLt) y
      + part (iblk m c 1 t) (iblk m c 2 t) (iblk m c 3 t) (y 0) (y 1) := by
  rw [outsAt0_B m c t h0]
  frame_out
  canon_tiles x h
  case' piece0 => refine (second_half _ _ _ _ x).trans (part_of ?_ (fun d => ?_) (Fin.ext h1.symm))
  case' piece1 => refine (first_half _ _ _ _ x).trans (part_of ?_ (fun d => ?_) (Fin.ext h1.symm))
  all_goals (pointwise; try blk_ext)

/-- Grid point `t` is row block `t / 4` and slice `t % 4`. -/
theorem idx : ∀ t : Fin cfg0.N, t.val < 128 ∧ win0_0.index t = ![t.val / 4, 0] ∧ win0_1.index t = ![t.val / 4, 0] ∧ win0_2.index t = ![0, t.val % 4]
    ∧ win0_3.index t = ![t.val % 4, 0] ∧ win0_4.index t = ![t.val / 4, 0] :=
  (by decide +kernel : ∀ t : Fin grid0.N, _)

section Run

variable (m : (ℓ : Loc nD τ sig) → Buf (Elt Ideal) ℓ) (c : Dev nD)

/-- What the call computes, entry by entry: the residual and the hidden layer's squared positive parts through the second matrix. -/
def ffn (x : Vec Ideal S16384x2048 .f32) (h : Vec Ideal S16384x2048 .bf16) (u : Vec Ideal S2048x8192 .bf16) (v : Vec Ideal S8192x2048 .bf16)
    (r : Fin 16384) (j : Fin 2048) : EReal :=
  x (ix2 r j) + ∑ k : Fin 8192, act (∑ d : Fin 2048, h (ix2 r d) * u (ix2 d k)) * v (ix2 k j)

/-- A grid point's term: the residual's block at the first slice, and the slice's part. -/
def sliceTerm (t : Fin cfg0.N) (y : S512x2048.Idx) : EReal :=
  (if t.val % 4 = 0 then resid m c t y else 0) + part (iblk m c 1 t) (iblk m c 2 t) (iblk m c 3 t) (y 0) (y 1)

/-- Over a row block's four slices the residual is counted once. -/
theorem run_sum (g : (s : Fin 4) → EReal) (b : EReal) (q : ℕ) :
    ∑ s : Fin 4, ((if (4 * q + s.val) % 4 = 0 then b else 0) + g s) = b + ∑ s : Fin 4, g s := by
  rw [Finset.sum_add_distrib]
  congr 1
  rw [Fin.sum_univ_four, if_pos (by simp), if_neg (by simp), if_neg (by simp), if_neg (by simp), add_zero, add_zero, add_zero]

set_option maxHeartbeats 2000000 in
/-- The call's result array. -/
theorem final : (dats m 0 c).arrAt 4 cfg0.N = fun y : S16384x2048.Idx => ffn (m ((c.tc : Thread nD τ).loc main_arg0)) (m ((c.tc : Thread nD τ).loc main_arg1))
    (m ((c.tc : Thread nD τ).loc main_arg2)) (m ((c.tc : Thread nD τ).loc main_arg3)) (y 0) (y 1) := by
  refine (dats m 0 c).arrAt_eq_of_covers 4 _ (by decide +kernel) fun t hf y => ?_
  blk_simp
  rw [after0_4]
  have hr := (flush0_4 t).mp hf
  refine (Pipeline.eq_sum_fin_of_reset_step_apply_of_flush (fun n h => outsAt0 m c n h) 4 (fun _ => (0 : EReal)) (sliceTerm m c)
    (fun t h j => (step_first m c t h j).trans (by rw [sliceTerm, if_pos h, zero_add]))
    (fun t h j => (step_later m c t h j).trans (by rw [sliceTerm, if_neg h, zero_add]))
    t hr y).trans ?_
  rw [zero_add]
  unfold sliceTerm
  have hrun : ∀ s : Fin 4, resid m c ⟨4 * (t.val / 4) + s.val, Pipeline.run_point_lt_of_flush t hr s⟩ y = resid m c t y := fun s => by
    unfold resid
    blk_ext [iblk, V, idx t, idx ⟨_, Pipeline.run_point_lt_of_flush t hr s⟩]
  simp only [hrun]
  refine (run_sum _ _ _).trans ?_
  unfold ffn part
  refine congrArg₂ (· + ·) ?_ (Fin.sum_mul_add_congr fun s k hl => ?_)
  · unfold resid
    blk_ext [iblk, V, idx t]
  refine congrArg₂ (· * ·) (congrArg act (Fin.sum_fin_congr fun d => congrArg₂ (· * ·) ?_ ?_)) ?_
  all_goals blk_ext [iblk, V, idx t, idx ⟨_, Pipeline.run_point_lt_of_flush t hr s⟩]

end Run

end Cert.Kernel2Ideal.Value
-- ==== Proof.MlpClaims.lean ====
/- The claims of the feed-forward call: the frames, the ideal program, and the equality of the kernel's result with the
   reference's over the extended reals. -/
module

public import proofs.«01_k».proof.Defs
public import proofs.«01_k».proof.Proof.Mlp
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Mlp

open Idealize Idealize.ShloMosaic Idealize.ShloMosaic.Tactic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

/-- The reference runs and leaves its arguments as they were; it has no semaphore. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Nothing is rewritten in the ideal program. -/
theorem preserves : Cert.preserves_Kernel2_Kernel2Ideal := by trivial

section Reference

open Cert.Reference2Ideal Cert.Reference2Ideal.Gen

variable (x : FVec Ideal S16384x2048 .f32) (h : FVec Ideal S16384x2048 .bf16) (u : FVec Ideal S2048x8192 .bf16) (v : FVec Ideal S8192x2048 .bf16)

/-- The reference's hidden layer, its positive part taken. -/
def hidden : FVec Ideal S16384x8192 .f32 :=
  maximumf (Host.dotGeneral dot_S16384x2048_S2048x8192_S16384x8192_1_0_0_1_n_n none (extf .f32 h bitsLt_bf16_f32) (extf .f32 u bitsLt_bf16_f32))
    (broadcastInDim S16384x8192 ![] bcast_S_S16384x8192 (constant (F := Ideal) S_ .f32 0x00000000#32))

/-- The reference's result. -/
def result : FVec Ideal S16384x2048 .f32 :=
  addf x (Host.dotGeneral dot_S16384x8192_S8192x2048_S16384x2048_1_0_0_1_n_n none (mulf (hidden h u) (hidden h u)) (extf .f32 v bitsLt_bf16_f32))

/-- The reference's operations, entry by entry. -/
theorem reference_at (y : S16384x2048.Idx) : result x h u v y = Cert.Kernel2Ideal.Value.ffn x h u v (y 0) (y 1) := by
  unfold Cert.Kernel2Ideal.Value.ffn Cert.Kernel2Ideal.Value.act
  pointwise [result, hidden, dot_S16384x8192_S8192x2048_S16384x2048_1_0_0_1_n_n, dot_S16384x2048_S2048x8192_S16384x8192_1_0_0_1_n_n]

end Reference

/-- From arguments that agree the two programs end with the same result. -/
theorem algebraic : Cert.algebraic_Kernel2Ideal_Reference2Ideal := by
  intro m g m' g' _ hagree
  refine ⟨_, Cert.Kernel2Ideal.Value.run_blocks (F := Ideal) m g, ?_⟩
  refine (θ_run Cert.Reference2Ideal.defs _ _).mono (fun r h c => ⟨(h c).1.trans ?_, (h c).2⟩)
    (Cert.Reference2Ideal.Value.run (F := Ideal) m' g')
  obtain ⟨e0, e1, e2, e3⟩ := hagree c
  refine Eq.trans ?_ (Cert.Kernel2Ideal.Value.final m c).symm
  rw [e0, e1, e2, e3]
  exact funext fun y => reference_at _ _ _ _ y

end Cert.Mlp
-- ==== Proof.QkHeads.lean ====
/- The projection into query and key heads: each grid point multiplies a block of rows by a block of columns, normalises the
   product over each head's 128 columns, and stores it 256 rows at a time, one head after another. -/
module

public import proofs.«01_k».proof.Proof.Gen.Kernel3Ideal.Value
public import Idealize.ShloMosaic.Lib.Pipeline.ValueKit

@[expose] public section

set_option maxRecDepth 16384

noncomputable section

namespace Cert.Kernel3Ideal.Value

open Idealize Idealize.ShloMosaic Idealize.ShloMosaic.Tactic
open Cert.Kernel3Ideal Cert.Kernel3Ideal.Gen

/-- The columns `o` to `o + 127` of a product of 256 rows, normalised over those columns, as the block of one head. -/
def strip (h : FVec Ideal S256x2048 .bf16) (u : FVec Ideal S2048x2048 .bf16) (gain : FVec Ideal S1x1x128 .f32) (o : ℕ) (hs : S256x2048.Slices ![0, o] S256x128) :
    FVec Ideal S1x256x128 .bf16 :=
  let a : FVec Ideal S256x128 .f32 := extractStridedSlice S256x128 ![0, o]
    (matmul dot_S256x2048_S2048x2048_S256x2048_1_0_0_1_n_n none h u (constant S256x2048 .f32 0x00000000#32)) hs
  let s : FVec Ideal S256x1 .f32 := rsqrt (addf (divf (shapeCast S256x1
    (multiReduction .add [1] S256 (mulf a a) 0x00000000#32 reduces_S256x128_S256 (.inl rfl) rfl) shapeCasts_S256_S256x1)
    (broadcast S256x1 (Scalar.ofBits .f32 0x43000000#32))) (broadcast S256x1 (Scalar.ofBits .f32 0x358637BD#32)))
  shapeCast S1x256x128 (truncf .bf16 (mulf (mulf a (broadcastTo S256x128 s broadcasts_S256x1_S256x128))
    (broadcastTo S256x128 (shapeCast S1x128 gain shapeCasts_S1x1x128_S1x128) broadcasts_S1x128_S256x128)) bitsLt_bf16_f32) shapeCasts_S256x128_S1x256x128

/-- Column `j` of head `g` in a block of columns. -/
def col (g : Fin 16) (j : Fin 128) : Fin 2048 := ⟨128 * g.val + j.val, by omega⟩

/-- An entry of a block's product. -/
def entry (h u : Vec Ideal S2048x2048 .bf16) (r k : Fin 2048) : EReal := ∑ d : Fin 2048, h (ix2 r d) * u (ix2 d k)

/-- A head's column `j`: divided by the root of the mean square over the head, and scaled. -/
def normed (a gain : Fin 128 → EReal) (j : Fin 128) : EReal :=
  a j * Ideal.rsqrt (Ideal.div (∑ k : Fin 128, a k * a k) (Ideal.ofBits .f32 0x43000000#32) + Ideal.ofBits .f32 0x358637BD#32) * gain j

/-- One store holds the product's entries. -/
theorem tile (h u : Vec Ideal S2048x2048 .bf16) (gain : Vec Ideal S1x1x128 .f32) (y : S16x2048x128.Idx) (g row o : ℕ) (ho : o = 128 * g)
    (hr : ∀ a, (![row, 0] : Fin 2 → Nat) a + S256x2048.size a ≤ S2048x2048.size a) (hs : S256x2048.Slices ![0, o] S256x128) :
    View.TileAt (Val := Elt Ideal) (e := .bf16) y ![g, row, 0] S1x256x128.size
      (strip (View.ld h (Rect.unit (s := S2048x2048) ![row, 0] S256x2048.size hr)) (View.ld u r0_1) (View.ld gain r0_2) o hs) (normed (fun j => entry h u (y 1) (col (y 0) j)) (fun j => gain (ix3 0 0 j)) (y 2)) := by
  intro x hx
  have h0 : (y 0 : ℕ) = g + (x 0 : ℕ) := hx 0
  have h1 : (y 1 : ℕ) = row + (x 1 : ℕ) := hx 1
  have h2 : (y 2 : ℕ) = 0 + (x 2 : ℕ) := hx 2
  have hx0 : (x 0 : ℕ) < 1 := (x 0).isLt
  have hy0 : (y 0 : ℕ) < 16 := (y 0).isLt
  have hy1 : (y 1 : ℕ) < 2048 := (y 1).isLt
  have hrow : ∀ d : Fin 2048, h (ix2 ⟨row + (x 1 : ℕ), by omega⟩ d) = h (ix2 (y 1) d) := fun d =>
    congrArg (fun r => h (ix2 r d)) (Fin.ext h1.symm)
  have hcol : ∀ (d : Fin 2048) (j : Fin 128), u (ix2 d ⟨o + j.val, by omega⟩) = u (ix2 d (col (y 0) j)) := fun d j =>
    congrArg (fun k => u (ix2 d k)) (Fin.ext (by show o + j.val = 128 * (y 0 : ℕ) + j.val; omega))
  have e2 : x 2 = y 2 := Fin.ext (by show (x 2 : ℕ) = (y 2 : ℕ); omega)
  pointwise [strip, dot_S256x2048_S2048x2048_S256x2048_1_0_0_1_n_n]
  simp only [hrow, hcol]
  rw [e2]
  exact congrArg (fun z : EReal => z * _ * _) (Fin.sum_fin_congr fun d => congrArg (fun z : EReal => h (ix2 (y 1) d) * z) (hcol d (y 2)))

/-- What a grid point leaves in its block of the result. -/
theorem block (h u : Vec Ideal S2048x2048 .bf16) (gain : Vec Ideal S1x1x128 .f32) (y : S16x2048x128.Idx) :
    out0_3 h u gain y = normed (fun j => entry h u (y 1) (col (y 0) j)) (fun j => gain (ix3 0 0 j)) (y 2) := by
  unfold out0_3
  dsimp only
  refine View.canon_eq_of_allAt _ _ _ (View.cover_of_tiled_head _ _ _ (by sl_kernel_rfl) y) ?_
  repeat' refine View.allAt_cons_unit _ _ _ _ _ (tile h u gain y _ _ _ (by decide) (by decide) (by decide)) ?_
  exact View.allAt_nil _ _

/-- Grid point `t` is the block of columns `t / 8`, with the gain `t / 8`, and the block of rows `t % 8`. -/
theorem idx : ∀ t : Fin cfg0.N, t.val < 32 ∧ win0_0.index t = ![t.val % 8, 0] ∧ win0_1.index t = ![0, t.val / 8] ∧ win0_2.index t = ![t.val / 8, 0, 0]
    ∧ win0_3.index t = ![t.val / 8, t.val % 8, 0] :=
  (by decide +kernel : ∀ t : Fin grid0.N, _)

/-- The projection's column `128 * head + lane`. -/
def proj (h : Vec Ideal S16384x2048 .bf16) (w : Vec Ideal S2048x8192 .bf16) (g : Fin 64) (r : Fin 16384) (j : Fin 128) : EReal :=
  ∑ d : Fin 2048, h (ix2 r d) * w (ix2 d ⟨128 * g.val + j.val, by omega⟩)

/-- What the call computes, entry by entry: the projection's head, normalised, with the gain of its sixteen heads. -/
def heads (h : Vec Ideal S16384x2048 .bf16) (w : Vec Ideal S2048x8192 .bf16) (gain : Vec Ideal S4x1x128 .f32) (g : Fin 64) (r : Fin 16384) (j : Fin 128) : EReal :=
  normed (proj h w g r) (fun k => gain (ix3 ⟨g.val / 16, by omega⟩ 0 k)) j

theorem normed_congr {a a' g g' : Fin 128 → EReal} {j j' : Fin 128} (ha : ∀ k, a k = a' k) (hg : ∀ k, g k = g' k) (hj : j = j') : normed a g j = normed a' g' j' := by
  rw [funext ha, funext hg, hj]

/-- The call's result array. -/
theorem final (m : (ℓ : Loc nD τ sig) → Buf (Elt Ideal) ℓ) (c : Dev nD) : (dats m 0 c).arrAt 3 cfg0.N
    = fun y : S64x16384x128.Idx => heads (m ((c.tc : Thread nD τ).loc main_arg0)) (m ((c.tc : Thread nD τ).loc main_arg1))
        (m ((c.tc : Thread nD τ).loc main_arg2)) (y 0) (y 1) (y 2) := by
  refine (dats m 0 c).arrAt_eq_of_covers 3 _ (by decide +kernel) fun t hf y => ?_
  blk_simp
  rw [after0_3]
  refine (block _ _ _ y).trans ?_
  unfold heads
  refine normed_congr (fun k => ?_) (fun k => ?_) ?_
  · unfold entry proj
    refine Fin.sum_fin_congr fun d => congrArg₂ (· * ·) ?_ ?_
    all_goals (try unfold col); blk_ext [iblk, V, idx t]
  · blk_ext [iblk, V, idx t]
  · refine Fin.ext ?_
    blk_simp [idx t]

end Cert.Kernel3Ideal.Value
-- ==== Proof.ValueHeads.lean ====
/- The projection into value heads: each grid point multiplies a block of rows by a block of columns and stores the product
   128 columns and 256 rows at a time, one head after another. -/
module

public import proofs.«01_k».proof.Proof.Gen.Kernel4Ideal.Value
public import Idealize.ShloMosaic.Lib.Pipeline.ValueKit

@[expose] public section

set_option maxRecDepth 16384

noncomputable section

namespace Cert.Kernel4Ideal.Value

open Idealize Idealize.ShloMosaic Idealize.ShloMosaic.Tactic
open Cert.Kernel4Ideal Cert.Kernel4Ideal.Gen

/-- The columns `o` to `o + 127` of a product of 256 rows, as the block of one head. -/
def strip (h : FVec Ideal S256x2048 .bf16) (u : FVec Ideal S2048x2048 .bf16) (o : ℕ) (hs : S256x2048.Slices ![0, o] S256x128) : FVec Ideal S1x256x128 .bf16 :=
  shapeCast S1x256x128 (truncf .bf16 (extractStridedSlice S256x128 ![0, o]
    (matmul dot_S256x2048_S2048x2048_S256x2048_1_0_0_1_n_n none h u (constant S256x2048 .f32 0x00000000#32)) hs) bitsLt_bf16_f32) shapeCasts_S256x128_S1x256x128

/-- Column `j` of head `g` in a block of columns. -/
def col (g : Fin 16) (j : Fin 128) : Fin 2048 := ⟨128 * g.val + j.val, by omega⟩

/-- An entry of a block's product. -/
def entry (h u : Vec Ideal S2048x2048 .bf16) (r k : Fin 2048) : EReal := ∑ d : Fin 2048, h (ix2 r d) * u (ix2 d k)

/-- One store holds the product's entries. -/
theorem tile (h u : Vec Ideal S2048x2048 .bf16) (y : S16x2048x128.Idx) (g row o : ℕ) (ho : o = 128 * g)
    (hr : ∀ a, (![row, 0] : Fin 2 → Nat) a + S256x2048.size a ≤ S2048x2048.size a) (hs : S256x2048.Slices ![0, o] S256x128) :
    View.TileAt (Val := Elt Ideal) (e := .bf16) y ![g, row, 0] S1x256x128.size
      (strip (View.ld h (Rect.unit (s := S2048x2048) ![row, 0] S256x2048.size hr)) (View.ld u r0_1) o hs) (entry h u (y 1) (col (y 0) (y 2))) := by
  intro x hx
  have h0 : (y 0 : ℕ) = g + (x 0 : ℕ) := hx 0
  have h1 : (y 1 : ℕ) = row + (x 1 : ℕ) := hx 1
  have h2 : (y 2 : ℕ) = 0 + (x 2 : ℕ) := hx 2
  have hx0 : (x 0 : ℕ) < 1 := (x 0).isLt
  unfold entry col
  pointwise [strip, dot_S256x2048_S2048x2048_S256x2048_1_0_0_1_n_n]
  refine Fin.sum_fin_congr fun d => congrArg₂ (· * ·) (congrArg (fun r => h (ix2 r d)) (Fin.ext h1.symm)) (congrArg (fun k => u (ix2 d k)) (Fin.ext ?_))
  show o + (x 2 : ℕ) = 128 * (y 0 : ℕ) + (y 2 : ℕ)
  omega

/-- What a grid point leaves in its block of the result. -/
theorem block (h u : Vec Ideal S2048x2048 .bf16) (y : S16x2048x128.Idx) : out0_2 h u y = entry h u (y 1) (col (y 0) (y 2)) := by
  unfold out0_2
  dsimp only
  refine View.canon_eq_of_allAt _ _ _ (View.cover_of_tiled_head _ _ _ (by sl_kernel_rfl) y) ?_
  repeat' refine View.allAt_cons_unit _ _ _ _ _ (tile h u y _ _ _ (by decide) (by decide) (by decide)) ?_
  exact View.allAt_nil _ _

/-- Grid point `t` is the block of columns `t / 8` and the block of rows `t % 8`. -/
theorem idx : ∀ t : Fin cfg0.N, t.val < 16 ∧ win0_0.index t = ![t.val % 8, 0] ∧ win0_1.index t = ![0, t.val / 8] ∧ win0_2.index t = ![t.val / 8, t.val % 8, 0] :=
  (by decide +kernel : ∀ t : Fin grid0.N, _)

/-- What the call computes, entry by entry: the projection's column `128 * head + lane`. -/
def proj (h : Vec Ideal S16384x2048 .bf16) (w : Vec Ideal S2048x4096 .bf16) (g : Fin 32) (r : Fin 16384) (j : Fin 128) : EReal :=
  ∑ d : Fin 2048, h (ix2 r d) * w (ix2 d ⟨128 * g.val + j.val, by omega⟩)

/-- The call's result array. -/
theorem final (m : (ℓ : Loc nD τ sig) → Buf (Elt Ideal) ℓ) (c : Dev nD) : (dats m 0 c).arrAt 2 cfg0.N
    = fun y : S32x16384x128.Idx => proj (m ((c.tc : Thread nD τ).loc main_arg0)) (m ((c.tc : Thread nD τ).loc main_arg1)) (y 0) (y 1) (y 2) := by
  refine (dats m 0 c).arrAt_eq_of_covers 2 _ (by decide +kernel) fun t hf y => ?_
  blk_simp
  rw [after0_2]
  refine (block _ _ y).trans ?_
  unfold entry proj
  refine Fin.sum_fin_congr fun d => congrArg₂ (· * ·) ?_ ?_
  all_goals (try unfold col); blk_ext [iblk, V, idx t]

end Cert.Kernel4Ideal.Value
-- ==== Proof.GateHeads.lean ====
/- The projection into gate heads: each grid point multiplies a block of rows by a block of columns, adds the bias, takes the
   sigmoid, and stores it 128 columns and 256 rows at a time, one head after another. -/
module

public import proofs.«01_k».proof.Proof.Gen.Kernel5Ideal.Value
public import Idealize.ShloMosaic.Lib.Pipeline.ValueKit

@[expose] public section

set_option maxRecDepth 16384

noncomputable section

namespace Cert.Kernel5Ideal.Value

open Idealize Idealize.ShloMosaic Idealize.ShloMosaic.Tactic
open Cert.Kernel5Ideal Cert.Kernel5Ideal.Gen

/-- The columns `o` to `o + 127` of a product of 256 rows, with the bias and through the sigmoid, as the block of one head. -/
def strip (h : FVec Ideal S256x2048 .bf16) (u : FVec Ideal S2048x2048 .bf16) (bias : FVec Ideal S1x128 .f32) (o : ℕ) (hs : S256x2048.Slices ![0, o] S256x128) :
    FVec Ideal S1x256x128 .bf16 :=
  shapeCast S1x256x128 (truncf .bf16 (logistic (addf (extractStridedSlice S256x128 ![0, o]
    (matmul dot_S256x2048_S2048x2048_S256x2048_1_0_0_1_n_n none h u (constant S256x2048 .f32 0x00000000#32)) hs)
    (broadcastTo S256x128 (shapeCast S1x128 bias shapeCasts_S1x128_S1x128) broadcasts_S1x128_S256x128))) bitsLt_bf16_f32) shapeCasts_S256x128_S1x256x128

/-- Column `j` of head `g` in a block of columns. -/
def col (g : Fin 16) (j : Fin 128) : Fin 2048 := ⟨128 * g.val + j.val, by omega⟩

/-- An entry of a block's product. -/
def entry (h u : Vec Ideal S2048x2048 .bf16) (r k : Fin 2048) : EReal := ∑ d : Fin 2048, h (ix2 r d) * u (ix2 d k)

/-- One store holds the product's entries. -/
theorem tile (h u : Vec Ideal S2048x2048 .bf16) (bias : Vec Ideal S1x2048 .f32) (y : S16x2048x128.Idx) (g row o : ℕ) (ho : o = 128 * g)
    (hr : ∀ a, (![row, 0] : Fin 2 → Nat) a + S256x2048.size a ≤ S2048x2048.size a) (hs : S256x2048.Slices ![0, o] S256x128)
    (hb : ∀ a, (![0, o] : Fin 2 → Nat) a + S1x128.size a ≤ S1x2048.size a) :
    View.TileAt (Val := Elt Ideal) (e := .bf16) y ![g, row, 0] S1x256x128.size
      (strip (View.ld h (Rect.unit (s := S2048x2048) ![row, 0] S256x2048.size hr)) (View.ld u r0_1)
        (View.ld bias (Rect.unit (s := S1x2048) ![0, o] S1x128.size hb)) o hs) (Ideal.logistic (entry h u (y 1) (col (y 0) (y 2)) + bias (ix2 0 (col (y 0) (y 2))))) := by
  intro x hx
  have h0 : (y 0 : ℕ) = g + (x 0 : ℕ) := hx 0
  have h1 : (y 1 : ℕ) = row + (x 1 : ℕ) := hx 1
  have h2 : (y 2 : ℕ) = 0 + (x 2 : ℕ) := hx 2
  have hx0 : (x 0 : ℕ) < 1 := (x 0).isLt
  unfold entry col
  pointwise [strip, dot_S256x2048_S2048x2048_S256x2048_1_0_0_1_n_n]
  have hk : o + (x 2 : ℕ) = 128 * (y 0 : ℕ) + (y 2 : ℕ) := by omega
  refine congrArg Ideal.logistic (congrArg₂ (· + ·) (Fin.sum_fin_congr fun d =>
    congrArg₂ (· * ·) (congrArg (fun r => h (ix2 r d)) (Fin.ext h1.symm)) (congrArg (fun k => u (ix2 d k)) (Fin.ext hk))) (congrArg (fun k => bias (ix2 0 k)) (Fin.ext hk)))

/-- What a grid point leaves in its block of the result. -/
theorem block (h u : Vec Ideal S2048x2048 .bf16) (bias : Vec Ideal S1x2048 .f32) (y : S16x2048x128.Idx) :
    out0_3 h u bias y = Ideal.logistic (entry h u (y 1) (col (y 0) (y 2)) + bias (ix2 0 (col (y 0) (y 2)))) := by
  unfold out0_3
  dsimp only
  refine View.canon_eq_of_allAt _ _ _ (View.cover_of_tiled_head _ _ _ (by sl_kernel_rfl) y) ?_
  repeat' refine View.allAt_cons_unit _ _ _ _ _ (tile h u bias y _ _ _ (by decide) (by decide) (by decide) (by decide)) ?_
  exact View.allAt_nil _ _

/-- Grid point `t` is the block of columns `t / 8` and the block of rows `t % 8`. -/
theorem idx : ∀ t : Fin cfg0.N, t.val < 16 ∧ win0_0.index t = ![t.val % 8, 0] ∧ win0_1.index t = ![0, t.val / 8] ∧ win0_2.index t = ![0, t.val / 8]
    ∧ win0_3.index t = ![t.val / 8, t.val % 8, 0] :=
  (by decide +kernel : ∀ t : Fin grid0.N, _)

/-- What the call computes, entry by entry: the sigmoid of the projection's column `128 * head + lane` with its bias. -/
def gate (h : Vec Ideal S16384x2048 .bf16) (w : Vec Ideal S2048x4096 .bf16) (bias : Vec Ideal S4096 .f32) (g : Fin 32) (r : Fin 16384) (j : Fin 128) : EReal :=
  Ideal.logistic ((∑ d : Fin 2048, h (ix2 r d) * w (ix2 d ⟨128 * g.val + j.val, by omega⟩)) + bias (ix1 ⟨128 * g.val + j.val, by omega⟩))

/-- The bias as the call finds it: one row. -/
theorem bias_row (m : (ℓ : Loc nD τ sig) → Buf (Elt Ideal) ℓ) (c : Dev nD) (i : S1x4096.Idx) :
    V m c main_v0 i = m ((c.tc : Thread nD τ).loc main_arg2) (ix1 (i 1)) := by
  entry_read
  pointwise

/-- The call's result array. -/
theorem final (m : (ℓ : Loc nD τ sig) → Buf (Elt Ideal) ℓ) (c : Dev nD) : (dats m 0 c).arrAt 3 cfg0.N
    = fun y : S32x16384x128.Idx => gate (m ((c.tc : Thread nD τ).loc main_arg0)) (m ((c.tc : Thread nD τ).loc main_arg1))
        (m ((c.tc : Thread nD τ).loc main_arg2)) (y 0) (y 1) (y 2) := by
  refine (dats m 0 c).arrAt_eq_of_covers 3 _ (by decide +kernel) fun t hf y => ?_
  blk_simp
  rw [after0_3]
  refine (block _ _ _ y).trans ?_
  unfold entry gate col
  refine congrArg Ideal.logistic (congrArg₂ (· + ·) (Fin.sum_fin_congr fun d => congrArg₂ (· * ·) ?_ ?_) ?_)
  · blk_ext [iblk, V_main_arg0, idx t]
  · blk_ext [iblk, V_main_arg1, idx t]
  · blk_simp [iblk]
    refine (bias_row m c _).trans ?_
    blk_ext [idx t]

end Cert.Kernel5Ideal.Value
-- ==== Proof.HeadsClaims.lean ====
/- The claims of the three projections into heads: the frames, the ideal programs, and the equality of each kernel's result
   with its reference's over the extended reals. -/
module

public import proofs.«01_k».proof.Defs
public import proofs.«01_k».proof.Proof.QkHeads
public import proofs.«01_k».proof.Proof.ValueHeads
public import proofs.«01_k».proof.Proof.GateHeads
public import proofs.«01_k».proof.Proof.Gen.Kernel3.Frame
public import proofs.«01_k».proof.Proof.Gen.Reference3Ideal.Run
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import Idealize.ShloMosaic.Lib.Quiescent

@[expose] public section

set_option maxRecDepth 16384

noncomputable section

open Idealize Idealize.ShloMosaic Idealize.ShloMosaic.Tactic Idealize.ShloMosaic.TcCoe Idealize.SL.Sem

namespace Cert.QkHeads

theorem frame_kernel : Cert.quiescent_Kernel3 := fun m ρ _ => Cert.Kernel3.Gen.frame m ρ

theorem frame_ideal : Cert.quiescent_Kernel3Ideal := fun m ρ _ => Cert.Kernel3Ideal.Gen.frame m ρ

/-- The reference runs and leaves its arguments as they were; it has no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Nothing is rewritten in the ideal program. -/
theorem preserves : Cert.preserves_Kernel3_Kernel3Ideal := by trivial

section Reference

open Cert.Reference3Ideal Cert.Reference3Ideal.Gen

/-- The reference's projection, by group, head and column. -/
def product (h : FVec Ideal S16384x2048 .bf16) (w : FVec Ideal S2048x8192 .bf16) : FVec Ideal S16384x4x16x128 .f32 := shapeCast _ (Host.dotGeneral dot_S16384x2048_S2048x8192_S16384x8192_1_0_0_1_n_n none (extf .f32 h bitsLt_bf16_f32) (extf .f32 w bitsLt_bf16_f32)) shapeCasts_S16384x8192_S16384x4x16x128

/-- The reference's result. -/
def result (h : FVec Ideal S16384x2048 .bf16) (w : FVec Ideal S2048x8192 .bf16) (gain : FVec Ideal S4x1x128 .f32) : FVec Ideal S64x16384x128 .bf16 :=
  truncf .bf16 (transpose S64x16384x128 [1, 0, 2] (shapeCast _ (mulf (mulf (product h w) (broadcastInDim S16384x4x16x128 ![0, 1, 2, 3] bcast_S16384x4x16x1_S16384x4x16x128_0_1_2_3 (Host.rsqrt (addf (Host.divf (broadcastInDim S16384x4x16x1 ![0, 1, 2] bcast_S16384x4x16_S16384x4x16x1_0_1_2 (Host.reduceAdd (mulf (product h w) (product h w)) (constant (F := Ideal) S_ .f32 0x00000000#32) reducesTo_S16384x4x16x128_S16384x4x16_d3 h_S_)) (broadcastInDim S16384x4x16x1 ![] bcast_S_S16384x4x16x1 (constant (F := Ideal) S_ .f32 0x43000000#32))) (broadcastInDim S16384x4x16x1 ![] bcast_S_S16384x4x16x1 (constant (F := Ideal) S_ .f32 0x358637BD#32)))))) (broadcastInDim S16384x4x16x128 ![0, 1, 2, 3] bcast_S1x4x1x128_S16384x4x16x128_0_1_2_3 (broadcastInDim S1x4x1x128 ![1, 2, 3] bcast_S4x1x128_S1x4x1x128_1_2_3 gain))) shapeCasts_S16384x4x16x128_S16384x64x128) transposes_S16384x64x128_S64x16384x128_1_0_2) bitsLt_bf16_f32

/-- The query and key heads of the reference, entry by entry. -/
theorem reference_at (h : FVec Ideal S16384x2048 .bf16) (w : FVec Ideal S2048x8192 .bf16) (gain : FVec Ideal S4x1x128 .f32) (y : S64x16384x128.Idx) :
    result h w gain y = Cert.Kernel3Ideal.Value.heads h w gain (y 0) (y 1) (y 2) := by
  unfold Cert.Kernel3Ideal.Value.heads Cert.Kernel3Ideal.Value.normed Cert.Kernel3Ideal.Value.proj
  pointwise [result, product, dot_S16384x2048_S2048x8192_S16384x8192_1_0_0_1_n_n]
  blk_point []

end Reference

/-- From arguments that agree the two programs end with the same result. -/
theorem algebraic : Cert.algebraic_Kernel3Ideal_Reference3Ideal := by
  intro m g m' g' _ hagree
  refine ⟨_, Cert.Kernel3Ideal.Value.run_blocks (F := Ideal) m g, ?_⟩
  refine (θ_run Cert.Reference3Ideal.defs _ _).mono (fun r h c => ⟨(h c).1.trans ?_, (h c).2⟩)
    (Cert.Reference3Ideal.Value.run (F := Ideal) m' g')
  obtain ⟨e0, e1, e2⟩ := hagree c
  refine Eq.trans ?_ (Cert.Kernel3Ideal.Value.final m c).symm
  rw [e0, e1, e2]
  exact funext fun y => reference_at _ _ _ y

end Cert.QkHeads

namespace Cert.ValueHeads

theorem frame_kernel : Cert.quiescent_Kernel4 := fun m ρ _ => Cert.Kernel4.Gen.frame m ρ

theorem frame_ideal : Cert.quiescent_Kernel4Ideal := fun m ρ _ => Cert.Kernel4Ideal.Gen.frame m ρ

/-- The reference runs and leaves its arguments as they were; it has no semaphore. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Nothing is rewritten in the ideal program. -/
theorem preserves : Cert.preserves_Kernel4_Kernel4Ideal := by trivial

section Reference

open Cert.Reference4Ideal Cert.Reference4Ideal.Gen

/-- The reference's result. -/
def result (h : FVec Ideal S16384x2048 .bf16) (w : FVec Ideal S2048x4096 .bf16) : FVec Ideal S32x16384x128 .bf16 :=
  truncf .bf16 (transpose S32x16384x128 [1, 0, 2] (shapeCast _ (Host.dotGeneral dot_S16384x2048_S2048x4096_S16384x4096_1_0_0_1_n_n none (extf .f32 h bitsLt_bf16_f32) (extf .f32 w bitsLt_bf16_f32)) shapeCasts_S16384x4096_S16384x32x128) transposes_S16384x32x128_S32x16384x128_1_0_2) bitsLt_bf16_f32

/-- The value heads of the reference, entry by entry. -/
theorem reference_at (h : FVec Ideal S16384x2048 .bf16) (w : FVec Ideal S2048x4096 .bf16) (y : S32x16384x128.Idx) :
    result h w y = Cert.Kernel4Ideal.Value.proj h w (y 0) (y 1) (y 2) := by
  unfold Cert.Kernel4Ideal.Value.proj
  pointwise [result, dot_S16384x2048_S2048x4096_S16384x4096_1_0_0_1_n_n]
  blk_point []

end Reference

/-- From arguments that agree the two programs end with the same result. -/
theorem algebraic : Cert.algebraic_Kernel4Ideal_Reference4Ideal := by
  intro m g m' g' _ hagree
  refine ⟨_, Cert.Kernel4Ideal.Value.run_blocks (F := Ideal) m g, ?_⟩
  refine (θ_run Cert.Reference4Ideal.defs _ _).mono (fun r h c => ⟨(h c).1.trans ?_, (h c).2⟩)
    (Cert.Reference4Ideal.Value.run (F := Ideal) m' g')
  obtain ⟨e0, e1⟩ := hagree c
  refine Eq.trans ?_ (Cert.Kernel4Ideal.Value.final m c).symm
  rw [e0, e1]
  exact funext fun y => reference_at _ _ y

end Cert.ValueHeads

namespace Cert.GateHeads

theorem frame_kernel : Cert.quiescent_Kernel5 := fun m ρ _ => Cert.Kernel5.Gen.frame m ρ

theorem frame_ideal : Cert.quiescent_Kernel5Ideal := fun m ρ _ => Cert.Kernel5Ideal.Gen.frame m ρ

/-- The reference runs and leaves its arguments as they were; it has no semaphore. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- Nothing is rewritten in the ideal program. -/
theorem preserves : Cert.preserves_Kernel5_Kernel5Ideal := by trivial

section Reference

open Cert.Reference5Ideal Cert.Reference5Ideal.Gen

/-- The reference's result. -/
def result (h : FVec Ideal S16384x2048 .bf16) (w : FVec Ideal S2048x4096 .bf16) (bias : FVec Ideal S4096 .f32) : FVec Ideal S32x16384x128 .bf16 :=
  truncf .bf16 (transpose S32x16384x128 [1, 0, 2] (shapeCast _ (Host.divf (broadcastInDim S16384x4096 ![] bcast_S_S16384x4096 (constant (F := Ideal) S_ .f32 0x3F800000#32)) (addf (broadcastInDim S16384x4096 ![] bcast_S_S16384x4096 (constant (F := Ideal) S_ .f32 0x3F800000#32)) (Host.exp (Host.negf (addf (Host.dotGeneral dot_S16384x2048_S2048x4096_S16384x4096_1_0_0_1_n_n none (extf .f32 h bitsLt_bf16_f32) (extf .f32 w bitsLt_bf16_f32)) (broadcastInDim S16384x4096 ![0, 1] bcast_S1x4096_S16384x4096_0_1 (broadcastInDim S1x4096 ![1] bcast_S4096_S1x4096_1 bias))))))) shapeCasts_S16384x4096_S16384x32x128) transposes_S16384x32x128_S32x16384x128_1_0_2) bitsLt_bf16_f32

/-- The gate heads of the reference, entry by entry. -/
theorem reference_at (h : FVec Ideal S16384x2048 .bf16) (w : FVec Ideal S2048x4096 .bf16) (bias : FVec Ideal S4096 .f32) (y : S32x16384x128.Idx) :
    result h w bias y = Cert.Kernel5Ideal.Value.gate h w bias (y 0) (y 1) (y 2) := by
  unfold Cert.Kernel5Ideal.Value.gate Ideal.logistic
  pointwise [result, dot_S16384x2048_S2048x4096_S16384x4096_1_0_0_1_n_n]
  blk_point []

end Reference

/-- From arguments that agree the two programs end with the same result. -/
theorem algebraic : Cert.algebraic_Kernel5Ideal_Reference5Ideal := by
  intro m g m' g' _ hagree
  refine ⟨_, Cert.Kernel5Ideal.Value.run_blocks (F := Ideal) m g, ?_⟩
  refine (θ_run Cert.Reference5Ideal.defs _ _).mono (fun r h c => ⟨(h c).1.trans ?_, (h c).2⟩)
    (Cert.Reference5Ideal.Value.run (F := Ideal) m' g')
  obtain ⟨e0, e1, e2⟩ := hagree c
  refine Eq.trans ?_ (Cert.Kernel5Ideal.Value.final m c).symm
  rw [e0, e1, e2]
  exact funext fun y => reference_at _ _ _ y

end Cert.GateHeads
-- ==== Proof.Conv.lean ====
/- The gated convolution: each grid point multiplies the rows of one sequence by four blocks of 256 weight columns, which it keeps
   in a scratch buffer over the eight sequences, and combines the products with the products of the two rows before. -/
module

public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.Kernel6Ideal.Value

open Idealize Idealize.ShloMosaic Idealize.ShloMosaic.Tactic
open Cert.Kernel6Ideal Cert.Kernel6Ideal.Gen

/-- The convolution's value at row `r` of a sequence, for one column: `u` holds the products of the rows, `p` and `q` the gates'. -/
def gated (p q u : Fin 2048 → EReal) (b c₀ c₁ c₂ : EReal) (r : Fin 2048) : EReal :=
  Ideal.logistic (q r + b) * (p r * (c₀ * (if h : r.val < 2 then 0 else u ⟨r.val - 2, by omega⟩)
    + c₁ * (if h : r.val < 1 then 0 else u ⟨r.val - 1, by omega⟩) + c₂ * u r))

/-- What one chunk of 256 rows stores, from its products and the two rows before it. -/
def mixed (p q u : FVec Ideal S256x256 .f32) (p₁ p₂ : FVec Ideal S1x256 .f32) (c₀ c₁ c₂ b : Vec Ideal S1x256 .f32) : FVec Ideal S256x256 .bf16 :=
  k0_pay15 (iota .tc S256x1 32 [0] iota_S256x1_d0_w32) p q u p₁ p₂
    (select (broadcastTo S256x256 (shapeCast S256x1 k0_pay13 shapeCasts_S256x1_S256x1) broadcasts_S256x1_S256x256)
      (broadcastTo S256x256 (shapeCast S1x256 p₁ shapeCasts_S1x256_S1x256) broadcasts_S1x256_S256x256)
      (dynamicRotate 0 1#32 none u rotates_S256x256_d0))
    k0_pay13 k0_pay14 c₀ c₁ c₂ b

theorem mixed_at (p q u : FVec Ideal S256x256 .f32) (p₁ p₂ : FVec Ideal S1x256 .f32) (c₀ c₁ c₂ b : Vec Ideal S1x256 .f32) (r j : Fin 256) :
    mixed p q u p₁ p₂ c₀ c₁ c₂ b (ix2 r j) = Ideal.logistic (q (ix2 r j) + b (ix2 0 j)) * (p (ix2 r j)
      * (c₀ (ix2 0 j) * (if r.val = 0 then p₂ (ix2 0 j) else if r.val = 1 then p₁ (ix2 0 j) else u (ix2 ⟨(r.val + 256 - 2) % 256, Nat.mod_lt _ (by decide)⟩ j))
        + c₁ (ix2 0 j) * (if r.val = 0 then p₁ (ix2 0 j) else u (ix2 ⟨(r.val + 256 - 1) % 256, Nat.mod_lt _ (by decide)⟩ j)) + c₂ (ix2 0 j) * u (ix2 r j))) := by
  pointwise [mixed, k0_pay15, k0_pay13, k0_pay14]
  word_cmp

/-- A row of `H` times a column of the `n`-th block of weights. -/
def proj (H : Vec Ideal S2048x2048 .bf16) (W : Vec Ideal S4x2048x256 .bf16) (n : Fin 4) (j : Fin 256) (r : Fin 2048) : EReal :=
  ∑ k : Fin 2048, H (ix2 r k) * W (ix3 n k j)

/-- The products that the convolution runs over. -/
def taps (H : Vec Ideal S2048x2048 .bf16) (W : Vec Ideal S4x2048x256 .bf16) (j : Fin 256) (r : Fin 2048) : EReal := proj H W 1 j r * proj H W 2 j r

/-- What a grid point writes. -/
def rows (H : Vec Ideal S2048x2048 .bf16) (W : Vec Ideal S4x2048x256 .bf16) (cw : Vec Ideal S3x256 .f32) (b : Vec Ideal S1x256 .f32) : FVec Ideal S2048x256 .bf16 :=
  fun y => gated (proj H W 0 (y 1)) (proj H W 3 (y 1)) (taps H W (y 1)) (b (ix2 0 (y 1))) (cw (ix2 0 (y 1))) (cw (ix2 1 (y 1))) (cw (ix2 2 (y 1))) (y 0)

section Chunk

variable (H : Vec Ideal S2048x2048 .bf16) (W : Vec Ideal S4x2048x256 .bf16) (o : ℕ)
  (ho : ∀ i, (![o, 0] : Fin 2 → Nat) i + S256x2048.size i ≤ S2048x2048.size i)
  (w₀ : ∀ i, (![0, 0, 0] : Fin 3 → Nat) i + S1x2048x256.size i ≤ S4x2048x256.size i)
  (w₁ : ∀ i, (![1, 0, 0] : Fin 3 → Nat) i + S1x2048x256.size i ≤ S4x2048x256.size i)
  (w₂ : ∀ i, (![2, 0, 0] : Fin 3 → Nat) i + S1x2048x256.size i ≤ S4x2048x256.size i)
  (w₃ : ∀ i, (![3, 0, 0] : Fin 3 → Nat) i + S1x2048x256.size i ≤ S4x2048x256.size i)

theorem first_at (r j : Fin 256) (s : Fin 2048) (hs : s.val = o + r.val) :
    k0_pay7 (View.ld H (Rect.unit (s := S2048x2048) ![o, 0] S256x2048.size ho)) (View.ld W (Rect.unit (s := S4x2048x256) ![0, 0, 0] S1x2048x256.size w₀)) (ix2 r j)
      = proj H W 0 j s := by
  obtain ⟨s, hlt⟩ := s
  obtain rfl : s = o + r.val := hs
  unfold proj
  pointwise [k0_pay7]

theorem last_at (r j : Fin 256) (s : Fin 2048) (hs : s.val = o + r.val) :
    k0_pay8 (View.ld H (Rect.unit (s := S2048x2048) ![o, 0] S256x2048.size ho)) (View.ld W (Rect.unit (s := S4x2048x256) ![3, 0, 0] S1x2048x256.size w₃)) (ix2 r j)
      = proj H W 3 j s := by
  obtain ⟨s, hlt⟩ := s
  obtain rfl : s = o + r.val := hs
  unfold proj
  pointwise [k0_pay8]

theorem taps_at (r j : Fin 256) (s : Fin 2048) (hs : s.val = o + r.val) :
    k0_pay9 (View.ld H (Rect.unit (s := S2048x2048) ![o, 0] S256x2048.size ho)) (View.ld W (Rect.unit (s := S4x2048x256) ![1, 0, 0] S1x2048x256.size w₁))
      (View.ld W (Rect.unit (s := S4x2048x256) ![2, 0, 0] S1x2048x256.size w₂)) (ix2 r j) = taps H W j s := by
  obtain ⟨s, hlt⟩ := s
  obtain rfl : s = o + r.val := hs
  unfold taps proj
  pointwise [k0_pay9]

/-- One chunk's stored rows, if it is given the products of the two rows before it. -/
theorem chunk_at (cw : Vec Ideal S3x256 .f32) (b : Vec Ideal S1x256 .f32) (p₁ p₂ : FVec Ideal S1x256 .f32)
    (v₀ : ∀ i, (![0, 0] : Fin 2 → Nat) i + S1x256.size i ≤ S3x256.size i) (v₁ : ∀ i, (![1, 0] : Fin 2 → Nat) i + S1x256.size i ≤ S3x256.size i)
    (v₂ : ∀ i, (![2, 0] : Fin 2 → Nat) i + S1x256.size i ≤ S3x256.size i)
    (r j : Fin 256) (s : Fin 2048) (hs : s.val = o + r.val) (h2 : o = 0 ∨ 2 ≤ o)
    (h₁ : p₁ (ix2 0 j) = if o = 0 then 0 else taps H W j ⟨o - 1, by have := s.isLt; omega⟩)
    (h₂ : p₂ (ix2 0 j) = if o = 0 then 0 else taps H W j ⟨o - 2, by have := s.isLt; omega⟩) :
    mixed (k0_pay7 (View.ld H (Rect.unit (s := S2048x2048) ![o, 0] S256x2048.size ho)) (View.ld W (Rect.unit (s := S4x2048x256) ![0, 0, 0] S1x2048x256.size w₀)))
      (k0_pay8 (View.ld H (Rect.unit (s := S2048x2048) ![o, 0] S256x2048.size ho)) (View.ld W (Rect.unit (s := S4x2048x256) ![3, 0, 0] S1x2048x256.size w₃)))
      (k0_pay9 (View.ld H (Rect.unit (s := S2048x2048) ![o, 0] S256x2048.size ho)) (View.ld W (Rect.unit (s := S4x2048x256) ![1, 0, 0] S1x2048x256.size w₁))
        (View.ld W (Rect.unit (s := S4x2048x256) ![2, 0, 0] S1x2048x256.size w₂)))
      p₁ p₂ (View.ld cw (Rect.unit (s := S3x256) ![0, 0] S1x256.size v₀)) (View.ld cw (Rect.unit (s := S3x256) ![1, 0] S1x256.size v₁))
      (View.ld cw (Rect.unit (s := S3x256) ![2, 0] S1x256.size v₂)) b (ix2 r j) = rows H W cw b (ix2 s j) := by
  have hr : r.val < 256 := r.isLt
  refine (mixed_at _ _ _ _ _ _ _ _ _ r j).trans ?_
  unfold rows gated
  rw [first_at H W o ho w₀ r j s hs, last_at H W o ho w₃ r j s hs, taps_at H W o ho w₁ w₂ r j s hs, h₁, h₂]
  refine congrArg₂ (· * ·) rfl (congrArg₂ (· * ·) rfl (congrArg₂ (· + ·) (congrArg₂ (· + ·) (congrArg₂ (· * ·) ?_ ?_) (congrArg₂ (· * ·) ?_ ?_)) (congrArg₂ (· * ·) ?_ rfl)))
  · pointwise
  · show _ = if h : s.val < 2 then (0 : EReal) else taps H W j ⟨s.val - 2, by omega⟩
    rcases Nat.lt_or_ge r.val 2 with h | h
    · rcases h2 with h0 | h0
      · rw [dif_pos (show s.val < 2 by omega), if_pos h0, if_pos h0]
        rcases Nat.lt_or_ge r.val 1 with h' | h'
        · rw [if_pos (show r.val = 0 by omega)]
        · rw [if_neg (show ¬r.val = 0 by omega), if_pos (show r.val = 1 by omega)]
      · rw [dif_neg (show ¬s.val < 2 by omega), if_neg (show ¬o = 0 by omega), if_neg (show ¬o = 0 by omega)]
        rcases Nat.lt_or_ge r.val 1 with h' | h'
        · rw [if_pos (show r.val = 0 by omega)]; exact congrArg _ (Fin.ext (by show o - 2 = s.val - 2; omega))
        · rw [if_neg (show ¬r.val = 0 by omega), if_pos (show r.val = 1 by omega)]; exact congrArg _ (Fin.ext (by show o - 1 = s.val - 2; omega))
    · rw [if_neg (show ¬r.val = 0 by omega), if_neg (show ¬r.val = 1 by omega), dif_neg (show ¬s.val < 2 by omega)]
      exact taps_at H W o ho w₁ w₂ _ j _ (by show s.val - 2 = o + (r.val + 256 - 2) % 256; omega)
  · pointwise
  · show _ = if h : s.val < 1 then (0 : EReal) else taps H W j ⟨s.val - 1, by omega⟩
    rcases Nat.lt_or_ge r.val 1 with h | h
    · rw [if_pos (show r.val = 0 by omega)]
      rcases h2 with h0 | h0
      · rw [dif_pos (show s.val < 1 by omega), if_pos h0]
      · rw [dif_neg (show ¬s.val < 1 by omega), if_neg (show ¬o = 0 by omega)]; exact congrArg _ (Fin.ext (by show o - 1 = s.val - 1; omega))
    · rw [if_neg (show ¬r.val = 0 by omega), dif_neg (show ¬s.val < 1 by omega)]
      exact taps_at H W o ho w₁ w₂ _ j _ (by show s.val - 1 = o + (r.val + 256 - 1) % 256; omega)
  · pointwise

/-- One chunk's rows times the first block of weights. -/
def gate₀ : FVec Ideal S256x256 .f32 :=
  k0_pay7 (View.ld H (Rect.unit (s := S2048x2048) ![o, 0] S256x2048.size ho)) (View.ld W (Rect.unit (s := S4x2048x256) ![0, 0, 0] S1x2048x256.size w₀))

/-- One chunk's rows times the last block of weights. -/
def gate₃ : FVec Ideal S256x256 .f32 :=
  k0_pay8 (View.ld H (Rect.unit (s := S2048x2048) ![o, 0] S256x2048.size ho)) (View.ld W (Rect.unit (s := S4x2048x256) ![3, 0, 0] S1x2048x256.size w₃))

/-- One chunk's products that the convolution runs over. -/
def chunk : FVec Ideal S256x256 .f32 :=
  k0_pay9 (View.ld H (Rect.unit (s := S2048x2048) ![o, 0] S256x2048.size ho)) (View.ld W (Rect.unit (s := S4x2048x256) ![1, 0, 0] S1x2048x256.size w₁))
    (View.ld W (Rect.unit (s := S4x2048x256) ![2, 0, 0] S1x2048x256.size w₂))

/-- The last two rows of a chunk, as the next chunk takes them. -/
theorem tail_at (u : FVec Ideal S256x256 .f32) (j : Fin 256) : k0_pay27 u (ix2 0 j) = u (ix2 255 j) ∧ k0_pay28 u (ix2 0 j) = u (ix2 254 j) := by
  constructor
  · pointwise [k0_pay27, k0_pay23]
  · pointwise [k0_pay28, k0_pay23]

/-- The first chunk's store. -/
theorem tile_first (cw : Vec Ideal S3x256 .f32) (b : Vec Ideal S1x256 .f32) (y : S2048x256.Idx)
    (ho : ∀ i, (![0, 0] : Fin 2 → Nat) i + S256x2048.size i ≤ S2048x2048.size i)
    (v₀ : ∀ i, (![0, 0] : Fin 2 → Nat) i + S1x256.size i ≤ S3x256.size i) (v₁ : ∀ i, (![1, 0] : Fin 2 → Nat) i + S1x256.size i ≤ S3x256.size i)
    (v₂ : ∀ i, (![2, 0] : Fin 2 → Nat) i + S1x256.size i ≤ S3x256.size i) :
    View.TileAt (Val := Elt Ideal) (e := .bf16) y ![0, 0] S256x256.size
      (mixed (gate₀ H W 0 ho w₀) (gate₃ H W 0 ho w₃) (chunk H W 0 ho w₁ w₂) k0_pay10 k0_pay11 (View.ld cw (Rect.unit (s := S3x256) ![0, 0] S1x256.size v₀))
        (View.ld cw (Rect.unit (s := S3x256) ![1, 0] S1x256.size v₁)) (View.ld cw (Rect.unit (s := S3x256) ![2, 0] S1x256.size v₂)) b)
      (rows H W cw b y) := by
  intro x hx
  have h0 : (y 0 : ℕ) = 0 + (x 0 : ℕ) := hx 0
  have h1 : (y 1 : ℕ) = 0 + (x 1 : ℕ) := hx 1
  have hy : y = ix2 (y 0) (x 1 : Fin 256) := funext fun i => by
    fin_cases i
    · rfl
    · exact Fin.ext (h1.trans (Nat.zero_add _))
  have hxx : x = ix2 (x 0 : Fin 256) (x 1 : Fin 256) := funext fun i => by fin_cases i <;> rfl
  rw [hxx, hy]
  refine chunk_at H W 0 ho w₀ w₁ w₂ w₃ cw b k0_pay10 k0_pay11 v₀ v₁ v₂ (x 0) (x 1) (y 0) h0 (.inl rfl) ?_ ?_
  · rw [if_pos rfl]; pointwise [k0_pay10, k0_pay6]
  · rw [if_pos rfl]; pointwise [k0_pay11, k0_pay6]

/-- A later chunk's store. -/
theorem tile_next (o' : ℕ) (hoo : o = o' + 256) (hlt : o < 2048) (ho' : ∀ i, (![o', 0] : Fin 2 → Nat) i + S256x2048.size i ≤ S2048x2048.size i)
    (cw : Vec Ideal S3x256 .f32) (b : Vec Ideal S1x256 .f32) (y : S2048x256.Idx)
    (v₀ : ∀ i, (![0, 0] : Fin 2 → Nat) i + S1x256.size i ≤ S3x256.size i) (v₁ : ∀ i, (![1, 0] : Fin 2 → Nat) i + S1x256.size i ≤ S3x256.size i)
    (v₂ : ∀ i, (![2, 0] : Fin 2 → Nat) i + S1x256.size i ≤ S3x256.size i) :
    View.TileAt (Val := Elt Ideal) (e := .bf16) y ![o, 0] S256x256.size
      (mixed (gate₀ H W o ho w₀) (gate₃ H W o ho w₃) (chunk H W o ho w₁ w₂) (k0_pay27 (chunk H W o' ho' w₁ w₂)) (k0_pay28 (chunk H W o' ho' w₁ w₂))
        (View.ld cw (Rect.unit (s := S3x256) ![0, 0] S1x256.size v₀))
        (View.ld cw (Rect.unit (s := S3x256) ![1, 0] S1x256.size v₁)) (View.ld cw (Rect.unit (s := S3x256) ![2, 0] S1x256.size v₂)) b)
      (rows H W cw b y) := by
  intro x hx
  have h0 : (y 0 : ℕ) = o + (x 0 : ℕ) := hx 0
  have h1 : (y 1 : ℕ) = 0 + (x 1 : ℕ) := hx 1
  have hy : y = ix2 (y 0) (x 1 : Fin 256) := funext fun i => by
    fin_cases i
    · rfl
    · exact Fin.ext (h1.trans (Nat.zero_add _))
  have hxx : x = ix2 (x 0 : Fin 256) (x 1 : Fin 256) := funext fun i => by fin_cases i <;> rfl
  rw [hxx, hy]
  refine chunk_at H W o ho w₀ w₁ w₂ w₃ cw b _ _ v₀ v₁ v₂ (x 0) (x 1) (y 0) h0 (.inr (by omega)) ?_ ?_
  · rw [if_neg (show ¬o = 0 by omega)]
    exact (tail_at _ _).1.trans (taps_at H W o' ho' w₁ w₂ 255 (x 1) _ (by show o - 1 = o' + 255; omega))
  · rw [if_neg (show ¬o = 0 by omega)]
    exact (tail_at _ _).2.trans (taps_at H W o' ho' w₁ w₂ 254 (x 1) _ (by show o - 2 = o' + 254; omega))

end Chunk

/-- The four blocks of weights in the scratch buffer. -/
def stack (a b d e : Vec Ideal S1x2048x256 .f32) : Vec Ideal S4x2048x256 .bf16 :=
  fun y => (![a, b, d, e] (y 0) : Vec Ideal S1x2048x256 .f32) (ix3 0 (y 1) (y 2))

/-- What a load of one block of the scratch buffer reads. -/
theorem loaded (v : View sig .tc .vmem S4x2048x256 .bf16) (W : Vec Ideal S4x2048x256 .bf16)
    (L : List (View.Piece (Elt Ideal) S4x2048x256 .bf16)) (hL : ∀ y, View.canon L y = W y) (n : ℕ)
    (inb : ∀ i, (![n, 0, 0] : Fin 3 → Nat) i + S1x2048x256.size i ≤ S4x2048x256.size i) :
    v.readCov L (Rect.unit (s := S4x2048x256) ![n, 0, 0] S1x2048x256.size inb).toLoadRect
      = View.ld W (Rect.unit (s := S4x2048x256) ![n, 0, 0] S1x2048x256.size inb) := by
  rw [View.readCov_eq_canon']
  funext j
  exact hL _

section Run

variable (m : (ℓ : Loc nD τ sig) → Buf (Elt Ideal) ℓ) (c : Dev nD)

theorem ix3_ext {n₀ n₁ n₂ : ℕ} {y : (⟨3, ![n₀, n₁, n₂]⟩ : Shape).Idx} {i : Fin n₀} {j : Fin n₁} {k : Fin n₂}
    (h0 : (y 0 : ℕ) = i) (h1 : (y 1 : ℕ) = j) (h2 : (y 2 : ℕ) = k) : y = ix3 i j k := funext fun a => by
  fin_cases a
  · exact Fin.ext h0
  · exact Fin.ext h1
  · exact Fin.ext h2

/-- The four stores of the weights fill the scratch buffer. -/
theorem stacked (a b d e : Vec Ideal S1x2048x256 .f32) (y : S4x2048x256.Idx) :
    View.canon (Val := Elt Ideal) (e := .bf16) [⟨Rect.unit (s := S4x2048x256) ![3, 0, 0] S1x2048x256.size inb_S4x2048x256_S1x2048x256_3_0_0, k0_pay5 e⟩,
        ⟨Rect.unit (s := S4x2048x256) ![2, 0, 0] S1x2048x256.size inb_S4x2048x256_S1x2048x256_2_0_0, k0_pay4 d⟩,
        ⟨Rect.unit (s := S4x2048x256) ![1, 0, 0] S1x2048x256.size inb_S4x2048x256_S1x2048x256_1_0_0, k0_pay3 b⟩,
        ⟨Rect.unit (s := S4x2048x256) ![0, 0, 0] S1x2048x256.size inb_S4x2048x256_S1x2048x256_0_0_0, k0_pay2 a⟩] y
      = stack a b d e y := by
  canon_tiles x h
  · rw [show y = ix3 (3 : Fin 4) (x 1 : Fin 2048) (x 2 : Fin 256) from ix3_ext (by show (y 0 : ℕ) = 3; omega) h1 h2]
    show _ = e (ix3 0 (x 1) (x 2))
    pointwise [k0_pay5]
    exact congrArg e (ix3_ext (by show (x 0 : ℕ) = 0; omega) rfl rfl)
  · rw [show y = ix3 (2 : Fin 4) (x 1 : Fin 2048) (x 2 : Fin 256) from ix3_ext (by show (y 0 : ℕ) = 2; omega) h1 h2]
    show _ = d (ix3 0 (x 1) (x 2))
    pointwise [k0_pay4]
    exact congrArg d (ix3_ext (by show (x 0 : ℕ) = 0; omega) rfl rfl)
  · rw [show y = ix3 (1 : Fin 4) (x 1 : Fin 2048) (x 2 : Fin 256) from ix3_ext (by show (y 0 : ℕ) = 1; omega) h1 h2]
    show _ = b (ix3 0 (x 1) (x 2))
    pointwise [k0_pay3]
    exact congrArg b (ix3_ext (by show (x 0 : ℕ) = 0; omega) rfl rfl)
  · rw [show y = ix3 (0 : Fin 4) (x 1 : Fin 2048) (x 2 : Fin 256) from ix3_ext (by show (y 0 : ℕ) = 0; omega) h1 h2]
    show _ = a (ix3 0 (x 1) (x 2))
    pointwise [k0_pay2]
    exact congrArg a (ix3_ext (by show (x 0 : ℕ) = 0; omega) rfl rfl)

/-- The first grid point of a column block fills the scratch buffer. -/
theorem scratch_first (t : Fin cfg0.N) (h0 : t.val % 8 = 0) : (outsAt0 m c t.val t.isLt).2
    = stack (iblk m c 1 t) (iblk m c 2 t) (iblk m c 3 t) (iblk m c 4 t) := by
  rw [outsAt0_A m c t h0]
  funext y
  frame_out
  exact stacked _ _ _ _ y

/-- The later ones leave it. -/
theorem scratch_later (t : Fin cfg0.N) (h0 : ¬t.val % 8 = 0) (hp : t.val - 1 < cfg0.N) : (outsAt0 m c t.val t.isLt).2
    = (outsAt0 m c (t.val - 1) hp).2 := by
  rw [outsAt0_B m c t h0]
  rfl

set_option maxHeartbeats 4000000 in
theorem block_later (t : Fin cfg0.N) (h0 : ¬t.val % 8 = 0) (hp : t.val - 1 < cfg0.N) (y : S2048x256.Idx) : ((outsAt0 m c t.val t.isLt).1 y : EReal)
    = rows (iblk m c 0 t) (outsAt0 m c (t.val - 1) hp).2 (iblk m c 6 t) (iblk m c 5 t) y := by
  rw [outsAt0_B m c t h0]
  frame_out
  simp only [read_unread_whole]
  generalize (outsAt0 m c (t.val - 1) hp).2 = W
  generalize iblk m c 0 t = H
  generalize iblk m c 6 t = cw
  generalize iblk m c 5 t = b
  refine View.canon_eq_of_allAt _ _ _ (View.cover_of_tiled_head _ _ _ (by sl_kernel_rfl) y) ?_
  refine View.allAt_cons_unit _ _ _ _ _ (tile_next H W 1792 _ _ _ _ _ 1536 rfl (by decide) inb_S2048x2048_S256x2048_1536_0 cw b y _ _ _) ?_
  refine View.allAt_cons_unit _ _ _ _ _ (tile_next H W 1536 _ _ _ _ _ 1280 rfl (by decide) inb_S2048x2048_S256x2048_1280_0 cw b y _ _ _) ?_
  refine View.allAt_cons_unit _ _ _ _ _ (tile_next H W 1280 _ _ _ _ _ 1024 rfl (by decide) inb_S2048x2048_S256x2048_1024_0 cw b y _ _ _) ?_
  refine View.allAt_cons_unit _ _ _ _ _ (tile_next H W 1024 _ _ _ _ _ 768 rfl (by decide) inb_S2048x2048_S256x2048_768_0 cw b y _ _ _) ?_
  refine View.allAt_cons_unit _ _ _ _ _ (tile_next H W 768 _ _ _ _ _ 512 rfl (by decide) inb_S2048x2048_S256x2048_512_0 cw b y _ _ _) ?_
  refine View.allAt_cons_unit _ _ _ _ _ (tile_next H W 512 _ _ _ _ _ 256 rfl (by decide) inb_S2048x2048_S256x2048_256_0 cw b y _ _ _) ?_
  refine View.allAt_cons_unit _ _ _ _ _ (tile_next H W 256 _ _ _ _ _ 0 rfl (by decide) inb_S2048x2048_S256x2048_0_0 cw b y _ _ _) ?_
  refine View.allAt_cons_unit _ _ _ _ _ (tile_first H W _ _ _ _ cw b y _ _ _ _) ?_
  exact View.allAt_nil _ _

set_option maxHeartbeats 4000000 in
theorem block_first (t : Fin cfg0.N) (h0 : t.val % 8 = 0) (y : S2048x256.Idx) : ((outsAt0 m c t.val t.isLt).1 y : EReal)
    = rows (iblk m c 0 t) (stack (iblk m c 1 t) (iblk m c 2 t) (iblk m c 3 t) (iblk m c 4 t)) (iblk m c 6 t) (iblk m c 5 t) y := by
  rw [outsAt0_A m c t h0]
  frame_out
  simp only [loaded _ (stack (iblk m c 1 t) (iblk m c 2 t) (iblk m c 3 t) (iblk m c 4 t)) _ (stacked _ _ _ _)]
  generalize stack (iblk m c 1 t) (iblk m c 2 t) (iblk m c 3 t) (iblk m c 4 t) = W
  generalize iblk m c 0 t = H
  generalize iblk m c 6 t = cw
  generalize iblk m c 5 t = b
  refine View.canon_eq_of_allAt _ _ _ (View.cover_of_tiled_head _ _ _ (by sl_kernel_rfl) y) ?_
  refine View.allAt_cons_unit _ _ _ _ _ (tile_next H W 1792 _ _ _ _ _ 1536 rfl (by decide) inb_S2048x2048_S256x2048_1536_0 cw b y _ _ _) ?_
  refine View.allAt_cons_unit _ _ _ _ _ (tile_next H W 1536 _ _ _ _ _ 1280 rfl (by decide) inb_S2048x2048_S256x2048_1280_0 cw b y _ _ _) ?_
  refine View.allAt_cons_unit _ _ _ _ _ (tile_next H W 1280 _ _ _ _ _ 1024 rfl (by decide) inb_S2048x2048_S256x2048_1024_0 cw b y _ _ _) ?_
  refine View.allAt_cons_unit _ _ _ _ _ (tile_next H W 1024 _ _ _ _ _ 768 rfl (by decide) inb_S2048x2048_S256x2048_768_0 cw b y _ _ _) ?_
  refine View.allAt_cons_unit _ _ _ _ _ (tile_next H W 768 _ _ _ _ _ 512 rfl (by decide) inb_S2048x2048_S256x2048_512_0 cw b y _ _ _) ?_
  refine View.allAt_cons_unit _ _ _ _ _ (tile_next H W 512 _ _ _ _ _ 256 rfl (by decide) inb_S2048x2048_S256x2048_256_0 cw b y _ _ _) ?_
  refine View.allAt_cons_unit _ _ _ _ _ (tile_next H W 256 _ _ _ _ _ 0 rfl (by decide) inb_S2048x2048_S256x2048_0_0 cw b y _ _ _) ?_
  refine View.allAt_cons_unit _ _ _ _ _ (tile_first H W _ _ _ _ cw b y _ _ _ _) ?_
  exact View.allAt_nil _ _

/-- Grid point `t` is sequence `t % 8` and the columns' block `t / 8`. -/
theorem idx : ∀ t : Fin cfg0.N, t.val < 64 ∧ win0_0.index t = ![t.val % 8, 0] ∧ win0_1.index t = ![0, 0, 48 + t.val / 8] ∧ win0_2.index t = ![0, 0, 56 + t.val / 8]
    ∧ win0_3.index t = ![0, 0, 64 + t.val / 8] ∧ win0_4.index t = ![0, 0, 16 + t.val / 8] ∧ win0_5.index t = ![0, 16 + t.val / 8]
    ∧ win0_6.index t = ![0, t.val / 8] ∧ win0_7.index t = ![t.val % 8, t.val / 8] :=
  (by decide +kernel : ∀ t : Fin grid0.N, _)

/-- Block `q` of 256 columns of the first layer, counted from column `o`. -/
def slab {n : ℕ} (w : Vec Ideal ⟨3, ![2, 2048, n]⟩ .f32) (o : ℕ) (ho : o + 2048 ≤ n) (q : Fin 8) : Vec Ideal S1x2048x256 .f32 :=
  fun y => w (ix3 0 (y 1) ⟨o + 256 * q.val + (y 2).val, by have h : (y 2).val < 256 := (y 2).isLt; omega⟩)

/-- The four blocks of weights for column block `q`. -/
def weights (w : Vec Ideal S2x2048x18432 .f32) (g : Vec Ideal S2x2048x6144 .f32) (q : Fin 8) : Vec Ideal S4x2048x256 .bf16 :=
  stack (slab w 12288 (by decide) q) (slab w 14336 (by decide) q) (slab w 16384 (by decide) q) (slab g 4096 (by decide) q)

theorem stack_eq (t : Fin cfg0.N) (q : Fin 8) (hq : q.val = t.val / 8) : stack (iblk m c 1 t) (iblk m c 2 t) (iblk m c 3 t) (iblk m c 4 t)
    = weights (m ((c.tc : Thread nD τ).loc main_arg1)) (m ((c.tc : Thread nD τ).loc main_arg2)) q := by
  obtain ⟨q, hlt⟩ := q
  obtain rfl : q = t.val / 8 := hq
  have e1 : iblk m c 1 t = slab (m ((c.tc : Thread nD τ).loc main_arg1)) 12288 (by decide) ⟨t.val / 8, hlt⟩ := by
    funext y
    unfold slab
    blk_ext [iblk, V, idx t]
  have e2 : iblk m c 2 t = slab (m ((c.tc : Thread nD τ).loc main_arg1)) 14336 (by decide) ⟨t.val / 8, hlt⟩ := by
    funext y
    unfold slab
    blk_ext [iblk, V, idx t]
  have e3 : iblk m c 3 t = slab (m ((c.tc : Thread nD τ).loc main_arg1)) 16384 (by decide) ⟨t.val / 8, hlt⟩ := by
    funext y
    unfold slab
    blk_ext [iblk, V, idx t]
  have e4 : iblk m c 4 t = slab (m ((c.tc : Thread nD τ).loc main_arg2)) 4096 (by decide) ⟨t.val / 8, hlt⟩ := by
    funext y
    unfold slab
    blk_ext [iblk, V, idx t]
  rw [e1, e2, e3, e4]
  rfl

/-- The scratch buffer holds its column block's weights after every grid point. -/
theorem kept : ∀ (n : ℕ) (hn : n < cfg0.N) (q : Fin 8), q.val = n / 8 → (outsAt0 m c n hn).2
    = weights (m ((c.tc : Thread nD τ).loc main_arg1)) (m ((c.tc : Thread nD τ).loc main_arg2)) q
  | 0, hn, q, hq => (scratch_first m c ⟨0, hn⟩ rfl).trans (stack_eq m c ⟨0, hn⟩ q hq)
  | n + 1, hn, q, hq => by
    rcases Nat.eq_zero_or_pos ((n + 1) % 8) with h0 | h0
    · exact (scratch_first m c ⟨n + 1, hn⟩ h0).trans (stack_eq m c ⟨n + 1, hn⟩ q hq)
    · exact (scratch_later m c ⟨n + 1, hn⟩ (by show ¬(n + 1) % 8 = 0; omega) (Nat.lt_of_succ_lt hn)).trans (kept n (Nat.lt_of_succ_lt hn) q (by omega))

/-- What every grid point writes. -/
theorem block (t : Fin cfg0.N) (q : Fin 8) (hq : q.val = t.val / 8) (y : S2048x256.Idx) : ((outsAt0 m c t.val t.isLt).1 y : EReal)
    = rows (iblk m c 0 t) (weights (m ((c.tc : Thread nD τ).loc main_arg1)) (m ((c.tc : Thread nD τ).loc main_arg2)) q) (iblk m c 6 t) (iblk m c 5 t) y := by
  rcases Nat.eq_zero_or_pos (t.val % 8) with h0 | h0
  · rw [block_first m c t h0 y, stack_eq m c t q hq]
  · have hp : t.val - 1 < cfg0.N := Nat.lt_of_le_of_lt (Nat.sub_le _ _) t.isLt
    rw [block_later m c t (by omega) hp y, kept m c (t.val - 1) hp q (by omega)]

/-- A row of `h` times a column of the first layer's weights. -/
def dotted {n : ℕ} (h : Vec Ideal S16384x2048 .bf16) (w : Vec Ideal ⟨3, ![2, 2048, n]⟩ .f32) (R : Fin 16384) (C : Fin n) : EReal :=
  ∑ k : Fin 2048, h (ix2 R k) * w (ix3 0 k C)

/-- Row `r` of the sequence that row `R` is of. -/
def mate (R : Fin 16384) (r : Fin 2048) : Fin 16384 := ⟨R.val / 2048 * 2048 + r.val, by have := R.isLt; have := r.isLt; omega⟩

/-- The call's result at a row and a column. -/
def conv (h : Vec Ideal S16384x2048 .bf16) (w : Vec Ideal S2x2048x18432 .f32) (g : Vec Ideal S2x2048x6144 .f32) (bias : Vec Ideal S6144 .f32)
    (cw : Vec Ideal S3x2048 .f32) (R : Fin 16384) (C : Fin 2048) : EReal :=
  gated (fun r => dotted h w (mate R r) ⟨12288 + C.val, by have := C.isLt; omega⟩) (fun r => dotted h g (mate R r) ⟨4096 + C.val, by have := C.isLt; omega⟩)
    (fun r => dotted h w (mate R r) ⟨14336 + C.val, by have := C.isLt; omega⟩ * dotted h w (mate R r) ⟨16384 + C.val, by have := C.isLt; omega⟩)
    (bias (ix1 ⟨4096 + C.val, by have := C.isLt; omega⟩)) (cw (ix2 0 C)) (cw (ix2 1 C)) (cw (ix2 2 C)) ⟨R.val % 2048, Nat.mod_lt _ (by decide)⟩

theorem gated_congr {p p' q q' u u' : Fin 2048 → EReal} {b b' c₀ c₀' c₁ c₁' c₂ c₂' : EReal} {r r' : Fin 2048} (hp : ∀ k, p k = p' k) (hq : ∀ k, q k = q' k)
    (hu : ∀ k, u k = u' k) (hb : b = b') (h0 : c₀ = c₀') (h1 : c₁ = c₁') (h2 : c₂ = c₂') (hr : r = r') : gated p q u b c₀ c₁ c₂ r = gated p' q' u' b' c₀' c₁' c₂' r' := by
  rw [funext hp, funext hq, funext hu, hb, h0, h1, h2, hr]

/-- The gate's bias as the call finds it: one row. -/
theorem bias_row (i : S1x6144.Idx) : V m c main_v0 i = m ((c.tc : Thread nD τ).loc main_arg3) (ix1 (i 1)) := by
  entry_read
  pointwise

/-- A product of the block is a product of the arrays. -/
theorem proj_eq {n : ℕ} (t : Fin cfg0.N) (q : Fin 8) (w : Vec Ideal ⟨3, ![2, 2048, n]⟩ .f32) (o : ℕ) (ho : o + 2048 ≤ n) (i : Fin 4) (W : Vec Ideal S4x2048x256 .bf16)
    (hW : ∀ (k : Fin 2048) (j : Fin 256), W (ix3 i k j) = slab w o ho q (ix3 0 k j)) (j : Fin 256) (R : Fin 16384) (hR : R.val / 2048 = t.val % 8)
    (C : Fin n) (hC : C.val = o + 256 * q.val + j.val) (r : Fin 2048) :
    proj (iblk m c 0 t) W i j r = dotted (m ((c.tc : Thread nD τ).loc main_arg0)) w (mate R r) C := by
  unfold proj dotted
  refine Finset.sum_congr rfl fun k _ => congrArg₂ (· * ·) ?_ ((hW k j).trans ?_)
  · unfold mate
    blk_ext [iblk, V, idx t]
  · exact congrArg w (congrArg (ix3 0 k) (Fin.ext hC.symm))

/-- The call's result array. -/
theorem final : (dats m 0 c).arrAt 7 cfg0.N = fun y : S16384x2048.Idx => conv (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (y 0) (y 1) := by
  refine (dats m 0 c).arrAt_eq_of_covers 7 _ (by decide +kernel) fun t hf y => ?_
  blk_simp
  rw [after0_7]
  have ht := (idx t).1
  have hy0 : (y 0 : ℕ) < 2048 := (y 0).isLt
  have hy1 : (y 1 : ℕ) < 256 := (y 1).isLt
  refine (block m c t ⟨t.val / 8, by omega⟩ rfl y).trans ?_
  have hR : ((win0_7.blk t).view.emb y 0 : ℕ) = 2048 * (t.val % 8) + (y 0 : ℕ) := by blk_simp [idx t]; try omega
  have hC : ((win0_7.blk t).view.emb y 1 : ℕ) = 256 * (t.val / 8) + (y 1 : ℕ) := by blk_simp [idx t]; try omega
  have hd : ((win0_7.blk t).view.emb y 0 : ℕ) / 2048 = t.val % 8 := by omega
  have hm : (y 0 : ℕ) = ((win0_7.blk t).view.emb y 0 : ℕ) % 2048 := by omega
  refine gated_congr (fun r => ?_) (fun r => ?_) (fun r => congrArg₂ (· * ·) ?_ ?_) ?_ ?_ ?_ ?_ (Fin.ext hm)
  · exact proj_eq m c t ⟨t.val / 8, by omega⟩ _ 12288 (by decide) 0 _ (fun k j => rfl) (y 1) _ hd _ (by show 12288 + _ = _; rw [hC]; exact (Nat.add_assoc _ _ _).symm) r
  · exact proj_eq m c t ⟨t.val / 8, by omega⟩ _ 4096 (by decide) 3 _ (fun k j => rfl) (y 1) _ hd _ (by show 4096 + _ = _; rw [hC]; exact (Nat.add_assoc _ _ _).symm) r
  · exact proj_eq m c t ⟨t.val / 8, by omega⟩ _ 14336 (by decide) 1 _ (fun k j => rfl) (y 1) _ hd _ (by show 14336 + _ = _; rw [hC]; exact (Nat.add_assoc _ _ _).symm) r
  · exact proj_eq m c t ⟨t.val / 8, by omega⟩ _ 16384 (by decide) 2 _ (fun k j => rfl) (y 1) _ hd _ (by show 16384 + _ = _; rw [hC]; exact (Nat.add_assoc _ _ _).symm) r
  · blk_simp [iblk]
    refine (bias_row m c _).trans ?_
    blk_ext [idx t]
  · blk_ext [iblk, V, idx t]
  · blk_ext [iblk, V, idx t]
  · blk_ext [iblk, V, idx t]

end Run

end Cert.Kernel6Ideal.Value
-- ==== Proof.ConvClaims.lean ====
/- The claims of the gated convolution: the frames, the ideal program, and the equality of the kernel's result with its reference's
   over the extended reals. -/
module

public import proofs.«01_k».proof.Defs
public import proofs.«01_k».proof.Proof.Conv
public import proofs.«01_k».proof.Proof.Gen.Kernel6.Frame
public import proofs.«01_k».proof.Proof.Gen.Reference6Ideal.Run
public import Idealize.ShloMosaic.Lib.Quiescent

@[expose] public section

set_option maxRecDepth 16384

noncomputable section

open Idealize Idealize.ShloMosaic Idealize.ShloMosaic.Tactic Idealize.ShloMosaic.TcCoe Idealize.SL.Sem

namespace Cert.Conv

theorem frame_kernel : Cert.quiescent_Kernel6 := fun m ρ _ => Cert.Kernel6.Gen.frame m ρ

theorem frame_ideal : Cert.quiescent_Kernel6Ideal := fun m ρ _ => Cert.Kernel6Ideal.Gen.frame m ρ

/-- The reference runs and leaves its arguments as they were; it has no semaphore. -/
theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- Nothing is rewritten in the ideal program. -/
theorem preserves : Cert.preserves_Kernel6_Kernel6Ideal := by trivial

section Reference

open Cert.Reference6Ideal Cert.Reference6Ideal.Gen

/-- The products that the reference convolves. -/
def products (h : FVec Ideal S16384x2048 .bf16) (w : FVec Ideal S2x2048x18432 .f32) : FVec Ideal S16384x2048 .f32 :=
  mulf (Host.dotGeneral dot_S16384x2048_S2048x2048_S16384x2048_1_0_0_1_n_n none (extf .f32 h bitsLt_bf16_f32) (extractStridedSlice S2048x2048 ![0, 2048] (shapeCast _ (extractStridedSlice S1x2048x6144 ![0, 0, 12288] w slices_S2x2048x18432_S1x2048x6144_0_0_12288) shapeCasts_S1x2048x6144_S2048x6144) slices_S2048x6144_S2048x2048_0_2048)) (Host.dotGeneral dot_S16384x2048_S2048x2048_S16384x2048_1_0_0_1_n_n none (extf .f32 h bitsLt_bf16_f32) (extractStridedSlice S2048x2048 ![0, 4096] (shapeCast _ (extractStridedSlice S1x2048x6144 ![0, 0, 12288] w slices_S2x2048x18432_S1x2048x6144_0_0_12288) shapeCasts_S1x2048x6144_S2048x6144) slices_S2048x6144_S2048x2048_0_4096))

/-- The products of every sequence after two rows of zeros. -/
def padded (h : FVec Ideal S16384x2048 .bf16) (w : FVec Ideal S2x2048x18432 .f32) : FVec Ideal S8x2050x2048 .f32 :=
  concatenate S8x2050x2048 1 [⟨S8x2x2048, (broadcastInDim S8x2x2048 ![] bcast_S_S8x2x2048 (constant (F := Ideal) S_ .f32 0x00000000#32))⟩, ⟨S8x2048x2048, (shapeCast _ (products h w) shapeCasts_S16384x2048_S8x2048x2048)⟩] concatenates_S8x2x2048_S8x2048x2048_S8x2050x2048_d1

/-- The three shifted copies, weighted and added. -/
def combined (h : FVec Ideal S16384x2048 .bf16) (w : FVec Ideal S2x2048x18432 .f32) (cw : FVec Ideal S3x2048 .f32) : FVec Ideal S8x2048x2048 .f32 :=
  addf (addf (mulf (broadcastInDim S8x2048x2048 ![0, 1, 2] bcast_S1x1x2048_S8x2048x2048_0_1_2 (broadcastInDim S1x1x2048 ![2] bcast_S2048_S1x1x2048_2 (shapeCast _ (extractStridedSlice S1x2048 ![0, 0] cw slices_S3x2048_S1x2048_0_0) shapeCasts_S1x2048_S2048))) (extractStridedSlice S8x2048x2048 ![0, 0, 0] (padded h w) slices_S8x2050x2048_S8x2048x2048_0_0_0)) (mulf (broadcastInDim S8x2048x2048 ![0, 1, 2] bcast_S1x1x2048_S8x2048x2048_0_1_2 (broadcastInDim S1x1x2048 ![2] bcast_S2048_S1x1x2048_2 (shapeCast _ (extractStridedSlice S1x2048 ![1, 0] cw slices_S3x2048_S1x2048_1_0) shapeCasts_S1x2048_S2048))) (extractStridedSlice S8x2048x2048 ![0, 1, 0] (padded h w) slices_S8x2050x2048_S8x2048x2048_0_1_0))) (mulf (broadcastInDim S8x2048x2048 ![0, 1, 2] bcast_S1x1x2048_S8x2048x2048_0_1_2 (broadcastInDim S1x1x2048 ![2] bcast_S2048_S1x1x2048_2 (shapeCast _ (extractStridedSlice S1x2048 ![2, 0] cw slices_S3x2048_S1x2048_2_0) shapeCasts_S1x2048_S2048))) (extractStridedSlice S8x2048x2048 ![0, 2, 0] (padded h w) slices_S8x2050x2048_S8x2048x2048_0_2_0))

/-- The reference's result. -/
def result (h : FVec Ideal S16384x2048 .bf16) (w : FVec Ideal S2x2048x18432 .f32) (g : FVec Ideal S2x2048x6144 .f32) (bias : FVec Ideal S6144 .f32)
    (cw : FVec Ideal S3x2048 .f32) : FVec Ideal S16384x2048 .bf16 :=
  truncf .bf16 (mulf (Host.divf (broadcastInDim S16384x2048 ![] bcast_S_S16384x2048 (constant (F := Ideal) S_ .f32 0x3F800000#32)) (addf (broadcastInDim S16384x2048 ![] bcast_S_S16384x2048 (constant (F := Ideal) S_ .f32 0x3F800000#32)) (Host.exp (Host.negf (addf (Host.dotGeneral dot_S16384x2048_S2048x2048_S16384x2048_1_0_0_1_n_n none (extf .f32 h bitsLt_bf16_f32) (shapeCast _ (extractStridedSlice S1x2048x2048 ![0, 0, 4096] g slices_S2x2048x6144_S1x2048x2048_0_0_4096) shapeCasts_S1x2048x2048_S2048x2048)) (broadcastInDim S16384x2048 ![0, 1] bcast_S1x2048_S16384x2048_0_1 (broadcastInDim S1x2048 ![1] bcast_S2048_S1x2048_1 (extractStridedSlice S2048 ![4096] bias slices_S6144_S2048_4096)))))))) (mulf (Host.dotGeneral dot_S16384x2048_S2048x2048_S16384x2048_1_0_0_1_n_n none (extf .f32 h bitsLt_bf16_f32) (extractStridedSlice S2048x2048 ![0, 0] (shapeCast _ (extractStridedSlice S1x2048x6144 ![0, 0, 12288] w slices_S2x2048x18432_S1x2048x6144_0_0_12288) shapeCasts_S1x2048x6144_S2048x6144) slices_S2048x6144_S2048x2048_0_0)) (shapeCast _ (combined h w cw) shapeCasts_S8x2048x2048_S16384x2048))) bitsLt_bf16_f32

theorem products_at (h : FVec Ideal S16384x2048 .bf16) (w : FVec Ideal S2x2048x18432 .f32) (R : Fin 16384) (C : Fin 2048) :
    products h w (ix2 R C) = Cert.Kernel6Ideal.Value.dotted h w R ⟨14336 + C.val, by have := C.isLt; omega⟩
      * Cert.Kernel6Ideal.Value.dotted h w R ⟨16384 + C.val, by have := C.isLt; omega⟩ := by
  unfold Cert.Kernel6Ideal.Value.dotted
  pointwise [products, dot_S16384x2048_S2048x2048_S16384x2048_1_0_0_1_n_n]
  refine congrArg₂ (· * ·) (Finset.sum_congr rfl fun k _ => congrArg (fun j : Fin 18432 => h (ix2 R k) * w (ix3 0 k j)) (Fin.ext ?_))
    (Finset.sum_congr rfl fun k _ => congrArg (fun j : Fin 18432 => h (ix2 R k) * w (ix3 0 k j)) (Fin.ext ?_))
  · show 12288 + (2048 + C.val) = 14336 + C.val
    omega
  · show 12288 + (4096 + C.val) = 16384 + C.val
    omega

theorem padded_at (h : FVec Ideal S16384x2048 .bf16) (w : FVec Ideal S2x2048x18432 .f32) (q : Fin 8) (s : Fin 2050) (C : Fin 2048) :
    padded h w (ix3 q s C) = if hs : s.val < 2 then 0 else products h w (ix2 ⟨q.val * 2048 + (s.val - 2), by have := q.isLt; have := s.isLt; omega⟩ C) := by
  pointwise [padded]

theorem combined_at (h : FVec Ideal S16384x2048 .bf16) (w : FVec Ideal S2x2048x18432 .f32) (cw : FVec Ideal S3x2048 .f32) (q : Fin 8) (s C : Fin 2048) :
    combined h w cw (ix3 q s C) = cw (ix2 0 C) * padded h w (ix3 q ⟨s.val, by omega⟩ C) + cw (ix2 1 C) * padded h w (ix3 q ⟨1 + s.val, by omega⟩ C)
      + cw (ix2 2 C) * padded h w (ix3 q ⟨2 + s.val, by omega⟩ C) := by
  pointwise [combined]

theorem result_at (h : FVec Ideal S16384x2048 .bf16) (w : FVec Ideal S2x2048x18432 .f32) (g : FVec Ideal S2x2048x6144 .f32) (bias : FVec Ideal S6144 .f32)
    (cw : FVec Ideal S3x2048 .f32) (R : Fin 16384) (C : Fin 2048) :
    result h w g bias cw (ix2 R C) = Ideal.logistic (Cert.Kernel6Ideal.Value.dotted h g R ⟨4096 + C.val, by omega⟩ + bias (ix1 ⟨4096 + C.val, by omega⟩))
      * (Cert.Kernel6Ideal.Value.dotted h w R ⟨12288 + C.val, by omega⟩
        * combined h w cw (ix3 ⟨R.val / 2048, by omega⟩ ⟨R.val % 2048, Nat.mod_lt _ (by decide)⟩ C)) := by
  unfold Cert.Kernel6Ideal.Value.dotted Ideal.logistic
  pointwise [result, dot_S16384x2048_S2048x2048_S16384x2048_1_0_0_1_n_n]

/-- The reference's result, entry by entry. -/
theorem reference_at (h : FVec Ideal S16384x2048 .bf16) (w : FVec Ideal S2x2048x18432 .f32) (g : FVec Ideal S2x2048x6144 .f32) (bias : FVec Ideal S6144 .f32)
    (cw : FVec Ideal S3x2048 .f32) (R : Fin 16384) (C : Fin 2048) :
    result h w g bias cw (ix2 R C) = Cert.Kernel6Ideal.Value.conv h w g bias cw R C := by
  have hm : Cert.Kernel6Ideal.Value.mate R ⟨R.val % 2048, Nat.mod_lt _ (by decide)⟩ = R := Fin.ext (Nat.div_add_mod' R.val 2048)
  rw [result_at, combined_at, padded_at, padded_at, padded_at]
  unfold Cert.Kernel6Ideal.Value.conv Cert.Kernel6Ideal.Value.gated
  refine congrArg₂ (· * ·) (by dsimp only; rw [hm]) (congrArg₂ (· * ·) (by dsimp only; rw [hm]) (congrArg₂ (· + ·) (congrArg₂ (· + ·) (congrArg (cw (ix2 0 C) * ·) ?_)
    (congrArg (cw (ix2 1 C) * ·) ?_)) (congrArg (cw (ix2 2 C) * ·) ?_)))
  · by_cases h2 : R.val % 2048 < 2
    · rw [dif_pos h2, dif_pos h2]
    · rw [dif_neg h2, dif_neg h2]
      exact products_at h w _ C
  · by_cases h1 : R.val % 2048 < 1
    · rw [dif_pos (show 1 + R.val % 2048 < 2 by omega), dif_pos h1]
    · rw [dif_neg (show ¬1 + R.val % 2048 < 2 by omega), dif_neg h1]
      refine (products_at h w _ C).trans (congrArg (fun r => Cert.Kernel6Ideal.Value.dotted h w r ⟨14336 + C.val, by omega⟩ * Cert.Kernel6Ideal.Value.dotted h w r ⟨16384 + C.val, by omega⟩) (Fin.ext ?_))
      show R.val / 2048 * 2048 + (1 + R.val % 2048 - 2) = R.val / 2048 * 2048 + (R.val % 2048 - 1)
      omega
  · rw [dif_neg (show ¬2 + R.val % 2048 < 2 by omega)]
    refine (products_at h w _ C).trans (congrArg (fun r => Cert.Kernel6Ideal.Value.dotted h w r ⟨14336 + C.val, by omega⟩ * Cert.Kernel6Ideal.Value.dotted h w r ⟨16384 + C.val, by omega⟩) (Fin.ext ?_))
    show R.val / 2048 * 2048 + (2 + R.val % 2048 - 2) = R.val / 2048 * 2048 + R.val % 2048
    omega

end Reference

/-- From arguments that agree the two programs end with the same result. -/
theorem algebraic : Cert.algebraic_Kernel6Ideal_Reference6Ideal := by
  intro m g m' g' _ hagree
  refine ⟨_, Cert.Kernel6Ideal.Value.run_blocks (F := Ideal) m g, ?_⟩
  refine (θ_run Cert.Reference6Ideal.defs _ _).mono (fun r h c => ⟨(h c).1.trans ?_, (h c).2⟩)
    (Cert.Reference6Ideal.Value.run (F := Ideal) m' g')
  obtain ⟨e0, e1, e2, e3, e4⟩ := hagree c
  refine Eq.trans (b := result (m' ((c.tc : Thread _ _).loc Cert.Reference6Ideal.main_arg0)) (m' ((c.tc : Thread _ _).loc Cert.Reference6Ideal.main_arg1))
    (m' ((c.tc : Thread _ _).loc Cert.Reference6Ideal.main_arg2)) (m' ((c.tc : Thread _ _).loc Cert.Reference6Ideal.main_arg3))
    (m' ((c.tc : Thread _ _).loc Cert.Reference6Ideal.main_arg4))) rfl ?_
  refine Eq.trans ?_ (Cert.Kernel6Ideal.Value.final m c).symm
  rw [e0, e1, e2, e3, e4]
  exact funext fun y => (congrArg (result _ _ _ _ _) (show y = ix2 (y 0 : Fin 16384) (y 1 : Fin 2048) from funext fun i => by fin_cases i <;> rfl)).trans
    (reference_at _ _ _ _ _ (y 0) (y 1))

end Cert.Conv

end
-- ==== Proof.Merge.lean ====
/- The merge of the mixers: each grid point adds the three mixers' gated outputs into a scratch buffer, one head's 128 columns
   after another, multiplies the buffer by the output matrix, adds the residual, and normalises the rows. -/
module

public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

namespace Cert.Kernel7Ideal.Value

open Idealize Idealize.ShloMosaic Idealize.ShloMosaic.Tactic
open Cert.Kernel7Ideal Cert.Kernel7Ideal.Gen

/-- Column `k` of a row of the mixers' sum, from the heads of the first two mixers and the row of the third. -/
def mix (a : Fin 16 → Fin 128 → EReal) (b : Fin 8 → Fin 256 → EReal) (d : Fin 2048 → EReal) (k : Fin 2048) : EReal :=
  a ⟨k.val / 128, by omega⟩ ⟨k.val % 128, by omega⟩ + b ⟨k.val / 256, by omega⟩ ⟨k.val % 256, by omega⟩ + d k

/-- A row of the new residual. -/
def through (x s : Fin 2048 → EReal) (w : Fin 2048 → Fin 2048 → EReal) (j : Fin 2048) : EReal := x j + ∑ k : Fin 2048, s k * w k j

/-- A row divided by the root of its mean square, and scaled. -/
def normed (a g : Fin 2048 → EReal) (j : Fin 2048) : EReal :=
  a j * Ideal.rsqrt (Ideal.div (∑ k : Fin 2048, a k * a k) (Ideal.ofBits .f32 0x45000000#32) + Ideal.ofBits .f32 0x358637BD#32) * g j

/-- The scratch buffer's rows after the sixteen stores. -/
def buffer (a : Vec Ideal S16x512x128 .bf16) (b : Vec Ideal S8x512x256 .bf16) (d : Vec Ideal S512x2048 .bf16) : FVec Ideal S512x2048 .bf16 :=
  fun z => mix (fun g j => a (ix3 g (z 0) j)) (fun g j => b (ix3 g (z 0) j)) (fun k => d (ix2 (z 0) k)) (z 1)

theorem at3 {n₀ n₁ n₂ : ℕ} (f : (⟨3, ![n₀, n₁, n₂]⟩ : Shape).Idx → EReal) {i i' : Fin n₀} {j j' : Fin n₁} {k k' : Fin n₂}
    (hi : (i : ℕ) = i') (hj : (j : ℕ) = j') (hk : (k : ℕ) = k') : f (ix3 i j k) = f (ix3 i' j' k') := by
  obtain rfl := Fin.ext hi
  obtain rfl := Fin.ext hj
  obtain rfl := Fin.ext hk
  rfl

/-- One store of the scratch buffer holds the sum of head `g`'s columns. -/
theorem tile (a : Vec Ideal S16x512x128 .bf16) (b : Vec Ideal S8x512x256 .bf16) (d : Vec Ideal S512x2048 .bf16) (y : S512x2048.Idx) (g p q o : ℕ)
    (hg : g < 16) (hp : p = g / 2) (hq : q = g % 2 * 128) (ho : o = 128 * g)
    (ha : ∀ i, (![g, 0, 0] : Fin 3 → Nat) i + S1x512x128.size i ≤ S16x512x128.size i)
    (hb : ∀ i, (![p, 0, q] : Fin 3 → Nat) i + S1x512x128.size i ≤ S8x512x256.size i)
    (hd : ∀ i, (![0, o] : Fin 2 → Nat) i + S512x128.size i ≤ S512x2048.size i) :
    View.TileAt (Val := Elt Ideal) (e := .bf16) y ![0, o] S512x128.size
      (k0_pay22 (View.ld a (Rect.unit (s := S16x512x128) ![g, 0, 0] S1x512x128.size ha)) (View.ld b (Rect.unit (s := S8x512x256) ![p, 0, q] S1x512x128.size hb))
        (View.ld d (Rect.unit (s := S512x2048) ![0, o] S512x128.size hd))) (buffer a b d y) := by
  intro x hx
  have h0 : (y 0 : ℕ) = 0 + (x 0 : ℕ) := hx 0
  have h1 : (y 1 : ℕ) = o + (x 1 : ℕ) := hx 1
  have hx1 : (x 1 : ℕ) < 128 := (x 1).isLt
  have hy1 : (y 1 : ℕ) < 2048 := (y 1).isLt
  unfold buffer mix
  pointwise [k0_pay22]
  refine congrArg₂ (· + ·) (congrArg₂ (· + ·) (at3 a ?_ ?_ ?_) (at3 b ?_ ?_ ?_)) (congrArg d (funext fun i => ?_))
  iterate 6 ((try dsimp only); omega)
  fin_cases i
  · exact Fin.ext (by show (x 0 : ℕ) = (y 0 : ℕ); omega)
  · exact Fin.ext (by show o + (x 1 : ℕ) = (y 1 : ℕ); omega)

/-- What the loads of the whole scratch buffer read. -/
theorem merged (v : View sig .tc .vmem S512x2048 .bf16) (a : Vec Ideal S16x512x128 .bf16) (b : Vec Ideal S8x512x256 .bf16) (d : Vec Ideal S512x2048 .bf16)
    (L : List (View.Piece (Elt Ideal) S512x2048 .bf16)) (hL : ∀ y, View.canon L y = buffer a b d y)
    (inb : ∀ i, (![0, 0] : Fin 2 → Nat) i + S512x2048.size i ≤ S512x2048.size i) :
    v.readCov L (Rect.unit (s := S512x2048) ![0, 0] S512x2048.size inb).toLoadRect = buffer a b d := by
  rw [View.readCov_eq_canon']
  funext j
  refine (hL _).trans (congrArg (buffer a b d) (funext fun i => Fin.ext ?_))
  refine (Rect.idx_unit_val _ _ inb j i).trans ?_
  fin_cases i <;> exact Nat.zero_add _

/-- The residual's payload. -/
theorem sum_at (x : Vec Ideal S512x2048 .f32) (s : FVec Ideal S512x2048 .bf16) (w : Vec Ideal S2048x2048 .bf16) (y : S512x2048.Idx) :
    k0_pay23 x s w y = through (fun k => x (ix2 (y 0) k)) (fun k => s (ix2 (y 0) k)) (fun k j => w (ix2 k j)) (y 1) := by
  unfold through
  pointwise [k0_pay23, dot_S512x2048_S2048x2048_S512x2048_1_0_0_1_n_n]

/-- The normalised rows' payload. -/
theorem norm_at (x : Vec Ideal S512x2048 .f32) (s : FVec Ideal S512x2048 .bf16) (w : Vec Ideal S2048x2048 .bf16) (g : Vec Ideal S1x2048 .f32) (y : S512x2048.Idx) :
    k0_pay1 (k0_pay23 x s w) (k0_pay24 x s w) g y
      = normed (through (fun k => x (ix2 (y 0) k)) (fun k => s (ix2 (y 0) k)) (fun k j => w (ix2 k j))) (fun k => g (ix2 0 k)) (y 1) := by
  unfold normed through
  pointwise [k0_pay1, k0_pay23, k0_pay24, dot_S512x2048_S2048x2048_S512x2048_1_0_0_1_n_n]

section Run

variable (m : (ℓ : Loc nD τ sig) → Buf (Elt Ideal) ℓ) (c : Dev nD)

set_option maxHeartbeats 1000000 in
/-- The residual's block after a grid point. -/
theorem block_sum (t : Fin cfg0.N) (y : S512x2048.Idx) : ((outsAt0 m c t).1 y : EReal)
    = k0_pay23 (iblk m c 0 t) (buffer (iblk m c 1 t) (iblk m c 2 t) (iblk m c 3 t)) (iblk m c 4 t) y := by
  unfold outsAt0
  dsimp only
  frame_out
  rw [merged _ (iblk m c 1 t) (iblk m c 2 t) (iblk m c 3 t)]
  intro z
  refine View.canon_eq_of_allAt _ _ _ (View.cover_of_tiled_head _ _ _ (by sl_kernel_rfl) z) ?_
  repeat' refine View.allAt_cons_unit _ _ _ _ _ (tile (iblk m c 1 t) (iblk m c 2 t) (iblk m c 3 t) z _ _ _ _ (by decide) (by decide) (by decide) (by decide) (by decide) (by decide) (by decide)) ?_
  exact View.allAt_nil _ _

set_option maxHeartbeats 1000000 in
/-- The normalised block after a grid point. -/
theorem block_norm (t : Fin cfg0.N) (y : S512x2048.Idx) : ((outsAt0 m c t).2 y : EReal)
    = k0_pay1 (k0_pay23 (iblk m c 0 t) (buffer (iblk m c 1 t) (iblk m c 2 t) (iblk m c 3 t)) (iblk m c 4 t))
      (k0_pay24 (iblk m c 0 t) (buffer (iblk m c 1 t) (iblk m c 2 t) (iblk m c 3 t)) (iblk m c 4 t)) (iblk m c 5 t) y := by
  unfold outsAt0
  dsimp only
  frame_out
  rw [merged _ (iblk m c 1 t) (iblk m c 2 t) (iblk m c 3 t)]
  intro z
  refine View.canon_eq_of_allAt _ _ _ (View.cover_of_tiled_head _ _ _ (by sl_kernel_rfl) z) ?_
  repeat' refine View.allAt_cons_unit _ _ _ _ _ (tile (iblk m c 1 t) (iblk m c 2 t) (iblk m c 3 t) z _ _ _ _ (by decide) (by decide) (by decide) (by decide) (by decide) (by decide) (by decide)) ?_
  exact View.allAt_nil _ _

/-- Grid point `t` is the block of rows `t`. -/
theorem idx : ∀ t : Fin cfg0.N, t.val < 32 ∧ win0_0.index t = ![t.val, 0] ∧ win0_1.index t = ![0, t.val, 0] ∧ win0_2.index t = ![0, t.val, 0]
    ∧ win0_3.index t = ![t.val, 0] ∧ win0_4.index t = ![0, 0] ∧ win0_5.index t = ![0, 0] ∧ win0_6.index t = ![t.val, 0] ∧ win0_7.index t = ![t.val, 0] :=
  (by decide +kernel : ∀ t : Fin grid0.N, _)

/-- A row of the residual that the call computes. -/
def residual (x : Vec Ideal S16384x2048 .f32) (a : Vec Ideal S16x16384x128 .bf16) (b : Vec Ideal S8x16384x256 .bf16) (d : Vec Ideal S16384x2048 .bf16)
    (w : Vec Ideal S2048x2048 .bf16) (r : Fin 16384) : Fin 2048 → EReal :=
  through (fun k => x (ix2 r k)) (mix (fun g j => a (ix3 g r j)) (fun g j => b (ix3 g r j)) (fun k => d (ix2 r k))) (fun k j => w (ix2 k j))

theorem through_congr {x x' s s' : Fin 2048 → EReal} {w w' : Fin 2048 → Fin 2048 → EReal} (hx : ∀ k, x k = x' k) (hs : ∀ k, s k = s' k)
    (hw : ∀ k j, w k j = w' k j) : through x s w = through x' s' w' := by
  rw [funext hx, funext hs, funext fun k => funext (hw k)]

theorem mix_congr {a a' : Fin 16 → Fin 128 → EReal} {b b' : Fin 8 → Fin 256 → EReal} {d d' : Fin 2048 → EReal} (ha : ∀ g j, a g j = a' g j)
    (hb : ∀ g j, b g j = b' g j) (hd : ∀ k, d k = d' k) (k : Fin 2048) : mix a b d k = mix a' b' d' k := by
  rw [funext fun g => funext (ha g), funext fun g => funext (hb g), funext hd]

/-- The residual's row in a block is the call's. -/
theorem row (t : Fin cfg0.N) (r : Fin 512) (R : Fin 16384) (hR : R.val = 512 * t.val + r.val) :
    through (fun k => iblk m c 0 t (ix2 r k)) (fun k => buffer (iblk m c 1 t) (iblk m c 2 t) (iblk m c 3 t) (ix2 r k)) (fun k j => iblk m c 4 t (ix2 k j))
      = residual (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) R := by
  unfold residual
  refine through_congr (fun k => ?_) (fun k => ?_) (fun k j => ?_)
  · blk_ext [iblk, V, idx t]
  · unfold buffer
    refine mix_congr (fun g j => ?_) (fun g j => ?_) (fun k => ?_) k
    all_goals blk_ext [iblk, V, idx t]
  · blk_ext [iblk, V, idx t]

/-- The residual that the call returns. -/
theorem final_sum : (dats m 0 c).arrAt 6 cfg0.N = fun y : S16384x2048.Idx => residual (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (y 0) (y 1) := by
  refine (dats m 0 c).arrAt_eq_of_covers 6 _ (by decide +kernel) fun t hf y => ?_
  blk_simp
  rw [after0_6]
  refine ((block_sum m c t y).trans (sum_at _ _ _ y)).trans ?_
  refine (congrFun (row m c t (y 0) ((win0_6.blk t).view.emb y 0) ?_) (y 1)).trans (congrArg _ (Fin.ext ?_))
  all_goals (blk_simp [idx t]; try omega)

theorem normed_congr {a a' g g' : Fin 2048 → EReal} {j j' : Fin 2048} (ha : ∀ k, a k = a' k) (hg : ∀ k, g k = g' k) (hj : j = j') : normed a g j = normed a' g' j' := by
  rw [funext ha, funext hg, hj]

/-- The norm's gain as the call finds it: one row. -/
theorem gain_row (i : S1x2048.Idx) : V m c main_v0 i = m ((c.tc : Thread nD τ).loc main_arg5) (ix1 (i 1)) := by
  entry_read
  pointwise

/-- The normalised rows that the call returns. -/
theorem final_norm : (dats m 0 c).arrAt 7 cfg0.N = fun y : S16384x2048.Idx => normed (residual (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (y 0))
    (fun k => m ((c.tc : Thread nD τ).loc main_arg5) (ix1 k)) (y 1) := by
  refine (dats m 0 c).arrAt_eq_of_covers 7 _ (by decide +kernel) fun t hf y => ?_
  blk_simp
  rw [after0_7]
  refine ((block_norm m c t y).trans (norm_at _ _ _ _ y)).trans ?_
  refine (normed_congr (fun k => congrFun (row m c t (y 0) ((win0_7.blk t).view.emb y 0) ?_) k) (fun k => ?_) (Fin.ext ?_))
  · blk_simp [idx t]; try omega
  · blk_simp [iblk]
    refine (gain_row m c _).trans ?_
    blk_ext [idx t]
  · blk_simp [idx t]

end Run

end Cert.Kernel7Ideal.Value
-- ==== Proof.MergeClaims.lean ====
/- The claims of the merge of the three mixers: the frames, the ideal program, and the equality of the kernel's two results
   with its reference's over the extended reals. -/
module

public import proofs.«01_k».proof.Defs
public import proofs.«01_k».proof.Proof.Merge
public import proofs.«01_k».proof.Proof.Gen.Kernel7.Frame
public import proofs.«01_k».proof.Proof.Gen.Reference7Ideal.Run
public import Idealize.ShloMosaic.Lib.Quiescent

@[expose] public section

set_option maxRecDepth 16384

noncomputable section

open Idealize Idealize.ShloMosaic Idealize.ShloMosaic.Tactic Idealize.ShloMosaic.TcCoe Idealize.SL.Sem

namespace Cert.Merge

theorem frame_kernel : Cert.quiescent_Kernel7 := fun m ρ _ => Cert.Kernel7.Gen.frame m ρ

theorem frame_ideal : Cert.quiescent_Kernel7Ideal := fun m ρ _ => Cert.Kernel7Ideal.Gen.frame m ρ

/-- The reference runs and leaves its arguments as they were; it has no semaphore. -/
theorem frame_reference : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- Nothing is rewritten in the ideal program. -/
theorem preserves : Cert.preserves_Kernel7_Kernel7Ideal := by trivial

section Reference

open Cert.Reference7Ideal Cert.Reference7Ideal.Gen

/-- The reference's new residual. -/
def result_sum (x : FVec Ideal S16384x2048 .f32) (a : FVec Ideal S16x16384x128 .bf16) (b : FVec Ideal S8x16384x256 .bf16) (d : FVec Ideal S16384x2048 .bf16)
    (w : FVec Ideal S2048x2048 .bf16) : FVec Ideal S16384x2048 .f32 :=
  addf x (Host.dotGeneral dot_S16384x2048_S2048x2048_S16384x2048_1_0_0_1_n_n none (addf (addf (shapeCast _ (transpose S16384x16x128 [1, 0, 2] (extf .f32 a bitsLt_bf16_f32) transposes_S16x16384x128_S16384x16x128_1_0_2) shapeCasts_S16384x16x128_S16384x2048) (shapeCast _ (transpose S16384x8x256 [1, 0, 2] (extf .f32 b bitsLt_bf16_f32) transposes_S8x16384x256_S16384x8x256_1_0_2) shapeCasts_S16384x8x256_S16384x2048)) (extf .f32 d bitsLt_bf16_f32)) (extf .f32 w bitsLt_bf16_f32))

/-- The reference's normalised rows, from the residual. -/
def result_norm (z : FVec Ideal S16384x2048 .f32) (gain : FVec Ideal S2048 .f32) : FVec Ideal S16384x2048 .bf16 :=
  truncf .bf16 (mulf (mulf z (broadcastInDim S16384x2048 ![0, 1] bcast_S16384x1_S16384x2048_0_1 (Host.rsqrt (addf (Host.divf (broadcastInDim S16384x1 ![0] bcast_S16384_S16384x1_0 (Host.reduceAdd (mulf z z) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 gain))) bitsLt_bf16_f32

/-- The reference's residual, entry by entry. -/
theorem sum_at (x : FVec Ideal S16384x2048 .f32) (a : FVec Ideal S16x16384x128 .bf16) (b : FVec Ideal S8x16384x256 .bf16) (d : FVec Ideal S16384x2048 .bf16)
    (w : FVec Ideal S2048x2048 .bf16) (y : S16384x2048.Idx) :
    result_sum x a b d w y = Cert.Kernel7Ideal.Value.residual x a b d w (y 0) (y 1) := by
  unfold Cert.Kernel7Ideal.Value.residual Cert.Kernel7Ideal.Value.through Cert.Kernel7Ideal.Value.mix
  pointwise [result_sum, dot_S16384x2048_S2048x2048_S16384x2048_1_0_0_1_n_n]

/-- The reference's normalised rows, entry by entry. -/
theorem norm_at (z : FVec Ideal S16384x2048 .f32) (g : FVec Ideal S2048 .f32) (y : S16384x2048.Idx) :
    result_norm z g y = Cert.Kernel7Ideal.Value.normed (fun k => z (ix2 (y 0) k)) (fun k => g (ix1 k)) (y 1) := by
  unfold Cert.Kernel7Ideal.Value.normed
  pointwise [result_norm]

end Reference

/-- From arguments that agree the two programs end with the same two results. -/
theorem algebraic : Cert.algebraic_Kernel7Ideal_Reference7Ideal := by
  intro m g m' g' _ hagree
  refine ⟨_, _, Cert.Kernel7Ideal.Value.run_blocks (F := Ideal) m g, ?_⟩
  refine (θ_run Cert.Reference7Ideal.defs _ _).mono (fun r h c => ⟨(h c).1.trans ?_, (h c).2.1.trans ?_, (h c).2.2⟩)
    (Cert.Reference7Ideal.Value.run (F := Ideal) m' g')
  · obtain ⟨e0, e1, e2, e3, e4, e5⟩ := hagree c
    refine Eq.trans ?_ (Cert.Kernel7Ideal.Value.final_sum m c).symm
    rw [e0, e1, e2, e3, e4]
    exact funext fun y => sum_at _ _ _ _ _ y
  · obtain ⟨e0, e1, e2, e3, e4, e5⟩ := hagree c
    refine Eq.trans ?_ (Cert.Kernel7Ideal.Value.final_norm m c).symm
    rw [e0, e1, e2, e3, e4, e5]
    refine funext fun y => (norm_at (result_sum _ _ _ _ _) _ y).trans ?_
    refine Cert.Kernel7Ideal.Value.normed_congr (fun k => sum_at _ _ _ _ _ _) (fun k => rfl) rfl

end Cert.Merge

end
-- ==== Proof.lean ====
/- The certificate: the attention call (its frames, its named constants, and its equality with the reference over the
   extended reals where queries, keys and bias entries are finite), proved in Proof/Attention.lean over Proof/Bridge.lean (the
   kernel's result arrays) and Proof/RefOut.lean (the reference's results); the feed-forward call, proved in
   Proof/MlpClaims.lean over Proof/Mlp.lean (the kernel's result array); the three projections into heads, proved in
   Proof/HeadsClaims.lean over Proof/QkHeads.lean, Proof/ValueHeads.lean and Proof/GateHeads.lean; the gated
   convolution, proved in Proof/ConvClaims.lean over Proof/Conv.lean; and the merge of the mixers, proved in
   Proof/MergeClaims.lean over Proof/Merge.lean. -/
module

public import proofs.«01_k».proof.Defs
public import proofs.«01_k».proof.Proof.Attention
public import proofs.«01_k».proof.Proof.MlpClaims
public import proofs.«01_k».proof.Proof.HeadsClaims
public import proofs.«01_k».proof.Proof.ConvClaims
public import proofs.«01_k».proof.Proof.MergeClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Pre_finite_scores
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_scores.Gen.facts,
    Cert.Attn.frame_kernel, Cert.Attn.frame_ideal, Cert.Attn.frame_ideal_pre, Cert.Attn.frame_reference, Cert.Attn.frame_reference_pre,
    Cert.Mlp.frame_kernel, Cert.Mlp.frame_ideal, Cert.Mlp.frame_reference,
    Cert.QkHeads.frame_kernel, Cert.QkHeads.frame_ideal, Cert.QkHeads.frame_reference,
    Cert.ValueHeads.frame_kernel, Cert.ValueHeads.frame_ideal, Cert.ValueHeads.frame_reference,
    Cert.GateHeads.frame_kernel, Cert.GateHeads.frame_ideal, Cert.GateHeads.frame_reference,
    Cert.Conv.frame_kernel, Cert.Conv.frame_ideal, Cert.Conv.frame_reference,
    Cert.Merge.frame_kernel, Cert.Merge.frame_ideal, Cert.Merge.frame_reference,
    Cert.Attn.preserves, Cert.Attn.algebraic,
    Cert.Mlp.preserves, Cert.Mlp.algebraic,
    Cert.QkHeads.preserves, Cert.QkHeads.algebraic,
    Cert.ValueHeads.preserves, Cert.ValueHeads.algebraic,
    Cert.GateHeads.preserves, Cert.GateHeads.algebraic,
    Cert.Conv.preserves, Cert.Conv.algebraic,
    Cert.Merge.preserves, Cert.Merge.algebraic⟩

end Cert.Proof

end
